-- ==== Defs.lean ====
def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16Ideal_finite [hPre_finite : Cert.Pre_finite.Facts] (m : (ℓ : Loc Cert.Dil16Ideal.nD Cert.Dil16Ideal.τ Cert.Dil16Ideal.sig) → Buf (Elt Ideal) ℓ) : Prop :=
  ∀ c : Dev Cert.Dil16Ideal.nD,
    (Cert.Pre_finite.fn (F := Ideal) (m ((c.tc : Thread Cert.Dil16Ideal.nD Cert.Dil16Ideal.τ).loc Cert.Dil16Ideal.main_arg0))) = (fun _ => 1#1)

def Pre_RefDil16Ideal (m : (ℓ : Loc Cert.RefDil16Ideal.nD Cert.RefDil16Ideal.τ Cert.RefDil16Ideal.sig) → Buf (Elt Ideal) ℓ) : Prop :=
  True

def Pre_RefDil16Ideal_finite [hPre_finite : Cert.Pre_finite.Facts] (m : (ℓ : Loc Cert.RefDil16Ideal.nD Cert.RefDil16Ideal.τ Cert.RefDil16Ideal.sig) → Buf (Elt Ideal) ℓ) : Prop :=
  ∀ c : Dev Cert.RefDil16Ideal.nD,
    (Cert.Pre_finite.fn (F := Ideal) (m ((c.tc : Thread Cert.RefDil16Ideal.nD Cert.RefDil16Ideal.τ).loc Cert.RefDil16Ideal.main_arg0))) = (fun _ => 1#1)

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_RefProjOddIdeal (m : (ℓ : Loc Cert.RefProjOddIdeal.nD Cert.RefProjOddIdeal.τ Cert.RefProjOddIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_RefOutOddIdeal (m : (ℓ : Loc Cert.RefOutOddIdeal.nD Cert.RefOutOddIdeal.τ Cert.RefOutOddIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_RefProjEvenIdeal (m : (ℓ : Loc Cert.RefProjEvenIdeal.nD Cert.RefProjEvenIdeal.τ Cert.RefProjEvenIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_RefOutEvenIdeal (m : (ℓ : Loc Cert.RefOutEvenIdeal.nD Cert.RefOutEvenIdeal.τ Cert.RefOutEvenIdeal.sig) → Buf (Elt Ideal) ℓ) : Prop :=
  True

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16Ideal_pre_finite [hDil16Ideal : Cert.Dil16Ideal.Facts] [hPre_finite : Cert.Pre_finite.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal_finite m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_RefDil16Ideal [hRefDil16Ideal : Cert.RefDil16Ideal.Facts] : Prop :=
  ∀ (m : (ℓ : Loc Cert.RefDil16Ideal.nD Cert.RefDil16Ideal.τ Cert.RefDil16Ideal.sig) → Buf (Elt Ideal) ℓ) (g : Dev Cert.RefDil16Ideal.nD → PrngReg), Pre_RefDil16Ideal m →
    θ_run (Cert.RefDil16Ideal.defs (F := Ideal)) (onTc (τ := Cert.RefDil16Ideal.τ) (Cert.RefDil16Ideal.main (F := Ideal))) ⟨m, fun _ => 0, g⟩ (fun r => (∀ c : Dev Cert.RefDil16Ideal.nD,
      r.2.mem ((c.tc : Thread Cert.RefDil16Ideal.nD Cert.RefDil16Ideal.τ).loc Cert.RefDil16Ideal.main_arg0) = m ((c.tc : Thread Cert.RefDil16Ideal.nD Cert.RefDil16Ideal.τ).loc Cert.RefDil16Ideal.main_arg0))
      ∧ r.2.sem = fun _ => 0)

def quiescent_RefDil16Ideal_pre_finite [hRefDil16Ideal : Cert.RefDil16Ideal.Facts] [hPre_finite : Cert.Pre_finite.Facts] : Prop :=
  ∀ (m : (ℓ : Loc Cert.RefDil16Ideal.nD Cert.RefDil16Ideal.τ Cert.RefDil16Ideal.sig) → Buf (Elt Ideal) ℓ) (g : Dev Cert.RefDil16Ideal.nD → PrngReg), Pre_RefDil16Ideal_finite m →
    θ_run (Cert.RefDil16Ideal.defs (F := Ideal)) (onTc (τ := Cert.RefDil16Ideal.τ) (Cert.RefDil16Ideal.main (F := Ideal))) ⟨m, fun _ => 0, g⟩ (fun r => (∀ c : Dev Cert.RefDil16Ideal.nD,
      r.2.mem ((c.tc : Thread Cert.RefDil16Ideal.nD Cert.RefDil16Ideal.τ).loc Cert.RefDil16Ideal.main_arg0) = m ((c.tc : Thread Cert.RefDil16Ideal.nD Cert.RefDil16Ideal.τ).loc Cert.RefDil16Ideal.main_arg0))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1)
      ∧ r.2.mem ((c.tc : Thread Cert.ProjOdd.nD Cert.ProjOdd.τ).loc Cert.ProjOdd.main_arg2) = m ((c.tc : Thread Cert.ProjOdd.nD Cert.ProjOdd.τ).loc Cert.ProjOdd.main_arg2))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
      ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2))
      ∧ r.2.sem = fun _ => 0)

def quiescent_RefProjOddIdeal [hRefProjOddIdeal : Cert.RefProjOddIdeal.Facts] : Prop :=
  ∀ (m : (ℓ : Loc Cert.RefProjOddIdeal.nD Cert.RefProjOddIdeal.τ Cert.RefProjOddIdeal.sig) → Buf (Elt Ideal) ℓ) (g : Dev Cert.RefProjOddIdeal.nD → PrngReg), Pre_RefProjOddIdeal m →
    θ_run (Cert.RefProjOddIdeal.defs (F := Ideal)) (onTc (τ := Cert.RefProjOddIdeal.τ) (Cert.RefProjOddIdeal.main (F := Ideal))) ⟨m, fun _ => 0, g⟩ (fun r => (∀ c : Dev Cert.RefProjOddIdeal.nD,
      r.2.mem ((c.tc : Thread Cert.RefProjOddIdeal.nD Cert.RefProjOddIdeal.τ).loc Cert.RefProjOddIdeal.main_arg0) = m ((c.tc : Thread Cert.RefProjOddIdeal.nD Cert.RefProjOddIdeal.τ).loc Cert.RefProjOddIdeal.main_arg0)
      ∧ r.2.mem ((c.tc : Thread Cert.RefProjOddIdeal.nD Cert.RefProjOddIdeal.τ).loc Cert.RefProjOddIdeal.main_arg1) = m ((c.tc : Thread Cert.RefProjOddIdeal.nD Cert.RefProjOddIdeal.τ).loc Cert.RefProjOddIdeal.main_arg1)
      ∧ r.2.mem ((c.tc : Thread Cert.RefProjOddIdeal.nD Cert.RefProjOddIdeal.τ).loc Cert.RefProjOddIdeal.main_arg2) = m ((c.tc : Thread Cert.RefProjOddIdeal.nD Cert.RefProjOddIdeal.τ).loc Cert.RefProjOddIdeal.main_arg2))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5)
      ∧ r.2.mem ((c.tc : Thread Cert.OutOdd.nD Cert.OutOdd.τ).loc Cert.OutOdd.main_arg6) = m ((c.tc : Thread Cert.OutOdd.nD Cert.OutOdd.τ).loc Cert.OutOdd.main_arg6)
      ∧ r.2.mem ((c.tc : Thread Cert.OutOdd.nD Cert.OutOdd.τ).loc Cert.OutOdd.main_arg7) = m ((c.tc : Thread Cert.OutOdd.nD Cert.OutOdd.τ).loc Cert.OutOdd.main_arg7))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5)
      ∧ r.2.mem ((c.tc : Thread Cert.OutOddIdeal.nD Cert.OutOddIdeal.τ).loc Cert.OutOddIdeal.main_arg6) = m ((c.tc : Thread Cert.OutOddIdeal.nD Cert.OutOddIdeal.τ).loc Cert.OutOddIdeal.main_arg6)
      ∧ r.2.mem ((c.tc : Thread Cert.OutOddIdeal.nD Cert.OutOddIdeal.τ).loc Cert.OutOddIdeal.main_arg7) = m ((c.tc : Thread Cert.OutOddIdeal.nD Cert.OutOddIdeal.τ).loc Cert.OutOddIdeal.main_arg7))
      ∧ r.2.sem = fun _ => 0)

def quiescent_RefOutOddIdeal [hRefOutOddIdeal : Cert.RefOutOddIdeal.Facts] : Prop :=
  ∀ (m : (ℓ : Loc Cert.RefOutOddIdeal.nD Cert.RefOutOddIdeal.τ Cert.RefOutOddIdeal.sig) → Buf (Elt Ideal) ℓ) (g : Dev Cert.RefOutOddIdeal.nD → PrngReg), Pre_RefOutOddIdeal m →
    θ_run (Cert.RefOutOddIdeal.defs (F := Ideal)) (onTc (τ := Cert.RefOutOddIdeal.τ) (Cert.RefOutOddIdeal.main (F := Ideal))) ⟨m, fun _ => 0, g⟩ (fun r => (∀ c : Dev Cert.RefOutOddIdeal.nD,
      r.2.mem ((c.tc : Thread Cert.RefOutOddIdeal.nD Cert.RefOutOddIdeal.τ).loc Cert.RefOutOddIdeal.main_arg0) = m ((c.tc : Thread Cert.RefOutOddIdeal.nD Cert.RefOutOddIdeal.τ).loc Cert.RefOutOddIdeal.main_arg0)
      ∧ r.2.mem ((c.tc : Thread Cert.RefOutOddIdeal.nD Cert.RefOutOddIdeal.τ).loc Cert.RefOutOddIdeal.main_arg1) = m ((c.tc : Thread Cert.RefOutOddIdeal.nD Cert.RefOutOddIdeal.τ).loc Cert.RefOutOddIdeal.main_arg1)
      ∧ r.2.mem ((c.tc : Thread Cert.RefOutOddIdeal.nD Cert.RefOutOddIdeal.τ).loc Cert.RefOutOddIdeal.main_arg2) = m ((c.tc : Thread Cert.RefOutOddIdeal.nD Cert.RefOutOddIdeal.τ).loc Cert.RefOutOddIdeal.main_arg2)
      ∧ r.2.mem ((c.tc : Thread Cert.RefOutOddIdeal.nD Cert.RefOutOddIdeal.τ).loc Cert.RefOutOddIdeal.main_arg3) = m ((c.tc : Thread Cert.RefOutOddIdeal.nD Cert.RefOutOddIdeal.τ).loc Cert.RefOutOddIdeal.main_arg3)
      ∧ r.2.mem ((c.tc : Thread Cert.RefOutOddIdeal.nD Cert.RefOutOddIdeal.τ).loc Cert.RefOutOddIdeal.main_arg4) = m ((c.tc : Thread Cert.RefOutOddIdeal.nD Cert.RefOutOddIdeal.τ).loc Cert.RefOutOddIdeal.main_arg4)
      ∧ r.2.mem ((c.tc : Thread Cert.RefOutOddIdeal.nD Cert.RefOutOddIdeal.τ).loc Cert.RefOutOddIdeal.main_arg5) = m ((c.tc : Thread Cert.RefOutOddIdeal.nD Cert.RefOutOddIdeal.τ).loc Cert.RefOutOddIdeal.main_arg5)
      ∧ r.2.mem ((c.tc : Thread Cert.RefOutOddIdeal.nD Cert.RefOutOddIdeal.τ).loc Cert.RefOutOddIdeal.main_arg6) = m ((c.tc : Thread Cert.RefOutOddIdeal.nD Cert.RefOutOddIdeal.τ).loc Cert.RefOutOddIdeal.main_arg6)
      ∧ r.2.mem ((c.tc : Thread Cert.RefOutOddIdeal.nD Cert.RefOutOddIdeal.τ).loc Cert.RefOutOddIdeal.main_arg7) = m ((c.tc : Thread Cert.RefOutOddIdeal.nD Cert.RefOutOddIdeal.τ).loc Cert.RefOutOddIdeal.main_arg7))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ r.2.sem = fun _ => 0)

def quiescent_RefProjEvenIdeal [hRefProjEvenIdeal : Cert.RefProjEvenIdeal.Facts] : Prop :=
  ∀ (m : (ℓ : Loc Cert.RefProjEvenIdeal.nD Cert.RefProjEvenIdeal.τ Cert.RefProjEvenIdeal.sig) → Buf (Elt Ideal) ℓ) (g : Dev Cert.RefProjEvenIdeal.nD → PrngReg), Pre_RefProjEvenIdeal m →
    θ_run (Cert.RefProjEvenIdeal.defs (F := Ideal)) (onTc (τ := Cert.RefProjEvenIdeal.τ) (Cert.RefProjEvenIdeal.main (F := Ideal))) ⟨m, fun _ => 0, g⟩ (fun r => (∀ c : Dev Cert.RefProjEvenIdeal.nD,
      r.2.mem ((c.tc : Thread Cert.RefProjEvenIdeal.nD Cert.RefProjEvenIdeal.τ).loc Cert.RefProjEvenIdeal.main_arg0) = m ((c.tc : Thread Cert.RefProjEvenIdeal.nD Cert.RefProjEvenIdeal.τ).loc Cert.RefProjEvenIdeal.main_arg0)
      ∧ r.2.mem ((c.tc : Thread Cert.RefProjEvenIdeal.nD Cert.RefProjEvenIdeal.τ).loc Cert.RefProjEvenIdeal.main_arg1) = m ((c.tc : Thread Cert.RefProjEvenIdeal.nD Cert.RefProjEvenIdeal.τ).loc Cert.RefProjEvenIdeal.main_arg1)
      ∧ r.2.mem ((c.tc : Thread Cert.RefProjEvenIdeal.nD Cert.RefProjEvenIdeal.τ).loc Cert.RefProjEvenIdeal.main_arg2) = m ((c.tc : Thread Cert.RefProjEvenIdeal.nD Cert.RefProjEvenIdeal.τ).loc Cert.RefProjEvenIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6)
      ∧ r.2.mem ((c.tc : Thread Cert.OutEven.nD Cert.OutEven.τ).loc Cert.OutEven.main_arg7) = m ((c.tc : Thread Cert.OutEven.nD Cert.OutEven.τ).loc Cert.OutEven.main_arg7)
      ∧ r.2.mem ((c.tc : Thread Cert.OutEven.nD Cert.OutEven.τ).loc Cert.OutEven.main_arg8) = m ((c.tc : Thread Cert.OutEven.nD Cert.OutEven.τ).loc Cert.OutEven.main_arg8)
      ∧ r.2.mem ((c.tc : Thread Cert.OutEven.nD Cert.OutEven.τ).loc Cert.OutEven.main_arg9) = m ((c.tc : Thread Cert.OutEven.nD Cert.OutEven.τ).loc Cert.OutEven.main_arg9))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
      ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8)
      ∧ r.2.mem ((c.tc : Thread Cert.OutEvenIdeal.nD Cert.OutEvenIdeal.τ).loc Cert.OutEvenIdeal.main_arg9) = m ((c.tc : Thread Cert.OutEvenIdeal.nD Cert.OutEvenIdeal.τ).loc Cert.OutEvenIdeal.main_arg9))
      ∧ r.2.sem = fun _ => 0)

def quiescent_RefOutEvenIdeal [hRefOutEvenIdeal : Cert.RefOutEvenIdeal.Facts] : Prop :=
  ∀ (m : (ℓ : Loc Cert.RefOutEvenIdeal.nD Cert.RefOutEvenIdeal.τ Cert.RefOutEvenIdeal.sig) → Buf (Elt Ideal) ℓ) (g : Dev Cert.RefOutEvenIdeal.nD → PrngReg), Pre_RefOutEvenIdeal m →
    θ_run (Cert.RefOutEvenIdeal.defs (F := Ideal)) (onTc (τ := Cert.RefOutEvenIdeal.τ) (Cert.RefOutEvenIdeal.main (F := Ideal))) ⟨m, fun _ => 0, g⟩ (fun r => (∀ c : Dev Cert.RefOutEvenIdeal.nD,
      r.2.mem ((c.tc : Thread Cert.RefOutEvenIdeal.nD Cert.RefOutEvenIdeal.τ).loc Cert.RefOutEvenIdeal.main_arg0) = m ((c.tc : Thread Cert.RefOutEvenIdeal.nD Cert.RefOutEvenIdeal.τ).loc Cert.RefOutEvenIdeal.main_arg0)
      ∧ r.2.mem ((c.tc : Thread Cert.RefOutEvenIdeal.nD Cert.RefOutEvenIdeal.τ).loc Cert.RefOutEvenIdeal.main_arg1) = m ((c.tc : Thread Cert.RefOutEvenIdeal.nD Cert.RefOutEvenIdeal.τ).loc Cert.RefOutEvenIdeal.main_arg1)
      ∧ r.2.mem ((c.tc : Thread Cert.RefOutEvenIdeal.nD Cert.RefOutEvenIdeal.τ).loc Cert.RefOutEvenIdeal.main_arg2) = m ((c.tc : Thread Cert.RefOutEvenIdeal.nD Cert.RefOutEvenIdeal.τ).loc Cert.RefOutEvenIdeal.main_arg2)
      ∧ r.2.mem ((c.tc : Thread Cert.RefOutEvenIdeal.nD Cert.RefOutEvenIdeal.τ).loc Cert.RefOutEvenIdeal.main_arg3) = m ((c.tc : Thread Cert.RefOutEvenIdeal.nD Cert.RefOutEvenIdeal.τ).loc Cert.RefOutEvenIdeal.main_arg3)
      ∧ r.2.mem ((c.tc : Thread Cert.RefOutEvenIdeal.nD Cert.RefOutEvenIdeal.τ).loc Cert.RefOutEvenIdeal.main_arg4) = m ((c.tc : Thread Cert.RefOutEvenIdeal.nD Cert.RefOutEvenIdeal.τ).loc Cert.RefOutEvenIdeal.main_arg4)
      ∧ r.2.mem ((c.tc : Thread Cert.RefOutEvenIdeal.nD Cert.RefOutEvenIdeal.τ).loc Cert.RefOutEvenIdeal.main_arg5) = m ((c.tc : Thread Cert.RefOutEvenIdeal.nD Cert.RefOutEvenIdeal.τ).loc Cert.RefOutEvenIdeal.main_arg5)
      ∧ r.2.mem ((c.tc : Thread Cert.RefOutEvenIdeal.nD Cert.RefOutEvenIdeal.τ).loc Cert.RefOutEvenIdeal.main_arg6) = m ((c.tc : Thread Cert.RefOutEvenIdeal.nD Cert.RefOutEvenIdeal.τ).loc Cert.RefOutEvenIdeal.main_arg6)
      ∧ r.2.mem ((c.tc : Thread Cert.RefOutEvenIdeal.nD Cert.RefOutEvenIdeal.τ).loc Cert.RefOutEvenIdeal.main_arg7) = m ((c.tc : Thread Cert.RefOutEvenIdeal.nD Cert.RefOutEvenIdeal.τ).loc Cert.RefOutEvenIdeal.main_arg7)
      ∧ r.2.mem ((c.tc : Thread Cert.RefOutEvenIdeal.nD Cert.RefOutEvenIdeal.τ).loc Cert.RefOutEvenIdeal.main_arg8) = m ((c.tc : Thread Cert.RefOutEvenIdeal.nD Cert.RefOutEvenIdeal.τ).loc Cert.RefOutEvenIdeal.main_arg8)
      ∧ r.2.mem ((c.tc : Thread Cert.RefOutEvenIdeal.nD Cert.RefOutEvenIdeal.τ).loc Cert.RefOutEvenIdeal.main_arg9) = m ((c.tc : Thread Cert.RefOutEvenIdeal.nD Cert.RefOutEvenIdeal.τ).loc Cert.RefOutEvenIdeal.main_arg9))
      ∧ r.2.sem = fun _ => 0)

def preserves_Dil16_Dil16Ideal : Prop :=
  IdealRules.named_const.Statement Cert.Dil16Ideal.κ "mask" .f32 0x7149F2CA#32 ⊤
  ∧ IdealRules.named_const.Statement Cert.Dil16Ideal.κ "log2e_p3" .f32 0x4138AA3B#32 (((Real.log 2)⁻¹ * 8 : ℝ) : EReal)
  ∧ IdealRules.named_const.Statement Cert.Dil16Ideal.κ "log2e_p2" .f32 0x40B8AA3B#32 (((Real.log 2)⁻¹ * 4 : ℝ) : EReal)
  ∧ IdealRules.named_const.Statement Cert.Dil16Ideal.κ "log2e_p1" .f32 0x4038AA3B#32 (((Real.log 2)⁻¹ * 2 : ℝ) : EReal)
  ∧ IdealRules.named_const.Statement Cert.Dil16Ideal.κ "log2e_p0" .f32 0x3FB8AA3B#32 (((Real.log 2)⁻¹ : ℝ) : EReal)
  ∧ IdealRules.named_const.Statement Cert.Dil16Ideal.κ "log2e_m1" .f32 0x3F38AA3B#32 (((Real.log 2)⁻¹ * (1 / 2) : ℝ) : EReal)
  ∧ IdealRules.named_const.Statement Cert.Dil16Ideal.κ "log2e_m2" .f32 0x3EB8AA3B#32 (((Real.log 2)⁻¹ * (1 / 4) : ℝ) : EReal)
  ∧ IdealRules.named_const.Statement Cert.Dil16Ideal.κ "log2e_m3" .f32 0x3E38AA3B#32 (((Real.log 2)⁻¹ * (1 / 8) : ℝ) : EReal)
  ∧ IdealRules.named_const.Statement Cert.Dil16Ideal.κ "log2e_m4" .f32 0x3DB8AA3B#32 (((Real.log 2)⁻¹ * (1 / 16) : ℝ) : EReal)

def algebraic_Dil16Ideal_RefDil16Ideal_pre_finite [hDil16Ideal : Cert.Dil16Ideal.Facts] [hRefDil16Ideal : Cert.RefDil16Ideal.Facts] [hPre_finite : Cert.Pre_finite.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.RefDil16Ideal.nD Cert.RefDil16Ideal.τ Cert.RefDil16Ideal.sig) → Buf (Elt Ideal) ℓ) (g' : Dev Cert.RefDil16Ideal.nD → PrngReg), Pre_Dil16Ideal_finite m →
    (∀ c : Dev Cert.Dil16Ideal.nD,
      m' ((c.tc : Thread Cert.RefDil16Ideal.nD Cert.RefDil16Ideal.τ).loc Cert.RefDil16Ideal.main_arg0) = m ((c.tc : Thread Cert.Dil16Ideal.nD Cert.Dil16Ideal.τ).loc Cert.Dil16Ideal.main_arg0)) →
    ∃ (v0 : (c : Dev Cert.Dil16Ideal.nD) → Buf (Elt Ideal) ((c.tc : Thread Cert.Dil16Ideal.nD Cert.Dil16Ideal.τ).loc Cert.Dil16Ideal.main_v9_0)) (v1 : (c : Dev Cert.Dil16Ideal.nD) → Buf (Elt Ideal) ((c.tc : Thread Cert.Dil16Ideal.nD Cert.Dil16Ideal.τ).loc Cert.Dil16Ideal.main_v9_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v9_0) = v0 c
          ∧ r.2.mem ((c.tc : Thread Cert.Dil16Ideal.nD Cert.Dil16Ideal.τ).loc Cert.Dil16Ideal.main_v9_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ θ_run (Cert.RefDil16Ideal.defs (F := Ideal)) (onTc (τ := Cert.RefDil16Ideal.τ) (Cert.RefDil16Ideal.main (F := Ideal))) ⟨m', fun _ => 0, g'⟩ (fun r => ∀ c : Dev Cert.RefDil16Ideal.nD,
          r.2.mem ((c.tc : Thread Cert.RefDil16Ideal.nD Cert.RefDil16Ideal.τ).loc Cert.RefDil16Ideal.main_v52) = v0 c
          ∧ r.2.mem ((c.tc : Thread Cert.RefDil16Ideal.nD Cert.RefDil16Ideal.τ).loc Cert.RefDil16Ideal.main_v54) = v1 c
          ∧ r.2.mem ((c.tc : Thread Cert.RefDil16Ideal.nD Cert.RefDil16Ideal.τ).loc Cert.RefDil16Ideal.main_arg0) = m' ((c.tc : Thread Cert.RefDil16Ideal.nD Cert.RefDil16Ideal.τ).loc Cert.RefDil16Ideal.main_arg0))

def preserves_ProjOdd_ProjOddIdeal : Prop :=
  True

def algebraic_ProjOddIdeal_RefProjOddIdeal [hProjOddIdeal : Cert.ProjOddIdeal.Facts] [hRefProjOddIdeal : Cert.RefProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.RefProjOddIdeal.nD Cert.RefProjOddIdeal.τ Cert.RefProjOddIdeal.sig) → Buf (Elt Ideal) ℓ) (g' : Dev Cert.RefProjOddIdeal.nD → PrngReg), Pre_ProjOddIdeal m →
    (∀ c : Dev Cert.ProjOddIdeal.nD,
      m' ((c.tc : Thread Cert.RefProjOddIdeal.nD Cert.RefProjOddIdeal.τ).loc Cert.RefProjOddIdeal.main_arg0) = m ((c.tc : Thread Cert.ProjOddIdeal.nD Cert.ProjOddIdeal.τ).loc Cert.ProjOddIdeal.main_arg0)
      ∧ m' ((c.tc : Thread Cert.RefProjOddIdeal.nD Cert.RefProjOddIdeal.τ).loc Cert.RefProjOddIdeal.main_arg1) = m ((c.tc : Thread Cert.ProjOddIdeal.nD Cert.ProjOddIdeal.τ).loc Cert.ProjOddIdeal.main_arg1)
      ∧ m' ((c.tc : Thread Cert.RefProjOddIdeal.nD Cert.RefProjOddIdeal.τ).loc Cert.RefProjOddIdeal.main_arg2) = m ((c.tc : Thread Cert.ProjOddIdeal.nD Cert.ProjOddIdeal.τ).loc Cert.ProjOddIdeal.main_arg2)) →
    ∃ (v0 : (c : Dev Cert.ProjOddIdeal.nD) → Buf (Elt Ideal) ((c.tc : Thread Cert.ProjOddIdeal.nD Cert.ProjOddIdeal.τ).loc Cert.ProjOddIdeal.main_v1)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v1) = v0 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
          ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2))
      ∧ θ_run (Cert.RefProjOddIdeal.defs (F := Ideal)) (onTc (τ := Cert.RefProjOddIdeal.τ) (Cert.RefProjOddIdeal.main (F := Ideal))) ⟨m', fun _ => 0, g'⟩ (fun r => ∀ c : Dev Cert.RefProjOddIdeal.nD,
          r.2.mem ((c.tc : Thread Cert.RefProjOddIdeal.nD Cert.RefProjOddIdeal.τ).loc Cert.RefProjOddIdeal.main_v15) = v0 c
          ∧ r.2.mem ((c.tc : Thread Cert.RefProjOddIdeal.nD Cert.RefProjOddIdeal.τ).loc Cert.RefProjOddIdeal.main_arg0) = m' ((c.tc : Thread Cert.RefProjOddIdeal.nD Cert.RefProjOddIdeal.τ).loc Cert.RefProjOddIdeal.main_arg0)
          ∧ r.2.mem ((c.tc : Thread Cert.RefProjOddIdeal.nD Cert.RefProjOddIdeal.τ).loc Cert.RefProjOddIdeal.main_arg1) = m' ((c.tc : Thread Cert.RefProjOddIdeal.nD Cert.RefProjOddIdeal.τ).loc Cert.RefProjOddIdeal.main_arg1)
          ∧ r.2.mem ((c.tc : Thread Cert.RefProjOddIdeal.nD Cert.RefProjOddIdeal.τ).loc Cert.RefProjOddIdeal.main_arg2) = m' ((c.tc : Thread Cert.RefProjOddIdeal.nD Cert.RefProjOddIdeal.τ).loc Cert.RefProjOddIdeal.main_arg2))

def preserves_OutOdd_OutOddIdeal : Prop :=
  True

def algebraic_OutOddIdeal_RefOutOddIdeal [hOutOddIdeal : Cert.OutOddIdeal.Facts] [hRefOutOddIdeal : Cert.RefOutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.RefOutOddIdeal.nD Cert.RefOutOddIdeal.τ Cert.RefOutOddIdeal.sig) → Buf (Elt Ideal) ℓ) (g' : Dev Cert.RefOutOddIdeal.nD → PrngReg), Pre_OutOddIdeal m →
    (∀ c : Dev Cert.OutOddIdeal.nD,
      m' ((c.tc : Thread Cert.RefOutOddIdeal.nD Cert.RefOutOddIdeal.τ).loc Cert.RefOutOddIdeal.main_arg0) = m ((c.tc : Thread Cert.OutOddIdeal.nD Cert.OutOddIdeal.τ).loc Cert.OutOddIdeal.main_arg0)
      ∧ m' ((c.tc : Thread Cert.RefOutOddIdeal.nD Cert.RefOutOddIdeal.τ).loc Cert.RefOutOddIdeal.main_arg1) = m ((c.tc : Thread Cert.OutOddIdeal.nD Cert.OutOddIdeal.τ).loc Cert.OutOddIdeal.main_arg1)
      ∧ m' ((c.tc : Thread Cert.RefOutOddIdeal.nD Cert.RefOutOddIdeal.τ).loc Cert.RefOutOddIdeal.main_arg2) = m ((c.tc : Thread Cert.OutOddIdeal.nD Cert.OutOddIdeal.τ).loc Cert.OutOddIdeal.main_arg2)
      ∧ m' ((c.tc : Thread Cert.RefOutOddIdeal.nD Cert.RefOutOddIdeal.τ).loc Cert.RefOutOddIdeal.main_arg3) = m ((c.tc : Thread Cert.OutOddIdeal.nD Cert.OutOddIdeal.τ).loc Cert.OutOddIdeal.main_arg3)
      ∧ m' ((c.tc : Thread Cert.RefOutOddIdeal.nD Cert.RefOutOddIdeal.τ).loc Cert.RefOutOddIdeal.main_arg4) = m ((c.tc : Thread Cert.OutOddIdeal.nD Cert.OutOddIdeal.τ).loc Cert.OutOddIdeal.main_arg4)
      ∧ m' ((c.tc : Thread Cert.RefOutOddIdeal.nD Cert.RefOutOddIdeal.τ).loc Cert.RefOutOddIdeal.main_arg5) = m ((c.tc : Thread Cert.OutOddIdeal.nD Cert.OutOddIdeal.τ).loc Cert.OutOddIdeal.main_arg5)
      ∧ m' ((c.tc : Thread Cert.RefOutOddIdeal.nD Cert.RefOutOddIdeal.τ).loc Cert.RefOutOddIdeal.main_arg6) = m ((c.tc : Thread Cert.OutOddIdeal.nD Cert.OutOddIdeal.τ).loc Cert.OutOddIdeal.main_arg6)
      ∧ m' ((c.tc : Thread Cert.RefOutOddIdeal.nD Cert.RefOutOddIdeal.τ).loc Cert.RefOutOddIdeal.main_arg7) = m ((c.tc : Thread Cert.OutOddIdeal.nD Cert.OutOddIdeal.τ).loc Cert.OutOddIdeal.main_arg7)) →
    ∃ (v0 : (c : Dev Cert.OutOddIdeal.nD) → Buf (Elt Ideal) ((c.tc : Thread Cert.OutOddIdeal.nD Cert.OutOddIdeal.τ).loc Cert.OutOddIdeal.main_v5)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v5) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5)
          ∧ r.2.mem ((c.tc : Thread Cert.OutOddIdeal.nD Cert.OutOddIdeal.τ).loc Cert.OutOddIdeal.main_arg6) = m ((c.tc : Thread Cert.OutOddIdeal.nD Cert.OutOddIdeal.τ).loc Cert.OutOddIdeal.main_arg6)
          ∧ r.2.mem ((c.tc : Thread Cert.OutOddIdeal.nD Cert.OutOddIdeal.τ).loc Cert.OutOddIdeal.main_arg7) = m ((c.tc : Thread Cert.OutOddIdeal.nD Cert.OutOddIdeal.τ).loc Cert.OutOddIdeal.main_arg7))
      ∧ θ_run (Cert.RefOutOddIdeal.defs (F := Ideal)) (onTc (τ := Cert.RefOutOddIdeal.τ) (Cert.RefOutOddIdeal.main (F := Ideal))) ⟨m', fun _ => 0, g'⟩ (fun r => ∀ c : Dev Cert.RefOutOddIdeal.nD,
          r.2.mem ((c.tc : Thread Cert.RefOutOddIdeal.nD Cert.RefOutOddIdeal.τ).loc Cert.RefOutOddIdeal.main_v36) = v0 c
          ∧ r.2.mem ((c.tc : Thread Cert.RefOutOddIdeal.nD Cert.RefOutOddIdeal.τ).loc Cert.RefOutOddIdeal.main_arg0) = m' ((c.tc : Thread Cert.RefOutOddIdeal.nD Cert.RefOutOddIdeal.τ).loc Cert.RefOutOddIdeal.main_arg0)
          ∧ r.2.mem ((c.tc : Thread Cert.RefOutOddIdeal.nD Cert.RefOutOddIdeal.τ).loc Cert.RefOutOddIdeal.main_arg1) = m' ((c.tc : Thread Cert.RefOutOddIdeal.nD Cert.RefOutOddIdeal.τ).loc Cert.RefOutOddIdeal.main_arg1)
          ∧ r.2.mem ((c.tc : Thread Cert.RefOutOddIdeal.nD Cert.RefOutOddIdeal.τ).loc Cert.RefOutOddIdeal.main_arg2) = m' ((c.tc : Thread Cert.RefOutOddIdeal.nD Cert.RefOutOddIdeal.τ).loc Cert.RefOutOddIdeal.main_arg2)
          ∧ r.2.mem ((c.tc : Thread Cert.RefOutOddIdeal.nD Cert.RefOutOddIdeal.τ).loc Cert.RefOutOddIdeal.main_arg3) = m' ((c.tc : Thread Cert.RefOutOddIdeal.nD Cert.RefOutOddIdeal.τ).loc Cert.RefOutOddIdeal.main_arg3)
          ∧ r.2.mem ((c.tc : Thread Cert.RefOutOddIdeal.nD Cert.RefOutOddIdeal.τ).loc Cert.RefOutOddIdeal.main_arg4) = m' ((c.tc : Thread Cert.RefOutOddIdeal.nD Cert.RefOutOddIdeal.τ).loc Cert.RefOutOddIdeal.main_arg4)
          ∧ r.2.mem ((c.tc : Thread Cert.RefOutOddIdeal.nD Cert.RefOutOddIdeal.τ).loc Cert.RefOutOddIdeal.main_arg5) = m' ((c.tc : Thread Cert.RefOutOddIdeal.nD Cert.RefOutOddIdeal.τ).loc Cert.RefOutOddIdeal.main_arg5)
          ∧ r.2.mem ((c.tc : Thread Cert.RefOutOddIdeal.nD Cert.RefOutOddIdeal.τ).loc Cert.RefOutOddIdeal.main_arg6) = m' ((c.tc : Thread Cert.RefOutOddIdeal.nD Cert.RefOutOddIdeal.τ).loc Cert.RefOutOddIdeal.main_arg6)
          ∧ r.2.mem ((c.tc : Thread Cert.RefOutOddIdeal.nD Cert.RefOutOddIdeal.τ).loc Cert.RefOutOddIdeal.main_arg7) = m' ((c.tc : Thread Cert.RefOutOddIdeal.nD Cert.RefOutOddIdeal.τ).loc Cert.RefOutOddIdeal.main_arg7))

def preserves_ProjEven_ProjEvenIdeal : Prop :=
  True

def algebraic_ProjEvenIdeal_RefProjEvenIdeal [hProjEvenIdeal : Cert.ProjEvenIdeal.Facts] [hRefProjEvenIdeal : Cert.RefProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.RefProjEvenIdeal.nD Cert.RefProjEvenIdeal.τ Cert.RefProjEvenIdeal.sig) → Buf (Elt Ideal) ℓ) (g' : Dev Cert.RefProjEvenIdeal.nD → PrngReg), Pre_ProjEvenIdeal m →
    (∀ c : Dev Cert.ProjEvenIdeal.nD,
      m' ((c.tc : Thread Cert.RefProjEvenIdeal.nD Cert.RefProjEvenIdeal.τ).loc Cert.RefProjEvenIdeal.main_arg0) = m ((c.tc : Thread Cert.ProjEvenIdeal.nD Cert.ProjEvenIdeal.τ).loc Cert.ProjEvenIdeal.main_arg0)
      ∧ m' ((c.tc : Thread Cert.RefProjEvenIdeal.nD Cert.RefProjEvenIdeal.τ).loc Cert.RefProjEvenIdeal.main_arg1) = m ((c.tc : Thread Cert.ProjEvenIdeal.nD Cert.ProjEvenIdeal.τ).loc Cert.ProjEvenIdeal.main_arg1)
      ∧ m' ((c.tc : Thread Cert.RefProjEvenIdeal.nD Cert.RefProjEvenIdeal.τ).loc Cert.RefProjEvenIdeal.main_arg2) = m ((c.tc : Thread Cert.ProjEvenIdeal.nD Cert.ProjEvenIdeal.τ).loc Cert.ProjEvenIdeal.main_arg2)) →
    ∃ (v0 : (c : Dev Cert.ProjEvenIdeal.nD) → Buf (Elt Ideal) ((c.tc : Thread Cert.ProjEvenIdeal.nD Cert.ProjEvenIdeal.τ).loc Cert.ProjEvenIdeal.main_v1_0)) (v1 : (c : Dev Cert.ProjEvenIdeal.nD) → Buf (Elt Ideal) ((c.tc : Thread Cert.ProjEvenIdeal.nD Cert.ProjEvenIdeal.τ).loc Cert.ProjEvenIdeal.main_v1_1)) (v2 : (c : Dev Cert.ProjEvenIdeal.nD) → Buf (Elt Ideal) ((c.tc : Thread Cert.ProjEvenIdeal.nD Cert.ProjEvenIdeal.τ).loc Cert.ProjEvenIdeal.main_v1_2)) (v3 : (c : Dev Cert.ProjEvenIdeal.nD) → Buf (Elt Ideal) ((c.tc : Thread Cert.ProjEvenIdeal.nD Cert.ProjEvenIdeal.τ).loc Cert.ProjEvenIdeal.main_v1_3)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v1_0) = v0 c
          ∧ r.2.mem ((c.tc : Thread Cert.ProjEvenIdeal.nD Cert.ProjEvenIdeal.τ).loc Cert.ProjEvenIdeal.main_v1_1) = v1 c
          ∧ r.2.mem ((c.tc : Thread Cert.ProjEvenIdeal.nD Cert.ProjEvenIdeal.τ).loc Cert.ProjEvenIdeal.main_v1_2) = v2 c
          ∧ r.2.mem ((c.tc : Thread Cert.ProjEvenIdeal.nD Cert.ProjEvenIdeal.τ).loc Cert.ProjEvenIdeal.main_v1_3) = v3 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ θ_run (Cert.RefProjEvenIdeal.defs (F := Ideal)) (onTc (τ := Cert.RefProjEvenIdeal.τ) (Cert.RefProjEvenIdeal.main (F := Ideal))) ⟨m', fun _ => 0, g'⟩ (fun r => ∀ c : Dev Cert.RefProjEvenIdeal.nD,
          r.2.mem ((c.tc : Thread Cert.RefProjEvenIdeal.nD Cert.RefProjEvenIdeal.τ).loc Cert.RefProjEvenIdeal.main_v16) = v0 c
          ∧ r.2.mem ((c.tc : Thread Cert.RefProjEvenIdeal.nD Cert.RefProjEvenIdeal.τ).loc Cert.RefProjEvenIdeal.main_v17) = v1 c
          ∧ r.2.mem ((c.tc : Thread Cert.RefProjEvenIdeal.nD Cert.RefProjEvenIdeal.τ).loc Cert.RefProjEvenIdeal.main_v21) = v2 c
          ∧ r.2.mem ((c.tc : Thread Cert.RefProjEvenIdeal.nD Cert.RefProjEvenIdeal.τ).loc Cert.RefProjEvenIdeal.main_v23) = v3 c
          ∧ r.2.mem ((c.tc : Thread Cert.RefProjEvenIdeal.nD Cert.RefProjEvenIdeal.τ).loc Cert.RefProjEvenIdeal.main_arg0) = m' ((c.tc : Thread Cert.RefProjEvenIdeal.nD Cert.RefProjEvenIdeal.τ).loc Cert.RefProjEvenIdeal.main_arg0)
          ∧ r.2.mem ((c.tc : Thread Cert.RefProjEvenIdeal.nD Cert.RefProjEvenIdeal.τ).loc Cert.RefProjEvenIdeal.main_arg1) = m' ((c.tc : Thread Cert.RefProjEvenIdeal.nD Cert.RefProjEvenIdeal.τ).loc Cert.RefProjEvenIdeal.main_arg1)
          ∧ r.2.mem ((c.tc : Thread Cert.RefProjEvenIdeal.nD Cert.RefProjEvenIdeal.τ).loc Cert.RefProjEvenIdeal.main_arg2) = m' ((c.tc : Thread Cert.RefProjEvenIdeal.nD Cert.RefProjEvenIdeal.τ).loc Cert.RefProjEvenIdeal.main_arg2))

def preserves_OutEven_OutEvenIdeal : Prop :=
  True

def algebraic_OutEvenIdeal_RefOutEvenIdeal [hOutEvenIdeal : Cert.OutEvenIdeal.Facts] [hRefOutEvenIdeal : Cert.RefOutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.RefOutEvenIdeal.nD Cert.RefOutEvenIdeal.τ Cert.RefOutEvenIdeal.sig) → Buf (Elt Ideal) ℓ) (g' : Dev Cert.RefOutEvenIdeal.nD → PrngReg), Pre_OutEvenIdeal m →
    (∀ c : Dev Cert.OutEvenIdeal.nD,
      m' ((c.tc : Thread Cert.RefOutEvenIdeal.nD Cert.RefOutEvenIdeal.τ).loc Cert.RefOutEvenIdeal.main_arg0) = m ((c.tc : Thread Cert.OutEvenIdeal.nD Cert.OutEvenIdeal.τ).loc Cert.OutEvenIdeal.main_arg0)
      ∧ m' ((c.tc : Thread Cert.RefOutEvenIdeal.nD Cert.RefOutEvenIdeal.τ).loc Cert.RefOutEvenIdeal.main_arg1) = m ((c.tc : Thread Cert.OutEvenIdeal.nD Cert.OutEvenIdeal.τ).loc Cert.OutEvenIdeal.main_arg1)
      ∧ m' ((c.tc : Thread Cert.RefOutEvenIdeal.nD Cert.RefOutEvenIdeal.τ).loc Cert.RefOutEvenIdeal.main_arg2) = m ((c.tc : Thread Cert.OutEvenIdeal.nD Cert.OutEvenIdeal.τ).loc Cert.OutEvenIdeal.main_arg2)
      ∧ m' ((c.tc : Thread Cert.RefOutEvenIdeal.nD Cert.RefOutEvenIdeal.τ).loc Cert.RefOutEvenIdeal.main_arg3) = m ((c.tc : Thread Cert.OutEvenIdeal.nD Cert.OutEvenIdeal.τ).loc Cert.OutEvenIdeal.main_arg3)
      ∧ m' ((c.tc : Thread Cert.RefOutEvenIdeal.nD Cert.RefOutEvenIdeal.τ).loc Cert.RefOutEvenIdeal.main_arg4) = m ((c.tc : Thread Cert.OutEvenIdeal.nD Cert.OutEvenIdeal.τ).loc Cert.OutEvenIdeal.main_arg4)
      ∧ m' ((c.tc : Thread Cert.RefOutEvenIdeal.nD Cert.RefOutEvenIdeal.τ).loc Cert.RefOutEvenIdeal.main_arg5) = m ((c.tc : Thread Cert.OutEvenIdeal.nD Cert.OutEvenIdeal.τ).loc Cert.OutEvenIdeal.main_arg5)
      ∧ m' ((c.tc : Thread Cert.RefOutEvenIdeal.nD Cert.RefOutEvenIdeal.τ).loc Cert.RefOutEvenIdeal.main_arg6) = m ((c.tc : Thread Cert.OutEvenIdeal.nD Cert.OutEvenIdeal.τ).loc Cert.OutEvenIdeal.main_arg6)
      ∧ m' ((c.tc : Thread Cert.RefOutEvenIdeal.nD Cert.RefOutEvenIdeal.τ).loc Cert.RefOutEvenIdeal.main_arg7) = m ((c.tc : Thread Cert.OutEvenIdeal.nD Cert.OutEvenIdeal.τ).loc Cert.OutEvenIdeal.main_arg7)
      ∧ m' ((c.tc : Thread Cert.RefOutEvenIdeal.nD Cert.RefOutEvenIdeal.τ).loc Cert.RefOutEvenIdeal.main_arg8) = m ((c.tc : Thread Cert.OutEvenIdeal.nD Cert.OutEvenIdeal.τ).loc Cert.OutEvenIdeal.main_arg8)
      ∧ m' ((c.tc : Thread Cert.RefOutEvenIdeal.nD Cert.RefOutEvenIdeal.τ).loc Cert.RefOutEvenIdeal.main_arg9) = m ((c.tc : Thread Cert.OutEvenIdeal.nD Cert.OutEvenIdeal.τ).loc Cert.OutEvenIdeal.main_arg9)) →
    ∃ (v0 : (c : Dev Cert.OutEvenIdeal.nD) → Buf (Elt Ideal) ((c.tc : Thread Cert.OutEvenIdeal.nD Cert.OutEvenIdeal.τ).loc Cert.OutEvenIdeal.main_v7)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v7) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
          ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
          ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8)
          ∧ r.2.mem ((c.tc : Thread Cert.OutEvenIdeal.nD Cert.OutEvenIdeal.τ).loc Cert.OutEvenIdeal.main_arg9) = m ((c.tc : Thread Cert.OutEvenIdeal.nD Cert.OutEvenIdeal.τ).loc Cert.OutEvenIdeal.main_arg9))
      ∧ θ_run (Cert.RefOutEvenIdeal.defs (F := Ideal)) (onTc (τ := Cert.RefOutEvenIdeal.τ) (Cert.RefOutEvenIdeal.main (F := Ideal))) ⟨m', fun _ => 0, g'⟩ (fun r => ∀ c : Dev Cert.RefOutEvenIdeal.nD,
          r.2.mem ((c.tc : Thread Cert.RefOutEvenIdeal.nD Cert.RefOutEvenIdeal.τ).loc Cert.RefOutEvenIdeal.main_v56) = v0 c
          ∧ r.2.mem ((c.tc : Thread Cert.RefOutEvenIdeal.nD Cert.RefOutEvenIdeal.τ).loc Cert.RefOutEvenIdeal.main_arg0) = m' ((c.tc : Thread Cert.RefOutEvenIdeal.nD Cert.RefOutEvenIdeal.τ).loc Cert.RefOutEvenIdeal.main_arg0)
          ∧ r.2.mem ((c.tc : Thread Cert.RefOutEvenIdeal.nD Cert.RefOutEvenIdeal.τ).loc Cert.RefOutEvenIdeal.main_arg1) = m' ((c.tc : Thread Cert.RefOutEvenIdeal.nD Cert.RefOutEvenIdeal.τ).loc Cert.RefOutEvenIdeal.main_arg1)
          ∧ r.2.mem ((c.tc : Thread Cert.RefOutEvenIdeal.nD Cert.RefOutEvenIdeal.τ).loc Cert.RefOutEvenIdeal.main_arg2) = m' ((c.tc : Thread Cert.RefOutEvenIdeal.nD Cert.RefOutEvenIdeal.τ).loc Cert.RefOutEvenIdeal.main_arg2)
          ∧ r.2.mem ((c.tc : Thread Cert.RefOutEvenIdeal.nD Cert.RefOutEvenIdeal.τ).loc Cert.RefOutEvenIdeal.main_arg3) = m' ((c.tc : Thread Cert.RefOutEvenIdeal.nD Cert.RefOutEvenIdeal.τ).loc Cert.RefOutEvenIdeal.main_arg3)
          ∧ r.2.mem ((c.tc : Thread Cert.RefOutEvenIdeal.nD Cert.RefOutEvenIdeal.τ).loc Cert.RefOutEvenIdeal.main_arg4) = m' ((c.tc : Thread Cert.RefOutEvenIdeal.nD Cert.RefOutEvenIdeal.τ).loc Cert.RefOutEvenIdeal.main_arg4)
          ∧ r.2.mem ((c.tc : Thread Cert.RefOutEvenIdeal.nD Cert.RefOutEvenIdeal.τ).loc Cert.RefOutEvenIdeal.main_arg5) = m' ((c.tc : Thread Cert.RefOutEvenIdeal.nD Cert.RefOutEvenIdeal.τ).loc Cert.RefOutEvenIdeal.main_arg5)
          ∧ r.2.mem ((c.tc : Thread Cert.RefOutEvenIdeal.nD Cert.RefOutEvenIdeal.τ).loc Cert.RefOutEvenIdeal.main_arg6) = m' ((c.tc : Thread Cert.RefOutEvenIdeal.nD Cert.RefOutEvenIdeal.τ).loc Cert.RefOutEvenIdeal.main_arg6)
          ∧ r.2.mem ((c.tc : Thread Cert.RefOutEvenIdeal.nD Cert.RefOutEvenIdeal.τ).loc Cert.RefOutEvenIdeal.main_arg7) = m' ((c.tc : Thread Cert.RefOutEvenIdeal.nD Cert.RefOutEvenIdeal.τ).loc Cert.RefOutEvenIdeal.main_arg7)
          ∧ r.2.mem ((c.tc : Thread Cert.RefOutEvenIdeal.nD Cert.RefOutEvenIdeal.τ).loc Cert.RefOutEvenIdeal.main_arg8) = m' ((c.tc : Thread Cert.RefOutEvenIdeal.nD Cert.RefOutEvenIdeal.τ).loc Cert.RefOutEvenIdeal.main_arg8)
          ∧ r.2.mem ((c.tc : Thread Cert.RefOutEvenIdeal.nD Cert.RefOutEvenIdeal.τ).loc Cert.RefOutEvenIdeal.main_arg9) = m' ((c.tc : Thread Cert.RefOutEvenIdeal.nD Cert.RefOutEvenIdeal.τ).loc Cert.RefOutEvenIdeal.main_arg9))

def Claim : Prop :=
  ∃ (hDil16 : Cert.Dil16.Facts) (hDil16Ideal : Cert.Dil16Ideal.Facts) (hRefDil16Ideal : Cert.RefDil16Ideal.Facts) (hProjOdd : Cert.ProjOdd.Facts) (hProjOddIdeal : Cert.ProjOddIdeal.Facts) (hRefProjOddIdeal : Cert.RefProjOddIdeal.Facts) (hOutOdd : Cert.OutOdd.Facts) (hOutOddIdeal : Cert.OutOddIdeal.Facts) (hRefOutOddIdeal : Cert.RefOutOddIdeal.Facts) (hProjEven : Cert.ProjEven.Facts) (hProjEvenIdeal : Cert.ProjEvenIdeal.Facts) (hRefProjEvenIdeal : Cert.RefProjEvenIdeal.Facts) (hOutEven : Cert.OutEven.Facts) (hOutEvenIdeal : Cert.OutEvenIdeal.Facts) (hRefOutEvenIdeal : Cert.RefOutEvenIdeal.Facts) (hPre_finite : Cert.Pre_finite.Facts),
    quiescent_Dil16 (hDil16 := hDil16)
    ∧ quiescent_Dil16Ideal (hDil16Ideal := hDil16Ideal)
    ∧ quiescent_Dil16Ideal_pre_finite (hDil16Ideal := hDil16Ideal) (hPre_finite := hPre_finite)
    ∧ quiescent_RefDil16Ideal (hRefDil16Ideal := hRefDil16Ideal)
    ∧ quiescent_RefDil16Ideal_pre_finite (hRefDil16Ideal := hRefDil16Ideal) (hPre_finite := hPre_finite)
    ∧ quiescent_ProjOdd (hProjOdd := hProjOdd)
    ∧ quiescent_ProjOddIdeal (hProjOddIdeal := hProjOddIdeal)
    ∧ quiescent_RefProjOddIdeal (hRefProjOddIdeal := hRefProjOddIdeal)
    ∧ quiescent_OutOdd (hOutOdd := hOutOdd)
    ∧ quiescent_OutOddIdeal (hOutOddIdeal := hOutOddIdeal)
    ∧ quiescent_RefOutOddIdeal (hRefOutOddIdeal := hRefOutOddIdeal)
    ∧ quiescent_ProjEven (hProjEven := hProjEven)
    ∧ quiescent_ProjEvenIdeal (hProjEvenIdeal := hProjEvenIdeal)
    ∧ quiescent_RefProjEvenIdeal (hRefProjEvenIdeal := hRefProjEvenIdeal)
    ∧ quiescent_OutEven (hOutEven := hOutEven)
    ∧ quiescent_OutEvenIdeal (hOutEvenIdeal := hOutEvenIdeal)
    ∧ quiescent_RefOutEvenIdeal (hRefOutEvenIdeal := hRefOutEvenIdeal)
    ∧ preserves_Dil16_Dil16Ideal
    ∧ algebraic_Dil16Ideal_RefDil16Ideal_pre_finite (hDil16Ideal := hDil16Ideal) (hRefDil16Ideal := hRefDil16Ideal) (hPre_finite := hPre_finite)
    ∧ preserves_ProjOdd_ProjOddIdeal
    ∧ algebraic_ProjOddIdeal_RefProjOddIdeal (hProjOddIdeal := hProjOddIdeal) (hRefProjOddIdeal := hRefProjOddIdeal)
    ∧ preserves_OutOdd_OutOddIdeal
    ∧ algebraic_OutOddIdeal_RefOutOddIdeal (hOutOddIdeal := hOutOddIdeal) (hRefOutOddIdeal := hRefOutOddIdeal)
    ∧ preserves_ProjEven_ProjEvenIdeal
    ∧ algebraic_ProjEvenIdeal_RefProjEvenIdeal (hProjEvenIdeal := hProjEvenIdeal) (hRefProjEvenIdeal := hRefProjEvenIdeal)
    ∧ preserves_OutEven_OutEvenIdeal
    ∧ algebraic_OutEvenIdeal_RefOutEvenIdeal (hOutEvenIdeal := hOutEvenIdeal) (hRefOutEvenIdeal := hRefOutEvenIdeal)
-- ==== Pre_finite.lean ====
abbrev S65536x1536 : Shape := ⟨2, ![65536, 1536]⟩
abbrev S_ : Shape := ⟨0, ![]⟩

class Facts : Prop where
  bcast_S_S65536x1536 : S_.BroadcastsInDim S65536x1536 (![] : Fin 0 → Fin S65536x1536.rank)

variable [Facts]

def fn {F : FTy → Type} [FloatOps F] (main_arg0 : FVec F S65536x1536 .f32) : IVec S65536x1536 1 :=
  let main_v0 : FVec F S65536x1536 .f32 := Host.absf main_arg0
  let main_cst : FVec F S_ .f32 := constant S_ .f32 0x7F800000#32
  let main_v1 : FVec F S65536x1536 .f32 := broadcastInDim S65536x1536 ![] bcast_S_S65536x1536 main_cst
  let main_v2 : IVec S65536x1536 1 := cmpf .olt main_v0 main_v1
  main_v2
-- ==== Dil16.lean ====
abbrev S65536x1536 : Shape := ⟨2, ![65536, 1536]⟩
abbrev S65536x512 : Shape := ⟨2, ![65536, 512]⟩
abbrev S_ : Shape := ⟨0, ![]⟩
abbrev S65536x1024 : Shape := ⟨2, ![65536, 1024]⟩
abbrev S1024x512 : Shape := ⟨2, ![1024, 512]⟩
abbrev S4x3x128x256 : Shape := ⟨4, ![4, 3, 128, 256]⟩
abbrev S128x128 : Shape := ⟨2, ![128, 128]⟩
abbrev S128x256 : Shape := ⟨2, ![128, 256]⟩
abbrev S1x1x128x256 : Shape := ⟨4, ![1, 1, 128, 256]⟩
abbrev S16x128 : Shape := ⟨2, ![16, 128]⟩
abbrev S256x128 : Shape := ⟨2, ![256, 128]⟩
abbrev S256 : Shape := ⟨1, ![256]⟩
abbrev S1x256 : Shape := ⟨2, ![1, 256]⟩
abbrev S144x128 : Shape := ⟨2, ![144, 128]⟩
abbrev S144x256 : Shape := ⟨2, ![144, 256]⟩
abbrev S64x128 : Shape := ⟨2, ![64, 128]⟩
abbrev S1x128 : Shape := ⟨2, ![1, 128]⟩

abbrev nBuf : Space → Nat
  | .hbm => 14
  | .vmem => 11
  | .smem => 0
  | _ => 0

abbrev bufTy : (tb : Table) → Fin (tcTables nBuf tb) → BufTy
  | .hbm, ⟨0, _⟩ => ⟨S65536x1536, .f32⟩
  | .hbm, ⟨1, _⟩ => ⟨S65536x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S65536x512, .f32⟩
  | .hbm, ⟨8, _⟩ => ⟨S65536x512, .f32⟩
  | .hbm, ⟨9, _⟩ => ⟨S65536x1024, .f32⟩
  | .hbm, ⟨10, _⟩ => ⟨S65536x1536, .f32⟩
  | .hbm, ⟨11, _⟩ => ⟨S65536x1536, .bf16⟩
  | .hbm, ⟨12, _⟩ => ⟨S65536x512, .bf16⟩
  | .hbm, ⟨13, _⟩ => ⟨S65536x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S4x3x128x256, .f32⟩
  | _, _ => ⟨S65536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Dil16Ideal.lean ====
variable {F : FTy → Type} [FloatOps F] [Named F]
def κ : String → Option EReal := fun
  | "log2e_m1" => some (((Real.log 2)⁻¹ * (1 / 2) : ℝ) : EReal)
  | "log2e_m2" => some (((Real.log 2)⁻¹ * (1 / 4) : ℝ) : EReal)
  | "log2e_m3" => some (((Real.log 2)⁻¹ * (1 / 8) : ℝ) : EReal)
  | "log2e_m4" => some (((Real.log 2)⁻¹ * (1 / 16) : ℝ) : EReal)
  | "log2e_p0" => some (((Real.log 2)⁻¹ : ℝ) : EReal)
  | "log2e_p1" => some (((Real.log 2)⁻¹ * 2 : ℝ) : EReal)
  | "log2e_p2" => some (((Real.log 2)⁻¹ * 4 : ℝ) : EReal)
  | "log2e_p3" => some (((Real.log 2)⁻¹ * 8 : ℝ) : EReal)
  | "mask" => some ⊤
  | _ => none
-- ==== RefDil16Ideal.lean ====
abbrev S65536x1536 : Shape := ⟨2, ![65536, 1536]⟩
abbrev S8 : Shape := ⟨1, ![8]⟩
abbrev S65536x512 : Shape := ⟨2, ![65536, 512]⟩
abbrev S512x128x8x64 : Shape := ⟨4, ![512, 128, 8, 64]⟩
abbrev S512x8x128x64 : Shape := ⟨4, ![512, 8, 128, 64]⟩
abbrev S512x8x128x128 : Shape := ⟨4, ![512, 8, 128, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x8x1x1 : Shape := ⟨4, ![1, 8, 1, 1]⟩
abbrev S1x1x128x128 : Shape := ⟨4, ![1, 1, 128, 128]⟩
abbrev S1x8x128x128 : Shape := ⟨4, ![1, 8, 128, 128]⟩
abbrev S512x8x128 : Shape := ⟨3, ![512, 8, 128]⟩
abbrev S512x8x128x1 : Shape := ⟨4, ![512, 8, 128, 1]⟩

abbrev nBuf : Space → Nat
  | .hbm => 67
  | .vmem => 0
  | .smem => 0
  | _ => 0

abbrev bufTy : (tb : Table) → Fin (tcTables nBuf tb) → BufTy
  | .hbm, ⟨0, _⟩ => ⟨S65536x1536, .f32⟩
  | .hbm, ⟨1, _⟩ => ⟨S8, .f32⟩
  | .hbm, ⟨2, _⟩ => ⟨S65536x512, .f32⟩
  | .hbm, ⟨3, _⟩ => ⟨S512x128x8x64, .f32⟩
  | .hbm, ⟨4, _⟩ => ⟨S512x8x128x64, .f32⟩
  | .hbm, ⟨5, _⟩ => ⟨S65536x512, .f32⟩
  | .hbm, ⟨6, _⟩ => ⟨S512x128x8x64, .f32⟩
  | .hbm, ⟨7, _⟩ => ⟨S512x8x128x64, .f32⟩
  | .hbm, ⟨8, _⟩ => ⟨S65536x512, .f32⟩
  | .hbm, ⟨9, _⟩ => ⟨S512x128x8x64, .f32⟩
  | .hbm, ⟨10, _⟩ => ⟨S512x8x128x64, .f32⟩
  | .hbm, ⟨11, _⟩ => ⟨S512x8x128x128, .f32⟩
  | .hbm, ⟨12, _⟩ => ⟨S_, .f32⟩
  | .hbm, ⟨13, _⟩ => ⟨S512x8x128x128, .f32⟩
  | .hbm, ⟨14, _⟩ => ⟨S512x8x128x128, .f32⟩
  | .hbm, ⟨15, _⟩ => ⟨S128, .i32⟩
  | .hbm, ⟨16, _⟩ => ⟨S128x1, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S1x8x1x1, .f32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S128x128, .f32⟩
  | .hbm, ⟨27, _⟩ => ⟨S1x1x128x128, .f32⟩
  | .hbm, ⟨28, _⟩ => ⟨S1x8x128x128, .f32⟩
  | .hbm, ⟨29, _⟩ => ⟨S1x8x128x128, .f32⟩
  | .hbm, ⟨30, _⟩ => ⟨S1x8x128x128, .f32⟩
  | .hbm, ⟨31, _⟩ => ⟨S512x8x128x128, .f32⟩
  | .hbm, ⟨32, _⟩ => ⟨S512x8x128x128, .f32⟩
  | .hbm, ⟨33, _⟩ => ⟨S_, .i32⟩
  | .hbm, ⟨34, _⟩ => ⟨S128x128, .i32⟩
  | .hbm, ⟨35, _⟩ => ⟨S128x128, .i1⟩
  | .hbm, ⟨36, _⟩ => ⟨S_, .f32⟩
  | .hbm, ⟨37, _⟩ => ⟨S_, .f32⟩
  | .hbm, ⟨38, _⟩ => ⟨S512x8x128x128, .i1⟩
  | .hbm, ⟨39, _⟩ => ⟨S512x8x128x128, .f32⟩
  | .hbm, ⟨40, _⟩ => ⟨S512x8x128x128, .f32⟩
  | .hbm, ⟨41, _⟩ => ⟨S_, .f32⟩
  | .hbm, ⟨42, _⟩ => ⟨S512x8x128, .f32⟩
  | .hbm, ⟨43, _⟩ => ⟨S512x8x128x1, .f32⟩
  | .hbm, ⟨44, _⟩ => ⟨S512x8x128x128, .f32⟩
  | .hbm, ⟨45, _⟩ => ⟨S512x8x128x128, .f32⟩
  | .hbm, ⟨46, _⟩ => ⟨S512x8x128x128, .f32⟩
  | .hbm, ⟨47, _⟩ => ⟨S_, .f32⟩
  | .hbm, ⟨48, _⟩ => ⟨S512x8x128, .f32⟩
  | .hbm, ⟨49, _⟩ => ⟨S512x8x128x64, .f32⟩
  | .hbm, ⟨50, _⟩ => ⟨S512x8x128x1, .f32⟩
  | .hbm, ⟨51, _⟩ => ⟨S512x8x128x64, .f32⟩
  | .hbm, ⟨52, _⟩ => ⟨S512x8x128x64, .f32⟩
  | .hbm, ⟨53, _⟩ => ⟨S512x8x128, .f32⟩
  | .hbm, ⟨54, _⟩ => ⟨S512x8x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S512x8x128, .f32⟩
  | .hbm, ⟨59, _⟩ => ⟨S512x8x128, .f32⟩
  | .hbm, ⟨60, _⟩ => ⟨S512x8x128x1, .f32⟩
  | .hbm, ⟨61, _⟩ => ⟨S512x8x128x64, .f32⟩
  | .hbm, ⟨62, _⟩ => ⟨S512x128x8x64, .f32⟩
  | .hbm, ⟨63, _⟩ => ⟨S65536x512, .f32⟩
  | .hbm, ⟨64, _⟩ => ⟨S65536x512, .bf16⟩
  | .hbm, ⟨65, _⟩ => ⟨S512x128x8x64, .f32⟩
  | .hbm, ⟨66, _⟩ => ⟨S65536x512, .f32⟩
  | _, _ => ⟨S65536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_c_1 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== ProjOdd.lean ====
abbrev S65536x1024 : Shape := ⟨2, ![65536, 1024]⟩
abbrev S1024 : Shape := ⟨1, ![1024]⟩
abbrev S1024x6400 : Shape := ⟨2, ![1024, 6400]⟩
abbrev S1x1024 : Shape := ⟨2, ![1, 1024]⟩
abbrev S65536x6400 : Shape := ⟨2, ![65536, 6400]⟩
abbrev S512x1024 : Shape := ⟨2, ![512, 1024]⟩
abbrev S512x6400 : Shape := ⟨2, ![512, 6400]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩

abbrev nBuf : Space → Nat
  | .hbm => 5
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6400, .bf16⟩
  | .hbm, ⟨3, _⟩ => ⟨S1x1024, .f32⟩
  | .hbm, ⟨4, _⟩ => ⟨S65536x6400, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6400, .bf16⟩
  | .local _ .vmem, ⟨4, _⟩ => ⟨S512x6400, .bf16⟩
  | .local _ .vmem, ⟨5, _⟩ => ⟨S512x6400, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6400 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefProjOddIdeal.lean ====
abbrev S65536x1024 : Shape := ⟨2, ![65536, 1024]⟩
abbrev S1024 : Shape := ⟨1, ![1024]⟩
abbrev S1024x6400 : Shape := ⟨2, ![1024, 6400]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6400 : Shape := ⟨2, ![65536, 6400]⟩

abbrev nBuf : Space → Nat
  | .hbm => 22
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6400, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S1024x6400, .f32⟩
  | .hbm, ⟨20, _⟩ => ⟨S65536x6400, .f32⟩
  | .hbm, ⟨21, _⟩ => ⟨S65536x6400, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutOdd.lean ====
abbrev S65536x1024 : Shape := ⟨2, ![65536, 1024]⟩
abbrev S1536x1024 : Shape := ⟨2, ![1536, 1024]⟩
abbrev S65536x512 : Shape := ⟨2, ![65536, 512]⟩
abbrev S65536x6400 : Shape := ⟨2, ![65536, 6400]⟩
abbrev S128 : Shape := ⟨1, ![128]⟩
abbrev S1024 : Shape := ⟨1, ![1024]⟩
abbrev S1024x1024 : Shape := ⟨2, ![1024, 1024]⟩
abbrev S512x1024 : Shape := ⟨2, ![512, 1024]⟩
abbrev S1x128 : Shape := ⟨2, ![1, 128]⟩
abbrev S1x1024 : Shape := ⟨2, ![1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1536x1024, .f32⟩
  | .hbm, ⟨3, _⟩ => ⟨S65536x512, .f32⟩
  | .hbm, ⟨4, _⟩ => ⟨S65536x512, .f32⟩
  | .hbm, ⟨5, _⟩ => ⟨S65536x6400, .bf16⟩
  | .hbm, ⟨6, _⟩ => ⟨S128, .f32⟩
  | .hbm, ⟨7, _⟩ => ⟨S1024, .f32⟩
  | .hbm, ⟨8, _⟩ => ⟨S1536x1024, .bf16⟩
  | .hbm, ⟨9, _⟩ => ⟨S1024x1024, .bf16⟩
  | .hbm, ⟨10, _⟩ => ⟨S512x1024, .bf16⟩
  | .hbm, ⟨11, _⟩ => ⟨S1x128, .f32⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x128, .f32⟩
  | .local _ .vmem, ⟨11, _⟩ => ⟨S1024x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefOutOddIdeal.lean ====
abbrev S65536x1024 : Shape := ⟨2, ![65536, 1024]⟩
abbrev S1536x1024 : Shape := ⟨2, ![1536, 1024]⟩
abbrev S65536x512 : Shape := ⟨2, ![65536, 512]⟩
abbrev S65536x6400 : Shape := ⟨2, ![65536, 6400]⟩
abbrev S128 : Shape := ⟨1, ![128]⟩
abbrev S1024 : Shape := ⟨1, ![1024]⟩
abbrev S65536x4x128 : Shape := ⟨3, ![65536, 4, 128]⟩
abbrev S_ : Shape := ⟨0, ![]⟩
abbrev S65536x4 : Shape := ⟨2, ![65536, 4]⟩
abbrev S65536x4x1 : Shape := ⟨3, ![65536, 4, 1]⟩
abbrev S1x1x128 : Shape := ⟨3, ![1, 1, 128]⟩
abbrev S65536x1536 : Shape := ⟨2, ![65536, 1536]⟩
abbrev S65536 : Shape := ⟨1, ![65536]⟩
abbrev S65536x1 : Shape := ⟨2, ![65536, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1536x1024, .f32⟩
  | .hbm, ⟨3, _⟩ => ⟨S65536x512, .f32⟩
  | .hbm, ⟨4, _⟩ => ⟨S65536x512, .f32⟩
  | .hbm, ⟨5, _⟩ => ⟨S65536x6400, .bf16⟩
  | .hbm, ⟨6, _⟩ => ⟨S128, .f32⟩
  | .hbm, ⟨7, _⟩ => ⟨S1024, .f32⟩
  | .hbm, ⟨8, _⟩ => ⟨S65536x512, .f32⟩
  | .hbm, ⟨9, _⟩ => ⟨S65536x4x128, .f32⟩
  | .hbm, ⟨10, _⟩ => ⟨S65536x4x128, .f32⟩
  | .hbm, ⟨11, _⟩ => ⟨S_, .f32⟩
  | .hbm, ⟨12, _⟩ => ⟨S65536x4, .f32⟩
  | .hbm, ⟨13, _⟩ => ⟨S65536x4x1, .f32⟩
  | .hbm, ⟨14, _⟩ => ⟨S_, .f32⟩
  | .hbm, ⟨15, _⟩ => ⟨S65536x4x1, .f32⟩
  | .hbm, ⟨16, _⟩ => ⟨S65536x4x1, .f32⟩
  | .hbm, ⟨17, _⟩ => ⟨S_, .f32⟩
  | .hbm, ⟨18, _⟩ => ⟨S65536x4x1, .f32⟩
  | .hbm, ⟨19, _⟩ => ⟨S65536x4x1, .f32⟩
  | .hbm, ⟨20, _⟩ => ⟨S65536x4x1, .f32⟩
  | .hbm, ⟨21, _⟩ => ⟨S65536x4x128, .f32⟩
  | .hbm, ⟨22, _⟩ => ⟨S65536x4x128, .f32⟩
  | .hbm, ⟨23, _⟩ => ⟨S1x1x128, .f32⟩
  | .hbm, ⟨24, _⟩ => ⟨S65536x4x128, .f32⟩
  | .hbm, ⟨25, _⟩ => ⟨S65536x4x128, .f32⟩
  | .hbm, ⟨26, _⟩ => ⟨S65536x512, .f32⟩
  | .hbm, ⟨27, _⟩ => ⟨S65536x512, .bf16⟩
  | .hbm, ⟨28, _⟩ => ⟨S65536x512, .f32⟩
  | .hbm, ⟨29, _⟩ => ⟨S65536x1024, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S65536x1536, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S1x1024, .f32⟩
  | .hbm, ⟨57, _⟩ => ⟨S65536x1024, .f32⟩
  | .hbm, ⟨58, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== ProjEven.lean ====
abbrev S65536x1024 : Shape := ⟨2, ![65536, 1024]⟩
abbrev S1024 : Shape := ⟨1, ![1024]⟩
abbrev S1024x7680 : Shape := ⟨2, ![1024, 7680]⟩
abbrev S1x1024 : Shape := ⟨2, ![1, 1024]⟩
abbrev S65536x3072 : Shape := ⟨2, ![65536, 3072]⟩
abbrev S65536x1536 : Shape := ⟨2, ![65536, 1536]⟩
abbrev S32x4x512x1536 : Shape := ⟨4, ![32, 4, 512, 1536]⟩
abbrev S32x16x128x1536 : Shape := ⟨4, ![32, 16, 128, 1536]⟩
abbrev S512x1024 : Shape := ⟨2, ![512, 1024]⟩
abbrev S512x3072 : Shape := ⟨2, ![512, 3072]⟩
abbrev S512x1536 : Shape := ⟨2, ![512, 1536]⟩
abbrev S1x4x128x1536 : Shape := ⟨4, ![1, 4, 128, 1536]⟩
abbrev S1x16x32x1536 : Shape := ⟨4, ![1, 16, 32, 1536]⟩
abbrev S8x512x128 : Shape := ⟨3, ![8, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1024x1536 : Shape := ⟨2, ![1024, 1536]⟩
abbrev S1x128x128 : Shape := ⟨3, ![1, 128, 128]⟩
abbrev S128x128 : Shape := ⟨2, ![128, 128]⟩
abbrev S128x1024 : Shape := ⟨2, ![128, 1024]⟩
abbrev S128x1536 : Shape := ⟨2, ![128, 1536]⟩
abbrev S1x1x128x1536 : Shape := ⟨4, ![1, 1, 128, 1536]⟩
abbrev S1x32x128 : Shape := ⟨3, ![1, 32, 128]⟩
abbrev S32x128 : Shape := ⟨2, ![32, 128]⟩
abbrev S32x1024 : Shape := ⟨2, ![32, 1024]⟩
abbrev S32x1536 : Shape := ⟨2, ![32, 1536]⟩
abbrev S1x1x32x1536 : Shape := ⟨4, ![1, 1, 32, 1536]⟩

abbrev nBuf : Space → Nat
  | .hbm => 8
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x7680, .bf16⟩
  | .hbm, ⟨3, _⟩ => ⟨S1x1024, .f32⟩
  | .hbm, ⟨4, _⟩ => ⟨S65536x3072, .bf16⟩
  | .hbm, ⟨5, _⟩ => ⟨S65536x1536, .bf16⟩
  | .hbm, ⟨6, _⟩ => ⟨S32x4x512x1536, .bf16⟩
  | .hbm, ⟨7, _⟩ => ⟨S32x16x128x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7680, .bf16⟩
  | .local _ .vmem, ⟨4, _⟩ => ⟨S512x3072, .bf16⟩
  | .local _ .vmem, ⟨5, _⟩ => ⟨S512x3072, .bf16⟩
  | .local _ .vmem, ⟨6, _⟩ => ⟨S512x1536, .bf16⟩
  | .local _ .vmem, ⟨7, _⟩ => ⟨S512x1536, .bf16⟩
  | .local _ .vmem, ⟨8, _⟩ => ⟨S1x4x128x1536, .bf16⟩
  | .local _ .vmem, ⟨9, _⟩ => ⟨S1x4x128x1536, .bf16⟩
  | .local _ .vmem, ⟨10, _⟩ => ⟨S1x16x32x1536, .bf16⟩
  | .local _ .vmem, ⟨11, _⟩ => ⟨S1x16x32x1536, .bf16⟩
  | .local _ .vmem, ⟨12, _⟩ => ⟨S8x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefProjEvenIdeal.lean ====
abbrev S65536x1024 : Shape := ⟨2, ![65536, 1024]⟩
abbrev S1024 : Shape := ⟨1, ![1024]⟩
abbrev S1024x7680 : Shape := ⟨2, ![1024, 7680]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x7680 : Shape := ⟨2, ![65536, 7680]⟩
abbrev S65536x3072 : Shape := ⟨2, ![65536, 3072]⟩
abbrev S65536x1536 : Shape := ⟨2, ![65536, 1536]⟩
abbrev S32x512x4x1536 : Shape := ⟨4, ![32, 512, 4, 1536]⟩
abbrev S32x4x512x1536 : Shape := ⟨4, ![32, 4, 512, 1536]⟩
abbrev S32x128x16x1536 : Shape := ⟨4, ![32, 128, 16, 1536]⟩
abbrev S32x16x128x1536 : Shape := ⟨4, ![32, 16, 128, 1536]⟩

abbrev nBuf : Space → Nat
  | .hbm => 30
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x7680, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S1024x7680, .f32⟩
  | .hbm, ⟨20, _⟩ => ⟨S65536x7680, .f32⟩
  | .hbm, ⟨21, _⟩ => ⟨S65536x7680, .bf16⟩
  | .hbm, ⟨22, _⟩ => ⟨S65536x3072, .bf16⟩
  | .hbm, ⟨23, _⟩ => ⟨S65536x1536, .bf16⟩
  | .hbm, ⟨24, _⟩ => ⟨S65536x1536, .bf16⟩
  | .hbm, ⟨25, _⟩ => ⟨S65536x1536, .bf16⟩
  | .hbm, ⟨26, _⟩ => ⟨S32x512x4x1536, .bf16⟩
  | .hbm, ⟨27, _⟩ => ⟨S32x4x512x1536, .bf16⟩
  | .hbm, ⟨28, _⟩ => ⟨S32x128x16x1536, .bf16⟩
  | .hbm, ⟨29, _⟩ => ⟨S32x16x128x1536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== OutEven.lean ====
abbrev S65536x1024 : Shape := ⟨2, ![65536, 1024]⟩
abbrev S1536x1024 : Shape := ⟨2, ![1536, 1024]⟩
abbrev S65536x512 : Shape := ⟨2, ![65536, 512]⟩
abbrev S65536x3072 : Shape := ⟨2, ![65536, 3072]⟩
abbrev S32x4x512x512 : Shape := ⟨4, ![32, 4, 512, 512]⟩
abbrev S32x16x128x512 : Shape := ⟨4, ![32, 16, 128, 512]⟩
abbrev S1024x1024 : Shape := ⟨2, ![1024, 1024]⟩
abbrev S512x1024 : Shape := ⟨2, ![512, 1024]⟩
abbrev S512x512 : Shape := ⟨2, ![512, 512]⟩
abbrev S1x4x128x512 : Shape := ⟨4, ![1, 4, 128, 512]⟩
abbrev S1x16x32x512 : Shape := ⟨4, ![1, 16, 32, 512]⟩
abbrev S4x4x512x128 : Shape := ⟨4, ![4, 4, 512, 128]⟩
abbrev S512x128 : Shape := ⟨2, ![512, 128]⟩
abbrev S1x1x128x128 : Shape := ⟨4, ![1, 1, 128, 128]⟩
abbrev S128x128 : Shape := ⟨2, ![128, 128]⟩
abbrev S1x1x512x128 : Shape := ⟨4, ![1, 1, 512, 128]⟩
abbrev S1x1x32x128 : Shape := ⟨4, ![1, 1, 32, 128]⟩
abbrev S32x128 : Shape := ⟨2, ![32, 128]⟩

abbrev nBuf : Space → Nat
  | .hbm => 18
  | .vmem => 24
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1536x1024, .f32⟩
  | .hbm, ⟨3, _⟩ => ⟨S65536x512, .bf16⟩
  | .hbm, ⟨4, _⟩ => ⟨S65536x512, .f32⟩
  | .hbm, ⟨5, _⟩ => ⟨S65536x512, .bf16⟩
  | .hbm, ⟨6, _⟩ => ⟨S65536x512, .f32⟩
  | .hbm, ⟨7, _⟩ => ⟨S65536x512, .bf16⟩
  | .hbm, ⟨8, _⟩ => ⟨S65536x512, .f32⟩
  | .hbm, ⟨9, _⟩ => ⟨S65536x3072, .bf16⟩
  | .hbm, ⟨10, _⟩ => ⟨S1536x1024, .bf16⟩
  | .hbm, ⟨11, _⟩ => ⟨S32x4x512x512, .bf16⟩
  | .hbm, ⟨12, _⟩ => ⟨S32x4x512x512, .f32⟩
  | .hbm, ⟨13, _⟩ => ⟨S32x16x128x512, .bf16⟩
  | .hbm, ⟨14, _⟩ => ⟨S32x16x128x512, .f32⟩
  | .hbm, ⟨15, _⟩ => ⟨S1024x1024, .bf16⟩
  | .hbm, ⟨16, _⟩ => ⟨S512x1024, .bf16⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S1x4x128x512, .bf16⟩
  | .local _ .vmem, ⟨9, _⟩ => ⟨S1x4x128x512, .bf16⟩
  | .local _ .vmem, ⟨10, _⟩ => ⟨S1x4x128x512, .f32⟩
  | .local _ .vmem, ⟨11, _⟩ => ⟨S1x4x128x512, .f32⟩
  | .local _ .vmem, ⟨12, _⟩ => ⟨S1x16x32x512, .bf16⟩
  | .local _ .vmem, ⟨13, _⟩ => ⟨S1x16x32x512, .bf16⟩
  | .local _ .vmem, ⟨14, _⟩ => ⟨S1x16x32x512, .f32⟩
  | .local _ .vmem, ⟨15, _⟩ => ⟨S1x16x32x512, .f32⟩
  | .local _ .vmem, ⟨16, _⟩ => ⟨S512x512, .bf16⟩
  | .local _ .vmem, ⟨17, _⟩ => ⟨S512x512, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x512, .bf16⟩
  | .local _ .vmem, ⟨23, _⟩ => ⟨S4x4x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefOutEvenIdeal.lean ====
abbrev S65536x1024 : Shape := ⟨2, ![65536, 1024]⟩
abbrev S1536x1024 : Shape := ⟨2, ![1536, 1024]⟩
abbrev S65536x512 : Shape := ⟨2, ![65536, 512]⟩
abbrev S65536x3072 : Shape := ⟨2, ![65536, 3072]⟩
abbrev S32x1x2048x512 : Shape := ⟨4, ![32, 1, 2048, 512]⟩
abbrev S32x2048x1x512 : Shape := ⟨4, ![32, 2048, 1, 512]⟩
abbrev S32x4x512x512 : Shape := ⟨4, ![32, 4, 512, 512]⟩
abbrev S32x512x4x512 : Shape := ⟨4, ![32, 512, 4, 512]⟩
abbrev S32x16x128x512 : Shape := ⟨4, ![32, 16, 128, 512]⟩
abbrev S32x128x16x512 : Shape := ⟨4, ![32, 128, 16, 512]⟩
abbrev S_ : Shape := ⟨0, ![]⟩
abbrev S65536x1536 : Shape := ⟨2, ![65536, 1536]⟩

abbrev nBuf : Space → Nat
  | .hbm => 78
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1536x1024, .f32⟩
  | .hbm, ⟨3, _⟩ => ⟨S65536x512, .bf16⟩
  | .hbm, ⟨4, _⟩ => ⟨S65536x512, .f32⟩
  | .hbm, ⟨5, _⟩ => ⟨S65536x512, .bf16⟩
  | .hbm, ⟨6, _⟩ => ⟨S65536x512, .f32⟩
  | .hbm, ⟨7, _⟩ => ⟨S65536x512, .bf16⟩
  | .hbm, ⟨8, _⟩ => ⟨S65536x512, .f32⟩
  | .hbm, ⟨9, _⟩ => ⟨S65536x3072, .bf16⟩
  | .hbm, ⟨10, _⟩ => ⟨S32x1x2048x512, .f32⟩
  | .hbm, ⟨11, _⟩ => ⟨S32x2048x1x512, .f32⟩
  | .hbm, ⟨12, _⟩ => ⟨S65536x512, .f32⟩
  | .hbm, ⟨13, _⟩ => ⟨S32x4x512x512, .f32⟩
  | .hbm, ⟨14, _⟩ => ⟨S32x512x4x512, .f32⟩
  | .hbm, ⟨15, _⟩ => ⟨S65536x512, .f32⟩
  | .hbm, ⟨16, _⟩ => ⟨S32x16x128x512, .f32⟩
  | .hbm, ⟨17, _⟩ => ⟨S32x128x16x512, .f32⟩
  | .hbm, ⟨18, _⟩ => ⟨S65536x512, .f32⟩
  | .hbm, ⟨19, _⟩ => ⟨S65536x512, .f32⟩
  | .hbm, ⟨20, _⟩ => ⟨S32x1x2048x512, .f32⟩
  | .hbm, ⟨21, _⟩ => ⟨S32x2048x1x512, .f32⟩
  | .hbm, ⟨22, _⟩ => ⟨S65536x512, .f32⟩
  | .hbm, ⟨23, _⟩ => ⟨S65536x512, .f32⟩
  | .hbm, ⟨24, _⟩ => ⟨S32x4x512x512, .f32⟩
  | .hbm, ⟨25, _⟩ => ⟨S32x512x4x512, .f32⟩
  | .hbm, ⟨26, _⟩ => ⟨S65536x512, .f32⟩
  | .hbm, ⟨27, _⟩ => ⟨S65536x512, .f32⟩
  | .hbm, ⟨28, _⟩ => ⟨S32x16x128x512, .f32⟩
  | .hbm, ⟨29, _⟩ => ⟨S32x128x16x512, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S65536x512, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S65536x512, .f32⟩
  | .hbm, ⟨62, _⟩ => ⟨S65536x512, .bf16⟩
  | .hbm, ⟨63, _⟩ => ⟨S65536x512, .f32⟩
  | .hbm, ⟨64, _⟩ => ⟨S65536x1024, .f32⟩
  | .hbm, ⟨65, _⟩ => ⟨S65536x512, .f32⟩
  | .hbm, ⟨66, _⟩ => ⟨S65536x512, .f32⟩
  | .hbm, ⟨67, _⟩ => ⟨S_, .f32⟩
  | .hbm, ⟨68, _⟩ => ⟨S65536x512, .f32⟩
  | .hbm, ⟨69, _⟩ => ⟨S65536x512, .f32⟩
  | .hbm, ⟨70, _⟩ => ⟨S_, .f32⟩
  | .hbm, ⟨71, _⟩ => ⟨S65536x512, .f32⟩
  | .hbm, ⟨72, _⟩ => ⟨S65536x512, .f32⟩
  | .hbm, ⟨73, _⟩ => ⟨S65536x512, .f32⟩
  | .hbm, ⟨74, _⟩ => ⟨S65536x512, .f32⟩
  | .hbm, ⟨75, _⟩ => ⟨S65536x1536, .f32⟩
  | .hbm, ⟨76, _⟩ => ⟨S65536x1024, .f32⟩
  | .hbm, ⟨77, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.Softmax.lean ====
/-
  The softmax in base two against the softmax in base e, over the extended reals: scores scaled by the reciprocal of the logarithm of two give, by
  powers of two, the same weights, and their log-sum-exponent is scaled likewise.
-/
module

public import Idealize.ShloMosaic.Lib.Pointwise
public import Idealize.ShloMosaic.Adequacy

@[expose] public section

noncomputable section

open Idealize.ShloMosaic

namespace Cert.Softmax

/-- The reciprocal of the logarithm of two. -/
def L : ℝ := (Real.log 2)⁻¹

/-- It is positive. -/
theorem L_pos : 0 < L := inv_pos.mpr (Real.log_pos one_lt_two)

/-- It is the reciprocal. -/
theorem L_mul_log : L * Real.log 2 = 1 := inv_mul_cancel₀ (Real.log_pos one_lt_two).ne'

/-- The logarithm of two is a real number. -/
theorem log_two : Ideal.log 2 = ((Real.log 2 : ℝ) : EReal) := by
  rw [show (2 : EReal) = ((2 : ℝ) : EReal) from rfl, Ideal.log_coe, if_neg (by norm_num)]

/-- Division by the logarithm of two is multiplication by its reciprocal. -/
theorem div_log_two (x : EReal) : Ideal.div x (Ideal.log 2) = x * (L : EReal) := by
  have h : (Real.log 2 : ℝ) ≠ 0 := (Real.log_pos one_lt_two).ne'
  rw [log_two]
  unfold Ideal.div
  rw [if_neg (by exact_mod_cast h), ← EReal.coe_inv]
  rfl

/-- A power of two with a scaled exponent is the exponential. -/
theorem exp2_mul (x : EReal) : Ideal.exp2 (x * (L : EReal)) = Ideal.exp x := by
  induction x using EReal.rec with
  | bot => rw [EReal.bot_mul_coe_of_pos L_pos]; simp
  | top => rw [EReal.top_mul_coe_of_pos L_pos]; simp
  | coe r =>
    rw [← EReal.coe_mul, Ideal.exp_coe, Ideal.exp2_coe]
    congr 1
    show (2 : ℝ) ^ (r * L) = Real.exp r
    rw [Real.rpow_def_of_pos two_pos]
    congr 1
    rw [mul_comm, mul_assoc, L_mul_log, mul_one]

/-- Scaling by a positive real distributes over a sum of extended reals. -/
theorem add_mul_L (x y : EReal) : (x + y) * (L : EReal) = x * (L : EReal) + y * (L : EReal) :=
  EReal.right_distrib_of_nonneg_of_ne_top (EReal.coe_nonneg.mpr L_pos.le) (EReal.coe_ne_top L) x y

/-- Scaling by a positive real distributes over a difference of extended reals. -/
theorem sub_mul_L (x y : EReal) : (x - y) * (L : EReal) = x * (L : EReal) - y * (L : EReal) := by
  rw [sub_eq_add_neg, add_mul_L, EReal.neg_mul, ← sub_eq_add_neg]

/-- The largest of scaled scores is the scaled largest score. -/
theorem fold_mul {ι : Type} (s : Finset ι) (f : ι → EReal) :
    Finset.fold max ⊥ (fun j => f j * (L : EReal)) s = Finset.fold max ⊥ f s * (L : EReal) := by
  classical
  induction s using Finset.induction_on with
  | empty => simp [EReal.bot_mul_coe_of_pos L_pos]
  | insert a s ha ih =>
    rw [Finset.fold_insert ha, Finset.fold_insert ha, ih]
    have hm : Monotone fun x : EReal => x * (L : EReal) := fun x y hxy => mul_le_mul_of_nonneg_right hxy (EReal.coe_nonneg.mpr L_pos.le)
    exact hm.map_max.symm

/-- Weights in base two are weights in base e. -/
theorem weight {ι : Type} [Fintype ι] (f g : ι → EReal) (h : ∀ j, g j = f j * (L : EReal)) (j : ι) :
    Ideal.exp2 (g j - Finset.fold max ⊥ g Finset.univ) = Ideal.exp (f j - Finset.fold max ⊥ f Finset.univ) := by
  obtain rfl : g = fun j => f j * (L : EReal) := funext h
  rw [fold_mul, ← sub_mul_L, exp2_mul]

/-- Where some score is real and none is infinite above, the weights' sum is not zero. -/
theorem denom_ne_zero {ι : Type} [Fintype ι] (f : ι → EReal) (hb : ∃ j, f j ≠ ⊥) (ht : ∀ j, f j ≠ ⊤) :
    ∑ j, Ideal.exp (f j - Finset.fold max ⊥ f Finset.univ) ≠ 0 := by
  classical
  obtain ⟨j0, hj0⟩ := hb
  obtain ⟨k, -, hk⟩ := Finset.exists_max_image (Finset.univ : Finset ι) f ⟨j0, Finset.mem_univ _⟩
  have hM : Finset.fold max ⊥ f Finset.univ = f k := by
    apply le_antisymm
    · exact Finset.sup_le (s := Finset.univ) (f := f) (fun j _ => hk j (Finset.mem_univ _))
    · exact Finset.le_sup (f := f) (Finset.mem_univ k)
  have hkb : f k ≠ ⊥ := fun h => hj0 (le_bot_iff.mp (h ▸ hk j0 (Finset.mem_univ _)))
  have h1 : Ideal.exp (f k - f k) = 1 := by
    rw [EReal.sub_self (ht k) hkb, show (0 : EReal) = ((0 : ℝ) : EReal) from rfl, Ideal.exp_coe, Real.exp_zero]
    rfl
  have hn : ∀ x : EReal, 0 ≤ Ideal.exp x := fun x => by
    induction x using EReal.rec with
    | bot => simp
    | top => simp
    | coe r => rw [Ideal.exp_coe]; exact_mod_cast (Real.exp_pos r).le
  intro h0
  have := Finset.single_le_sum (f := fun j => Ideal.exp (f j - Finset.fold max ⊥ f Finset.univ)) (fun j _ => hn _) (Finset.mem_univ k)
  rw [h0, hM] at this
  simp only [h1] at this
  exact absurd this (by norm_num)

/-- Dividing by a nonzero number is multiplying by its reciprocal. -/
theorem mul_div_one (x d : EReal) (h : d ≠ 0) : x * Ideal.div 1 d = Ideal.div x d := by
  unfold Ideal.div
  rw [if_neg h, if_neg h, one_mul]

end Cert.Softmax

end
-- ==== Proof.Dil16.lean ====
/-
  The dilated attention of dilation 16: 512 sequences of 128 tokens, eight heads, a window of 64 tokens on each side and a penalty that grows with the
  distance. Each grid point does eight sequences in 32 tiles of two heads; its first point fills a table of penalties that the others read. Exponents
  are in base two. This module shows that the two arrays the kernel leaves are the reference's softmax attention over all keys of a sequence and its
  log-sum-exponents, where the argument's entries are real numbers.
-/
module
public import proofs.«01_k».proof.Defs
public import proofs.«01_k».proof.Proof.Gen.Dil16Ideal.Value
public import proofs.«01_k».proof.Proof.Gen.RefDil16Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import proofs.«01_k».proof.Proof.Softmax
@[expose] public section
set_option maxRecDepth 16384
noncomputable section
open Idealize.ShloMosaic Idealize.ShloMosaic.TcCoe Idealize.SL.Sem
open Idealize.ShloMosaic.Pipeline (Dat)
namespace Cert.RefDil16Ideal
open Cert.RefDil16Ideal.Gen

/-- The queries, by sequence, head, position and lane. -/
def HQ (z : FVec Ideal S65536x1536 .f32) : FVec Ideal S512x8x128x64 .f32 :=
  transpose S512x8x128x64 [0, 2, 1, 3] (shapeCast S512x128x8x64 (extractStridedSlice S65536x512 ![0, 0] z slices_S65536x1536_S65536x512_0_0) shapeCasts_S65536x512_S512x128x8x64) transposes_S512x128x8x64_S512x8x128x64_0_2_1_3
/-- The keys likewise. -/
def HK (z : FVec Ideal S65536x1536 .f32) : FVec Ideal S512x8x128x64 .f32 :=
  transpose S512x8x128x64 [0, 2, 1, 3] (shapeCast S512x128x8x64 (extractStridedSlice S65536x512 ![0, 512] z slices_S65536x1536_S65536x512_0_512) shapeCasts_S65536x512_S512x128x8x64) transposes_S512x128x8x64_S512x8x128x64_0_2_1_3
/-- The values likewise. -/
def HV (z : FVec Ideal S65536x1536 .f32) : FVec Ideal S512x8x128x64 .f32 :=
  transpose S512x8x128x64 [0, 2, 1, 3] (shapeCast S512x128x8x64 (extractStridedSlice S65536x512 ![0, 1024] z slices_S65536x1536_S65536x512_0_1024) shapeCasts_S65536x512_S512x128x8x64) transposes_S512x128x8x64_S512x8x128x64_0_2_1_3

/-- The distances between positions. -/
def DIST : IVec S128x128 32 :=
  absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))

/-- The masked scores. -/
def SC (z : FVec Ideal S65536x1536 .f32) : FVec Ideal S512x8x128x128 .f32 :=
  select (broadcastInDim S512x8x128x128 ![2, 3] bcast_S128x128_S512x8x128x128_2_3 (cmpi .sle DIST (broadcastInDim S128x128 ![] bcast_S_S128x128 (constantI S_ 32 64#32))))
    (subf (mulf (Host.dotGeneral dot_S512x8x128x64_S512x8x128x64_S512x8x128x128_3_3_2_2_01_01 none (HQ z) (HK z)) (broadcastInDim S512x8x128x128 ![] bcast_S_S512x8x128x128 (constant S_ .f32 0x3E000000#32)))
      (broadcastInDim S512x8x128x128 ![0, 1, 2, 3] bcast_S1x8x128x128_S512x8x128x128_0_1_2_3 (mulf
        (broadcastInDim S1x8x128x128 ![0, 1, 2, 3] bcast_S1x8x1x1_S1x8x128x128_0_1_2_3 (broadcastInDim S1x8x1x1 ![1] bcast_S8_S1x8x1x1_1 (fun i => FloatOps.ofBits .f32 (lit0 (S8.rowMajor i)))))
        (broadcastInDim S1x8x128x128 ![0, 1, 2, 3] bcast_S1x1x128x128_S1x8x128x128_0_1_2_3 (broadcastInDim S1x1x128x128 ![2, 3] bcast_S128x128_S1x1x128x128_2_3 (sitofp .f32 (muli (broadcastInDim S128x128 ![] bcast_S_S128x128 (constantI S_ 32 16#32)) DIST)))))))
    (broadcastInDim S512x8x128x128 ![] bcast_S_S512x8x128x128 (id (constant S_ .f32 0xFF800000#32)))

/-- The largest score of each query. -/
def MX (z : FVec Ideal S65536x1536 .f32) : FVec Ideal S512x8x128 .f32 :=
  Host.reduce FloatOps.maximumf (SC z) (constant S_ .f32 0xFF800000#32) reducesTo_S512x8x128x128_S512x8x128_d3 h_S_

/-- The weights before division. -/
def PR (z : FVec Ideal S65536x1536 .f32) : FVec Ideal S512x8x128x128 .f32 :=
  Host.exp (subf (SC z) (broadcastInDim S512x8x128x128 ![0, 1, 2, 3] bcast_S512x8x128x1_S512x8x128x128_0_1_2_3 (broadcastInDim S512x8x128x1 ![0, 1, 2] bcast_S512x8x128_S512x8x128x1_0_1_2 (MX z))))

/-- Their sums. -/
def DN (z : FVec Ideal S65536x1536 .f32) : FVec Ideal S512x8x128 .f32 :=
  Host.reduceAdd (PR z) (constant S_ .f32 0x00000000#32) reducesTo_S512x8x128x128_S512x8x128_d3 h_S_

/-- The attention's output, a row per token. -/
def RO (z : FVec Ideal S65536x1536 .f32) : FVec Ideal S65536x512 .bf16 :=
  truncf .bf16 (shapeCast S65536x512 (transpose S512x128x8x64 [0, 2, 1, 3] (Host.divf (Host.dotGeneral dot_S512x8x128x128_S512x8x128x64_S512x8x128x64_3_2_2_3_01_01 none (PR z) (HV z)) (broadcastInDim S512x8x128x64 ![0, 1, 2, 3] bcast_S512x8x128x1_S512x8x128x64_0_1_2_3 (broadcastInDim S512x8x128x1 ![0, 1, 2] bcast_S512x8x128_S512x8x128x1_0_1_2 (DN z)))) transposes_S512x8x128x64_S512x128x8x64_0_2_1_3) shapeCasts_S512x128x8x64_S65536x512) bitsLt_bf16_f32

/-- The log-sum-exponents over the logarithm of two. -/
def LS (z : FVec Ideal S65536x1536 .f32) : FVec Ideal S512x8x128 .f32 :=
  Host.divf (addf (MX z) (Host.log (DN z))) (broadcastInDim S512x8x128 ![] bcast_S_S512x8x128 (id (Host.log (constant S_ .f32 0x40000000#32))))

/-- The log-sum-exponent of each query in base two, the same for a head's lanes. -/
def RL (z : FVec Ideal S65536x1536 .f32) : FVec Ideal S65536x512 .f32 :=
  shapeCast S65536x512 (transpose S512x128x8x64 [0, 2, 1, 3] (broadcastInDim S512x8x128x64 ![0, 1, 2, 3] bcast_S512x8x128x1_S512x8x128x64_0_1_2_3 (broadcastInDim S512x8x128x1 ![0, 1, 2] bcast_S512x8x128_S512x8x128x1_0_1_2 (LS z))) transposes_S512x8x128x64_S512x128x8x64_0_2_1_3) shapeCasts_S512x128x8x64_S65536x512

/-- The literal 1/8. -/
theorem o8 : Ideal.ofBits .f32 1040187392#32 = (((1/8 : ℝ)) : EReal) := by
  simp [Ideal.ofBits, Ideal.ieee, -EReal.coe_mul]; norm_num
/-- The literal of minus infinity. -/
theorem oinf : Ideal.ofBits .f32 4286578688#32 = (⊥ : EReal) := by
  simp [Ideal.ofBits, Ideal.ieee]
/-- The literal 2. -/
theorem otwo : Ideal.ofBits .f32 0x40000000#32 = (2 : EReal) := by
  simp [Ideal.ofBits, Ideal.ieee, -EReal.coe_mul]; norm_num; rfl
/-- The head's headSlope. -/
def headSlope (hd : Fin 8) : ℝ := 2⁻¹ ^ (hd.val + 1)
/-- The table of slopes holds each head's slope. -/
theorem headSlope_lit (hd : Fin 8) : Ideal.ofBits .f32 (lit0 (S8.rowMajor (ix1 hd))) = ((headSlope hd : ℝ) : EReal) := by
  fin_cases hd
  · refine (congrArg (Ideal.ofBits .f32) (show lit0 (S8.rowMajor (ix1 0)) = 0x3F000000#32 from by decide)).trans ?_
    simp [headSlope, Ideal.ofBits, Ideal.ieee, -EReal.coe_mul]; norm_num
  · refine (congrArg (Ideal.ofBits .f32) (show lit0 (S8.rowMajor (ix1 1)) = 0x3E800000#32 from by decide)).trans ?_
    simp [headSlope, Ideal.ofBits, Ideal.ieee, -EReal.coe_mul]; norm_num
  · refine (congrArg (Ideal.ofBits .f32) (show lit0 (S8.rowMajor (ix1 2)) = 0x3E000000#32 from by decide)).trans ?_
    simp [headSlope, Ideal.ofBits, Ideal.ieee, -EReal.coe_mul]; norm_num
  · refine (congrArg (Ideal.ofBits .f32) (show lit0 (S8.rowMajor (ix1 3)) = 0x3D800000#32 from by decide)).trans ?_
    simp [headSlope, Ideal.ofBits, Ideal.ieee, -EReal.coe_mul]; norm_num
  · refine (congrArg (Ideal.ofBits .f32) (show lit0 (S8.rowMajor (ix1 4)) = 0x3D000000#32 from by decide)).trans ?_
    simp [headSlope, Ideal.ofBits, Ideal.ieee, -EReal.coe_mul]; norm_num
  · refine (congrArg (Ideal.ofBits .f32) (show lit0 (S8.rowMajor (ix1 5)) = 0x3C800000#32 from by decide)).trans ?_
    simp [headSlope, Ideal.ofBits, Ideal.ieee, -EReal.coe_mul]; norm_num
  · refine (congrArg (Ideal.ofBits .f32) (show lit0 (S8.rowMajor (ix1 6)) = 0x3C000000#32 from by decide)).trans ?_
    simp [headSlope, Ideal.ofBits, Ideal.ieee, -EReal.coe_mul]; norm_num
  · refine (congrArg (Ideal.ofBits .f32) (show lit0 (S8.rowMajor (ix1 7)) = 0x3B800000#32 from by decide)).trans ?_
    simp [headSlope, Ideal.ofBits, Ideal.ieee, -EReal.coe_mul]; norm_num

/-- A selection is a case distinction on its bit. -/
theorem sel (c : BitVec 1) (x y : EReal) : Scalar.select c x y = if c = 1#1 then x else y := rfl
/-- The distance of two positions. -/
def D (a κ : Fin 128) : BitVec 32 := IntOp.absi (IntOp.subi (BitVec.ofNat 32 a.val) (BitVec.ofNat 32 κ.val))
set_option maxRecDepth 100000 in
/-- Sixteen times a distance does not overflow. -/
theorem D16 : ∀ a κ : Fin 128, (IntOp.muli 16#32 (D a κ)).toInt = 16 * (D a κ).toInt := by decide +kernel
/-- A converted integer is the real number. -/
theorem si (b : BitVec 32) : FloatOps.sitofp (F := Ideal) .f32 b = (((b.toInt : ℝ)) : EReal) := rfl
/-- A finite sum of reals is the sum in the extended reals. -/
theorem csum {ι : Type} (s : Finset ι) (f : ι → ℝ) : ∑ x ∈ s, ((f x : ℝ) : EReal) = ((∑ x ∈ s, f x : ℝ) : EReal) := by
  classical
  induction s using Finset.induction_on with
  | empty => rfl
  | insert a s ha ih => rw [Finset.sum_insert ha, Finset.sum_insert ha, ih, EReal.coe_add]
/-- A masked score of the reference, on real operands, as a case distinction on the distance. -/
theorem SC_at (z : FVec Ideal S65536x1536 .f32) (zr : S65536x1536.Idx → ℝ) (hz : ∀ i, z i = ((zr i : ℝ) : EReal)) (s : Fin 512) (hd : Fin 8) (a κ : Fin 128) :
    SC z (ix4 s hd a κ) = if IntOp.cmpi .sle (D a κ) 64#32 = 1#1 then
      ((((∑ x : Fin 64, zr (ix2 ⟨s.val * 128 + a.val, by omega⟩ ⟨hd.val * 64 + x.val, by omega⟩) * zr (ix2 ⟨s.val * 128 + κ.val, by omega⟩ ⟨512 + (hd.val * 64 + x.val), by omega⟩)) * (1 / 8) - headSlope hd * (16 * ((D a κ).toInt : ℝ)) : ℝ)) : EReal) else ⊥ := by
  pointwise [SC, DIST, HQ, HK]
  simp only [id_eq, sel, hz, o8]
  have e := headSlope_lit hd
  have d := D16 a κ
  have b : constant (F := Ideal) S_ .f32 4286578688#32 ix0 = (⊥ : EReal) := oinf
  show (if IntOp.cmpi .sle (D a κ) 64#32 = 1#1 then _ * _ - Ideal.ofBits .f32 (lit0 (S8.rowMajor (ix1 hd))) * ((((IntOp.muli 16#32 (D a κ)).toInt : ℝ)) : EReal) else _) = _
  rw [e, d, b]
  split
  · push_cast
    simp only [← EReal.coe_mul, csum, ← EReal.coe_sub]
  · rfl
/-- The log-sum-exponent in base two, at an index, for any two arrays. -/
theorem LS0 (a b : FVec Ideal S512x8x128 .f32) (i : S512x8x128.Idx) : Host.divf (addf a (Host.log b)) (broadcastInDim S512x8x128 ![] bcast_S_S512x8x128 (id (Host.log (constant S_ .f32 0x40000000#32)))) i = Ideal.div (a i + Ideal.log (b i)) (Ideal.log (Ideal.ofBits .f32 0x40000000#32)) := rfl
/-- The log-sum-exponent at an index, from the largest score and the sum of the weights. -/
theorem LS_at (z : FVec Ideal S65536x1536 .f32) (i : S512x8x128.Idx) : LS z i = Ideal.div (MX z i + Ideal.log (DN z i)) (Ideal.log (Ideal.ofBits .f32 0x40000000#32)) := LS0 _ _ _
/-- The largest score of a query. -/
theorem MX_at (z : FVec Ideal S65536x1536 .f32) (s : Fin 512) (hd : Fin 8) (a : Fin 128) : MX z (ix3 s hd a) = Finset.fold max ⊥ (fun x => SC z (ix4 s hd a x)) Finset.univ := by
  pointwise [MX]
  rw [oinf]

/-- The sum of a query's weights. -/
theorem DN_at (z : FVec Ideal S65536x1536 .f32) (s : Fin 512) (hd : Fin 8) (a : Fin 128) : DN z (ix3 s hd a) = ∑ x, Ideal.exp (SC z (ix4 s hd a x) - Finset.fold max ⊥ (fun x => SC z (ix4 s hd a x)) Finset.univ) := by
  pointwise [DN, PR]
  simp only [MX_at]
/-- An entry of the reference's second result, from the scores of its query and head. -/
theorem RL_at (z : FVec Ideal S65536x1536 .f32) (s : Fin 512) (hd : Fin 8) (a : Fin 128) (i : S65536x512.Idx) (h0 : (i 0).val = s.val * 128 + a.val) (h1 : (i 1).val / 64 = hd.val) :
    RL z i = (Finset.fold max ⊥ (fun x => SC z (ix4 s hd a x)) Finset.univ + Ideal.log (∑ x, Ideal.exp (SC z (ix4 s hd a x) - Finset.fold max ⊥ (fun x => SC z (ix4 s hd a x)) Finset.univ))) * (Cert.Softmax.L : EReal) := by
  pointwise [RL]
  have e0 : (i 0).val / 128 = s.val := by omega
  have e1 : (i 0).val % 128 = a.val := by omega
  simp only [e0, e1, h1, Fin.eta]
  rw [LS_at, otwo, Cert.Softmax.div_log_two, MX_at, DN_at]
/-- An entry of the reference's first result, from the scores and the values of its query and head. -/
theorem RO_at (z : FVec Ideal S65536x1536 .f32) (s : Fin 512) (hd : Fin 8) (a : Fin 128) (i : S65536x512.Idx) (h0 : (i 0).val = s.val * 128 + a.val) (h1 : (i 1).val / 64 = hd.val) :
    RO z i = Ideal.div (∑ x : Fin 128, Ideal.exp (SC z (ix4 s hd a x) - Finset.fold max ⊥ (fun x => SC z (ix4 s hd a x)) Finset.univ) * z (ix2 ⟨s.val * 128 + x.val, by omega⟩ ⟨1024 + (i 1).val, by have := (i 1).isLt; change (i 1).val < 512 at this; omega⟩))
      (∑ x, Ideal.exp (SC z (ix4 s hd a x) - Finset.fold max ⊥ (fun x => SC z (ix4 s hd a x)) Finset.univ)) := by
  pointwise [RO, PR, DN, HV]
  have e0 : (i 0).val / 128 = s.val := by omega
  have e1 : (i 0).val % 128 = a.val := by omega
  simp only [e0, e1, h1, Fin.eta, MX_at]

theorem res0_eq (m : (ℓ : Loc nD τ sig) → Buf (Elt Ideal) ℓ) (c : Dev nD) : Value.res_main_v52 (F := Ideal) m c = RO (m ((c.tc : Thread nD τ).loc main_arg0)) := rfl

set_option maxHeartbeats 1600000 in
/-- The generated term of the reference's second result is `RL` of the argument. -/
theorem res1_eq (m : (ℓ : Loc nD τ sig) → Buf (Elt Ideal) ℓ) (c : Dev nD) : Value.res_main_v54 (F := Ideal) m c = RL (m ((c.tc : Thread nD τ).loc main_arg0)) := rfl

end Cert.RefDil16Ideal

namespace Cert.Dil16Value
open Cert.Dil16Ideal Cert.Dil16Ideal.Gen
set_option maxHeartbeats 4000000

/-- One unit's weighted values. -/
def PV (q k v : Vec Ideal S128x128 .bf16) (p : Vec Ideal S1x1x128x256 .f32) : FVec Ideal S144x256 .f32 := k0_pay38 k0_pay28 (k0_pay29 q k) p v
/-- The outputs that the body computes from one tile of queries, keys and values and one table of penalties. -/
def UO (q k v : Vec Ideal S128x128 .bf16) (p : Vec Ideal S1x1x128x256 .f32) : FVec Ideal S128x128 .bf16 := k0_pay42 (PV q k v p) (k0_pay40 k0_pay28 (k0_pay29 q k) p v)
/-- The log-sum-exponents that the body computes from the same. -/
def UL (q k v : Vec Ideal S128x128 .bf16) (p : Vec Ideal S1x1x128x256 .f32) : FVec Ideal S128x128 .f32 := k0_pay43 (k0_pay37 (k0_pay29 q k) p) (k0_pay41 k0_pay28 (k0_pay29 q k) p v) (Named.named κ "log2e_p0" 0x3FB8AA3B#32)

/-- The outputs that the body stores for sequence 7 of its block, heads 6 and 7, are `UO` of the four loads. -/
theorem o73 (q k v : Vec Ideal S128x128 .bf16) (p : Vec Ideal S1x1x128x256 .f32) : k0_pay1 (k0_pay315 k0_pay28 (k0_pay270 k0_pay26 q k) p v) = UO q k v p := rfl
/-- The outputs that the body stores for sequence 7 of its block, heads 4 and 5, are `UO` of the four loads. -/
theorem o72 (q k v : Vec Ideal S128x128 .bf16) (p : Vec Ideal S1x1x128x256 .f32) : k0_pay308 (k0_pay306 k0_pay28 (k0_pay262 k0_pay26 (k0_pay261 q) (FloatOps.ofBits FTy.bf16 0#16) k) p v) = UO q k v p := rfl
/-- The outputs that the body stores for sequence 7 of its block, heads 2 and 3, are `UO` of the four loads. -/
theorem o71 (q k v : Vec Ideal S128x128 .bf16) (p : Vec Ideal S1x1x128x256 .f32) : k0_pay299 (k0_pay297 k0_pay28 (k0_pay254 k0_pay26 q k) p v) = UO q k v p := rfl
/-- The outputs that the body stores for sequence 7 of its block, heads 0 and 1, are `UO` of the four loads. -/
theorem o70 (q k v : Vec Ideal S128x128 .bf16) (p : Vec Ideal S1x1x128x256 .f32) : k0_pay290 (k0_pay288 k0_pay28 (k0_pay246 k0_pay26 q k) p v) (k0_pay289 k0_pay28 (k0_pay246 k0_pay26 q k) p v) = UO q k v p := rfl
/-- The outputs that the body stores for sequence 6 of its block, heads 6 and 7, are `UO` of the four loads. -/
theorem o63 (q k v : Vec Ideal S128x128 .bf16) (p : Vec Ideal S1x1x128x256 .f32) : k0_pay280 (k0_pay277 k0_pay28 (k0_pay236 k0_pay26 q k) p v) (k0_pay278 k0_pay28 (k0_pay236 k0_pay26 q k) p v) (k0_pay279 k0_pay28 (k0_pay236 k0_pay26 q k) p v) = UO q k v p := rfl
/-- The outputs that the body stores for sequence 6 of its block, heads 4 and 5, are `UO` of the four loads. -/
theorem o62 (q k v : Vec Ideal S128x128 .bf16) (p : Vec Ideal S1x1x128x256 .f32) : k0_pay268 k0_pay28 (k0_pay226 k0_pay26 q k) p v = UO q k v p := rfl
/-- The outputs that the body stores for sequence 6 of its block, heads 2 and 3, are `UO` of the four loads. -/
theorem o61 (q k v : Vec Ideal S128x128 .bf16) (p : Vec Ideal S1x1x128x256 .f32) : k0_pay259 k0_pay28 (k0_pay219 (k0_pay218 k0_pay26 q) k) p v = UO q k v p := rfl
/-- The outputs that the body stores for sequence 6 of its block, heads 0 and 1, are `UO` of the four loads. -/
theorem o60 (q k v : Vec Ideal S128x128 .bf16) (p : Vec Ideal S1x1x128x256 .f32) : k0_pay252 k0_pay28 (k0_pay249 (k0_pay211 k0_pay26 q k) p) v = UO q k v p := rfl
/-- The outputs that the body stores for sequence 5 of its block, heads 6 and 7, are `UO` of the four loads. -/
theorem o53 (q k v : Vec Ideal S128x128 .bf16) (p : Vec Ideal S1x1x128x256 .f32) : k0_pay244 (k0_pay239 k0_pay28 (k0_pay202 k0_pay26 q k) p v) (k0_pay241 k0_pay28 (k0_pay202 k0_pay26 q k) p v) = UO q k v p := rfl
/-- The outputs that the body stores for sequence 5 of its block, heads 4 and 5, are `UO` of the four loads. -/
theorem o52 (q k v : Vec Ideal S128x128 .bf16) (p : Vec Ideal S1x1x128x256 .f32) : k0_pay234 (k0_pay232 k0_pay28 (k0_pay191 k0_pay26 q k) p v) = UO q k v p := rfl
/-- The outputs that the body stores for sequence 5 of its block, heads 2 and 3, are `UO` of the four loads. -/
theorem o51 (q k v : Vec Ideal S128x128 .bf16) (p : Vec Ideal S1x1x128x256 .f32) : k0_pay224 k0_pay28 (k0_pay182 k0_pay26 q k) p v = UO q k v p := rfl
/-- The outputs that the body stores for sequence 5 of its block, heads 0 and 1, are `UO` of the four loads. -/
theorem o50 (q k v : Vec Ideal S128x128 .bf16) (p : Vec Ideal S1x1x128x256 .f32) : k0_pay216 k0_pay28 (k0_pay212 (k0_pay175 k0_pay26 q k) p) v = UO q k v p := rfl
/-- The outputs that the body stores for sequence 4 of its block, heads 6 and 7, are `UO` of the four loads. -/
theorem o43 (q k v : Vec Ideal S128x128 .bf16) (p : Vec Ideal S1x1x128x256 .f32) : k0_pay209 (k0_pay205 (k0_pay167 k0_pay26 q k) p) (k0_pay206 k0_pay28 v) (constant S144x256 FTy.f32 0#32) = UO q k v p := rfl
/-- The outputs that the body stores for sequence 4 of its block, heads 4 and 5, are `UO` of the four loads. -/
theorem o42 (q k v : Vec Ideal S128x128 .bf16) (p : Vec Ideal S1x1x128x256 .f32) : k0_pay200 (k0_pay194 k0_pay28 (k0_pay159 k0_pay26 q k) p v) (k0_pay196 k0_pay28 (k0_pay159 k0_pay26 q k) p v) (k0_pay198 k0_pay28 (k0_pay159 k0_pay26 q k) p v) (k0_pay199 k0_pay28 (k0_pay159 k0_pay26 q k) p v) = UO q k v p := rfl
/-- The outputs that the body stores for sequence 4 of its block, heads 2 and 3, are `UO` of the four loads. -/
theorem o41 (q k v : Vec Ideal S128x128 .bf16) (p : Vec Ideal S1x1x128x256 .f32) : k0_pay189 (k0_pay187 k0_pay28 (k0_pay148 k0_pay26 q k) p v) = UO q k v p := rfl
/-- The outputs that the body stores for sequence 4 of its block, heads 0 and 1, are `UO` of the four loads. -/
theorem o40 (q k v : Vec Ideal S128x128 .bf16) (p : Vec Ideal S1x1x128x256 .f32) : k0_pay180 k0_pay28 (k0_pay140 k0_pay26 (k0_pay137 q) k0_pay138 (k0_pay139 k0_pay26 q) k) p v = UO q k v p := rfl
/-- The outputs that the body stores for sequence 3 of its block, heads 6 and 7, are `UO` of the four loads. -/
theorem o33 (q k v : Vec Ideal S128x128 .bf16) (p : Vec Ideal S1x1x128x256 .f32) : k0_pay173 k0_pay28 (k0_pay170 (k0_pay130 k0_pay26 q k) p) v = UO q k v p := rfl
/-- The outputs that the body stores for sequence 3 of its block, heads 4 and 5, are `UO` of the four loads. -/
theorem o32 (q k v : Vec Ideal S128x128 .bf16) (p : Vec Ideal S1x1x128x256 .f32) : k0_pay165 (k0_pay162 k0_pay28 (k0_pay121 k0_pay26 q k) p v) (k0_pay164 k0_pay28 (k0_pay121 k0_pay26 q k) p v) = UO q k v p := rfl
/-- The outputs that the body stores for sequence 3 of its block, heads 2 and 3, are `UO` of the four loads. -/
theorem o31 (q k v : Vec Ideal S128x128 .bf16) (p : Vec Ideal S1x1x128x256 .f32) : k0_pay157 (k0_pay155 k0_pay28 (k0_pay112 k0_pay26 q k) p v) (k0_pay156 k0_pay28 (k0_pay112 k0_pay26 q k) p v) = UO q k v p := rfl
/-- The outputs that the body stores for sequence 3 of its block, heads 0 and 1, are `UO` of the four loads. -/
theorem o30 (q k v : Vec Ideal S128x128 .bf16) (p : Vec Ideal S1x1x128x256 .f32) : k0_pay146 k0_pay28 (k0_pay101 k0_pay26 q k) p v = UO q k v p := rfl
/-- The outputs that the body stores for sequence 2 of its block, heads 6 and 7, are `UO` of the four loads. -/
theorem o23 (q k v : Vec Ideal S128x128 .bf16) (p : Vec Ideal S1x1x128x256 .f32) : k0_pay135 k0_pay28 (k0_pay94 (k0_pay93 k0_pay26 q) k) p v = UO q k v p := rfl
/-- The outputs that the body stores for sequence 2 of its block, heads 4 and 5, are `UO` of the four loads. -/
theorem o22 (q k v : Vec Ideal S128x128 .bf16) (p : Vec Ideal S1x1x128x256 .f32) : k0_pay128 k0_pay28 (k0_pay124 (k0_pay86 k0_pay26 q k) p) (k0_pay125 v) = UO q k v p := rfl
/-- The outputs that the body stores for sequence 2 of its block, heads 2 and 3, are `UO` of the four loads. -/
theorem o21 (q k v : Vec Ideal S128x128 .bf16) (p : Vec Ideal S1x1x128x256 .f32) : k0_pay119 (k0_pay115 k0_pay28 (k0_pay79 k0_pay26 q k) p v) (k0_pay117 k0_pay28 (k0_pay79 k0_pay26 q k) p v) = UO q k v p := rfl
/-- The outputs that the body stores for sequence 2 of its block, heads 0 and 1, are `UO` of the four loads. -/
theorem o20 (q k v : Vec Ideal S128x128 .bf16) (p : Vec Ideal S1x1x128x256 .f32) : k0_pay110 (k0_pay107 k0_pay28 (k0_pay68 k0_pay26 q k) p v) = UO q k v p := rfl
/-- The outputs that the body stores for sequence 1 of its block, heads 6 and 7, are `UO` of the four loads. -/
theorem o13 (q k v : Vec Ideal S128x128 .bf16) (p : Vec Ideal S1x1x128x256 .f32) : k0_pay99 k0_pay28 (k0_pay60 k0_pay26 (k0_pay59 q) k) p v = UO q k v p := rfl
/-- The outputs that the body stores for sequence 1 of its block, heads 4 and 5, are `UO` of the four loads. -/
theorem o12 (q k v : Vec Ideal S128x128 .bf16) (p : Vec Ideal S1x1x128x256 .f32) : k0_pay91 k0_pay28 (k0_pay87 (k0_pay52 k0_pay26 q k) p) (k0_pay88 (k0_pay52 k0_pay26 q k) p) v = UO q k v p := rfl
/-- The outputs that the body stores for sequence 1 of its block, heads 2 and 3, are `UO` of the four loads. -/
theorem o11 (q k v : Vec Ideal S128x128 .bf16) (p : Vec Ideal S1x1x128x256 .f32) : k0_pay84 (k0_pay82 k0_pay28 (k0_pay44 k0_pay26 q k) p v) (k0_pay83 k0_pay28 (k0_pay44 k0_pay26 q k) p v) = UO q k v p := rfl
/-- The outputs that the body stores for sequence 1 of its block, heads 0 and 1, are `UO` of the four loads. -/
theorem o10 (q k v : Vec Ideal S128x128 .bf16) (p : Vec Ideal S1x1x128x256 .f32) : k0_pay77 (k0_pay73 k0_pay28 (k0_pay35 k0_pay26 q k) p v) (k0_pay75 k0_pay28 (k0_pay35 k0_pay26 q k) p v) (k0_pay76 k0_pay28 (k0_pay35 k0_pay26 q k) p v) = UO q k v p := rfl
/-- The outputs that the body stores for sequence 0 of its block, heads 6 and 7, are `UO` of the four loads. -/
theorem o03 (q k v : Vec Ideal S128x128 .bf16) (p : Vec Ideal S1x1x128x256 .f32) : k0_pay66 k0_pay28 (k0_pay34 k0_pay26 q k) p v = UO q k v p := rfl
/-- The outputs that the body stores for sequence 0 of its block, heads 4 and 5, are `UO` of the four loads. -/
theorem o02 (q k v : Vec Ideal S128x128 .bf16) (p : Vec Ideal S1x1x128x256 .f32) : k0_pay57 k0_pay28 (k0_pay33 (k0_pay31 q) (k0_pay32 k)) p v = UO q k v p := rfl
/-- The outputs that the body stores for sequence 0 of its block, heads 2 and 3, are `UO` of the four loads. -/
theorem o01 (q k v : Vec Ideal S128x128 .bf16) (p : Vec Ideal S1x1x128x256 .f32) : k0_pay50 k0_pay28 (k0_pay47 (k0_pay30 q k) p) v = UO q k v p := rfl
/-- The outputs that the body stores for sequence 0 of its block, heads 0 and 1, are `UO` of the four loads. -/
theorem o00 (q k v : Vec Ideal S128x128 .bf16) (p : Vec Ideal S1x1x128x256 .f32) : k0_pay42 (k0_pay38 k0_pay28 (k0_pay29 q k) p v) (k0_pay40 k0_pay28 (k0_pay29 q k) p v) = UO q k v p := rfl
/-- The log-sum-exponents that the body stores for sequence 7 of its block, heads 6 and 7, are `UL` of the four loads. -/
theorem l73 (q k v : Vec Ideal S128x128 .bf16) (p : Vec Ideal S1x1x128x256 .f32) : k0_pay2 (k0_pay316 k0_pay28 (k0_pay270 k0_pay26 q k) p v) (k0_pay317 k0_pay28 (k0_pay270 k0_pay26 q k) p v) = UL q k v p := rfl
/-- The log-sum-exponents that the body stores for sequence 7 of its block, heads 4 and 5, are `UL` of the four loads. -/
theorem l72 (q k v : Vec Ideal S128x128 .bf16) (p : Vec Ideal S1x1x128x256 .f32) : k0_pay309 (k0_pay305 k0_pay28 (k0_pay262 k0_pay26 (k0_pay261 q) (FloatOps.ofBits FTy.bf16 0#16) k) p v) (k0_pay307 k0_pay28 (k0_pay262 k0_pay26 (k0_pay261 q) (FloatOps.ofBits FTy.bf16 0#16) k) p v) = UL q k v p := rfl
/-- The log-sum-exponents that the body stores for sequence 7 of its block, heads 2 and 3, are `UL` of the four loads. -/
theorem l71 (q k v : Vec Ideal S128x128 .bf16) (p : Vec Ideal S1x1x128x256 .f32) : k0_pay300 (k0_pay296 k0_pay28 (k0_pay254 k0_pay26 q k) p v) (k0_pay298 k0_pay28 (k0_pay254 k0_pay26 q k) p v) = UL q k v p := rfl
/-- The log-sum-exponents that the body stores for sequence 7 of its block, heads 0 and 1, are `UL` of the four loads. -/
theorem l70 (q k v : Vec Ideal S128x128 .bf16) (p : Vec Ideal S1x1x128x256 .f32) : k0_pay291 (k0_pay287 k0_pay28 (k0_pay246 k0_pay26 q k) p v) = UL q k v p := rfl
/-- The log-sum-exponents that the body stores for sequence 6 of its block, heads 6 and 7, are `UL` of the four loads. -/
theorem l63 (q k v : Vec Ideal S128x128 .bf16) (p : Vec Ideal S1x1x128x256 .f32) : k0_pay281 (k0_pay276 k0_pay28 (k0_pay236 k0_pay26 q k) p v) = UL q k v p := rfl
/-- The log-sum-exponents that the body stores for sequence 6 of its block, heads 4 and 5, are `UL` of the four loads. -/
theorem l62 (q k v : Vec Ideal S128x128 .bf16) (p : Vec Ideal S1x1x128x256 .f32) : k0_pay269 (k0_pay267 k0_pay28 (k0_pay226 k0_pay26 q k) p v) = UL q k v p := rfl
/-- The log-sum-exponents that the body stores for sequence 6 of its block, heads 2 and 3, are `UL` of the four loads. -/
theorem l61 (q k v : Vec Ideal S128x128 .bf16) (p : Vec Ideal S1x1x128x256 .f32) : k0_pay260 k0_pay28 (k0_pay219 (k0_pay218 k0_pay26 q) k) p v = UL q k v p := rfl
/-- The log-sum-exponents that the body stores for sequence 6 of its block, heads 0 and 1, are `UL` of the four loads. -/
theorem l60 (q k v : Vec Ideal S128x128 .bf16) (p : Vec Ideal S1x1x128x256 .f32) : k0_pay253 k0_pay28 (k0_pay248 (k0_pay211 k0_pay26 q k) p) (k0_pay249 (k0_pay211 k0_pay26 q k) p) v = UL q k v p := rfl
/-- The log-sum-exponents that the body stores for sequence 5 of its block, heads 6 and 7, are `UL` of the four loads. -/
theorem l53 (q k v : Vec Ideal S128x128 .bf16) (p : Vec Ideal S1x1x128x256 .f32) : k0_pay245 (k0_pay238 (k0_pay202 k0_pay26 q k) p) (k0_pay242 k0_pay28 (k0_pay202 k0_pay26 q k) p v) k0_pay243 = UL q k v p := rfl
/-- The log-sum-exponents that the body stores for sequence 5 of its block, heads 4 and 5, are `UL` of the four loads. -/
theorem l52 (q k v : Vec Ideal S128x128 .bf16) (p : Vec Ideal S1x1x128x256 .f32) : k0_pay235 (k0_pay231 k0_pay28 (k0_pay191 k0_pay26 q k) p v) (k0_pay233 k0_pay28 (k0_pay191 k0_pay26 q k) p v) = UL q k v p := rfl
/-- The log-sum-exponents that the body stores for sequence 5 of its block, heads 2 and 3, are `UL` of the four loads. -/
theorem l51 (q k v : Vec Ideal S128x128 .bf16) (p : Vec Ideal S1x1x128x256 .f32) : k0_pay225 k0_pay28 (k0_pay182 k0_pay26 q k) p v = UL q k v p := rfl
/-- The log-sum-exponents that the body stores for sequence 5 of its block, heads 0 and 1, are `UL` of the four loads. -/
theorem l50 (q k v : Vec Ideal S128x128 .bf16) (p : Vec Ideal S1x1x128x256 .f32) : k0_pay217 k0_pay28 (k0_pay212 (k0_pay175 k0_pay26 q k) p) v = UL q k v p := rfl
/-- The log-sum-exponents that the body stores for sequence 4 of its block, heads 6 and 7, are `UL` of the four loads. -/
theorem l43 (q k v : Vec Ideal S128x128 .bf16) (p : Vec Ideal S1x1x128x256 .f32) : k0_pay210 (k0_pay204 (k0_pay167 k0_pay26 q k) p) (k0_pay205 (k0_pay167 k0_pay26 q k) p) (k0_pay206 k0_pay28 v) (constant S144x256 FTy.f32 0#32) = UL q k v p := rfl
/-- The log-sum-exponents that the body stores for sequence 4 of its block, heads 4 and 5, are `UL` of the four loads. -/
theorem l42 (q k v : Vec Ideal S128x128 .bf16) (p : Vec Ideal S1x1x128x256 .f32) : k0_pay201 (k0_pay197 k0_pay28 (k0_pay159 k0_pay26 q k) p v) = UL q k v p := rfl
/-- The log-sum-exponents that the body stores for sequence 4 of its block, heads 2 and 3, are `UL` of the four loads. -/
theorem l41 (q k v : Vec Ideal S128x128 .bf16) (p : Vec Ideal S1x1x128x256 .f32) : k0_pay190 (k0_pay188 k0_pay28 (k0_pay148 k0_pay26 q k) p v) = UL q k v p := rfl
/-- The log-sum-exponents that the body stores for sequence 4 of its block, heads 0 and 1, are `UL` of the four loads. -/
theorem l40 (q k v : Vec Ideal S128x128 .bf16) (p : Vec Ideal S1x1x128x256 .f32) : k0_pay181 k0_pay28 (k0_pay140 k0_pay26 (k0_pay137 q) k0_pay138 (k0_pay139 k0_pay26 q) k) p v = UL q k v p := rfl
/-- The log-sum-exponents that the body stores for sequence 3 of its block, heads 6 and 7, are `UL` of the four loads. -/
theorem l33 (q k v : Vec Ideal S128x128 .bf16) (p : Vec Ideal S1x1x128x256 .f32) : k0_pay174 k0_pay28 (k0_pay169 (k0_pay130 k0_pay26 q k) p) (k0_pay170 (k0_pay130 k0_pay26 q k) p) v = UL q k v p := rfl
/-- The log-sum-exponents that the body stores for sequence 3 of its block, heads 4 and 5, are `UL` of the four loads. -/
theorem l32 (q k v : Vec Ideal S128x128 .bf16) (p : Vec Ideal S1x1x128x256 .f32) : k0_pay166 (k0_pay161 (k0_pay121 k0_pay26 q k) p) (k0_pay163 k0_pay28 (k0_pay121 k0_pay26 q k) p v) = UL q k v p := rfl
/-- The log-sum-exponents that the body stores for sequence 3 of its block, heads 2 and 3, are `UL` of the four loads. -/
theorem l31 (q k v : Vec Ideal S128x128 .bf16) (p : Vec Ideal S1x1x128x256 .f32) : k0_pay158 (k0_pay154 k0_pay28 (k0_pay112 k0_pay26 q k) p v) = UL q k v p := rfl
/-- The log-sum-exponents that the body stores for sequence 3 of its block, heads 0 and 1, are `UL` of the four loads. -/
theorem l30 (q k v : Vec Ideal S128x128 .bf16) (p : Vec Ideal S1x1x128x256 .f32) : k0_pay147 (k0_pay145 k0_pay28 (k0_pay101 k0_pay26 q k) p v) = UL q k v p := rfl
/-- The log-sum-exponents that the body stores for sequence 2 of its block, heads 6 and 7, are `UL` of the four loads. -/
theorem l23 (q k v : Vec Ideal S128x128 .bf16) (p : Vec Ideal S1x1x128x256 .f32) : k0_pay136 k0_pay28 (k0_pay94 (k0_pay93 k0_pay26 q) k) p v = UL q k v p := rfl
/-- The log-sum-exponents that the body stores for sequence 2 of its block, heads 4 and 5, are `UL` of the four loads. -/
theorem l22 (q k v : Vec Ideal S128x128 .bf16) (p : Vec Ideal S1x1x128x256 .f32) : k0_pay129 k0_pay28 (k0_pay123 (k0_pay86 k0_pay26 q k) p) (k0_pay124 (k0_pay86 k0_pay26 q k) p) (k0_pay125 v) = UL q k v p := rfl
/-- The log-sum-exponents that the body stores for sequence 2 of its block, heads 2 and 3, are `UL` of the four loads. -/
theorem l21 (q k v : Vec Ideal S128x128 .bf16) (p : Vec Ideal S1x1x128x256 .f32) : k0_pay120 (k0_pay118 k0_pay28 (k0_pay79 k0_pay26 q k) p v) = UL q k v p := rfl
/-- The log-sum-exponents that the body stores for sequence 2 of its block, heads 0 and 1, are `UL` of the four loads. -/
theorem l20 (q k v : Vec Ideal S128x128 .bf16) (p : Vec Ideal S1x1x128x256 .f32) : k0_pay111 (k0_pay108 k0_pay28 (k0_pay68 k0_pay26 q k) p v) (k0_pay109 k0_pay28 (k0_pay68 k0_pay26 q k) p v) = UL q k v p := rfl
/-- The log-sum-exponents that the body stores for sequence 1 of its block, heads 6 and 7, are `UL` of the four loads. -/
theorem l13 (q k v : Vec Ideal S128x128 .bf16) (p : Vec Ideal S1x1x128x256 .f32) : k0_pay100 k0_pay28 (k0_pay60 k0_pay26 (k0_pay59 q) k) p v = UL q k v p := rfl
/-- The log-sum-exponents that the body stores for sequence 1 of its block, heads 4 and 5, are `UL` of the four loads. -/
theorem l12 (q k v : Vec Ideal S128x128 .bf16) (p : Vec Ideal S1x1x128x256 .f32) : k0_pay92 k0_pay28 (k0_pay87 (k0_pay52 k0_pay26 q k) p) (k0_pay88 (k0_pay52 k0_pay26 q k) p) v = UL q k v p := rfl
/-- The log-sum-exponents that the body stores for sequence 1 of its block, heads 2 and 3, are `UL` of the four loads. -/
theorem l11 (q k v : Vec Ideal S128x128 .bf16) (p : Vec Ideal S1x1x128x256 .f32) : k0_pay85 (k0_pay81 (k0_pay44 k0_pay26 q k) p) (k0_pay83 k0_pay28 (k0_pay44 k0_pay26 q k) p v) = UL q k v p := rfl
/-- The log-sum-exponents that the body stores for sequence 1 of its block, heads 0 and 1, are `UL` of the four loads. -/
theorem l10 (q k v : Vec Ideal S128x128 .bf16) (p : Vec Ideal S1x1x128x256 .f32) : k0_pay78 (k0_pay74 k0_pay28 (k0_pay35 k0_pay26 q k) p v) = UL q k v p := rfl
/-- The log-sum-exponents that the body stores for sequence 0 of its block, heads 6 and 7, are `UL` of the four loads. -/
theorem l03 (q k v : Vec Ideal S128x128 .bf16) (p : Vec Ideal S1x1x128x256 .f32) : k0_pay67 (k0_pay65 k0_pay28 (k0_pay34 k0_pay26 q k) p v) = UL q k v p := rfl
/-- The log-sum-exponents that the body stores for sequence 0 of its block, heads 4 and 5, are `UL` of the four loads. -/
theorem l02 (q k v : Vec Ideal S128x128 .bf16) (p : Vec Ideal S1x1x128x256 .f32) : k0_pay58 k0_pay28 (k0_pay33 (k0_pay31 q) (k0_pay32 k)) p v = UL q k v p := rfl
/-- The log-sum-exponents that the body stores for sequence 0 of its block, heads 2 and 3, are `UL` of the four loads. -/
theorem l01 (q k v : Vec Ideal S128x128 .bf16) (p : Vec Ideal S1x1x128x256 .f32) : k0_pay51 k0_pay28 (k0_pay46 (k0_pay30 q k) p) (k0_pay47 (k0_pay30 q k) p) v = UL q k v p := rfl
/-- The log-sum-exponents that the body stores for sequence 0 of its block, heads 0 and 1, are `UL` of the four loads. -/
theorem l00 (q k v : Vec Ideal S128x128 .bf16) (p : Vec Ideal S1x1x128x256 .f32) : k0_pay43 (k0_pay37 (k0_pay29 q k) p) (k0_pay41 k0_pay28 (k0_pay29 q k) p v) (Named.named κ "log2e_p0" 1069066811#32) = UL q k v p := rfl
open Cert.Softmax
open Cert.RefDil16Ideal (SC D headSlope RO RL SC_at RO_at RL_at csum sel oinf)

/-- The comparison that splits 128 lanes into two heads. -/
theorem lane : ∀ (x : Fin 128), IntOp.cmpi CmpIPredicate.slt (BitVec.ofNat 32 x.val) 64#32 = if x.val < 64 then 1#1 else 0#1 := by decide +kernel

/-- A product over 128 lanes with the second head masked out is a sum over the 64 lanes of the first head. -/
theorem half0 (A B : Fin 128 → ℝ) : ∑ x : Fin 128, Scalar.select (if x.val < 64 then 1#1 else 0#1) (((A x : ℝ) : EReal) * ((B x : ℝ) : EReal)) 0
    = ((∑ x : Fin 64, A ⟨x.val, by omega⟩ * B ⟨x.val, by omega⟩ : ℝ) : EReal) := by
  have e : ∀ x : Fin 128, Scalar.select (if x.val < 64 then 1#1 else 0#1) (((A x : ℝ) : EReal) * ((B x : ℝ) : EReal)) 0 = (((if x.val < 64 then A x * B x else 0 : ℝ)) : EReal) := by
    intro x
    by_cases h : x.val < 64
    · simp only [h, if_true, sel, EReal.coe_mul]
    · simp [h, sel]
  simp only [e, csum]
  refine congrArg _ ((Fin.sum_univ_add (a := 64) (b := 64) (fun x : Fin 128 => if x.val < 64 then A x * B x else 0)).trans ?_)
  rw [Finset.sum_eq_zero (s := Finset.univ) (f := fun i : Fin 64 => if (Fin.natAdd 64 i).val < 64 then A (Fin.natAdd 64 i) * B (Fin.natAdd 64 i) else 0) (fun x _ => if_neg (by simp)), add_zero]
  exact Finset.sum_congr rfl fun x _ => if_pos x.isLt

/-- A product over 128 lanes with the first head masked out is a sum over the 64 lanes of the second head. -/
theorem half1 (A B : Fin 128 → ℝ) : ∑ x : Fin 128, Scalar.select (if x.val < 64 then 1#1 else 0#1) 0 (((A x : ℝ) : EReal) * ((B x : ℝ) : EReal))
    = ((∑ x : Fin 64, A ⟨64 + x.val, by omega⟩ * B ⟨64 + x.val, by omega⟩ : ℝ) : EReal) := by
  have e : ∀ x : Fin 128, Scalar.select (if x.val < 64 then 1#1 else 0#1) 0 (((A x : ℝ) : EReal) * ((B x : ℝ) : EReal)) = (((if x.val < 64 then 0 else A x * B x : ℝ)) : EReal) := by
    intro x
    by_cases h : x.val < 64
    · simp [h, sel]
    · simp [h, sel, EReal.coe_mul]
  simp only [e, csum]
  refine congrArg _ ((Fin.sum_univ_add (a := 64) (b := 64) (fun x : Fin 128 => if x.val < 64 then 0 else A x * B x)).trans ?_)
  rw [Finset.sum_eq_zero (s := Finset.univ) (f := fun i : Fin 64 => if (Fin.castAdd 64 i).val < 64 then 0 else A (Fin.castAdd 64 i) * B (Fin.castAdd 64 i)) (fun x _ => if_pos x.isLt), zero_add]
  exact Finset.sum_congr rfl fun x _ => if_neg (by simp)

/-- The kernel's weighted sum in base two, times the reciprocal of the weights' sum, is the reference's quotient. -/
theorem fin0 (V G F : Fin 128 → EReal) (M : EReal) (hg : ∀ x, G x = F x * (L : EReal)) (hM : M = Finset.fold max ⊥ G Finset.univ)
    (hn : ∑ x, Ideal.exp (F x - Finset.fold max ⊥ F Finset.univ) ≠ 0) :
    (∑ x, V x * FloatOps.exp2 (F := Ideal) (φ := .f32) (G x - M)) * Ideal.div 1 (∑ x, FloatOps.exp2 (F := Ideal) (φ := .f32) (G x - M))
      = Ideal.div (∑ x, Ideal.exp (F x - Finset.fold max ⊥ F Finset.univ) * V x) (∑ x, Ideal.exp (F x - Finset.fold max ⊥ F Finset.univ)) := by
  have w : ∀ x, FloatOps.exp2 (F := Ideal) (φ := .f32) (G x - M) = Ideal.exp (F x - Finset.fold max ⊥ F Finset.univ) := fun x => by
    rw [hM]; exact weight F G hg x
  simp only [w]
  rw [mul_div_one _ _ hn]
  simp only [mul_comm]

/-- The kernel's log-sum-exponent in base two is the reference's, divided by the logarithm of two. -/
theorem fin1 (G F : Fin 128 → EReal) (M N : EReal) (hg : ∀ x, G x = F x * (L : EReal)) (hM : M = Finset.fold max ⊥ G Finset.univ) (hN : N = (L : EReal)) :
    M + Ideal.log (∑ x, FloatOps.exp2 (F := Ideal) (φ := .f32) (G x - M)) * N
      = (Finset.fold max ⊥ F Finset.univ + Ideal.log (∑ x, Ideal.exp (F x - Finset.fold max ⊥ F Finset.univ))) * (L : EReal) := by
  have w : ∀ x, FloatOps.exp2 (F := Ideal) (φ := .f32) (G x - M) = Ideal.exp (F x - Finset.fold max ⊥ F Finset.univ) := fun x => by
    rw [hM]; exact weight F G hg x
  simp only [w]
  rw [hM, hN, add_mul_L]
  congr 1
  obtain rfl : G = fun x => F x * (L : EReal) := funext hg
  exact fold_mul _ _

/-- The largest score of a column, over the keys. -/
theorem max37 (x : FVec Ideal S128x256 .f32) (p : Vec Ideal S1x1x128x256 .f32) (l : Fin 256) :
    k0_pay37 x p (ix2 0 l) = Finset.fold max ⊥ (fun κ => k0_pay36 x p (ix2 κ l)) Finset.univ := by
  pointwise [k0_pay37]
  rw [oinf]

/-- What the scratch holds of a pair of heads. -/
def PEN (j : Fin 4) (κ : Fin 128) (l : Fin 256) : EReal :=
  if IntOp.cmpi .sle (D ⟨l.val % 128, by omega⟩ κ) 64#32 = 1#1 then ((((D ⟨l.val % 128, by omega⟩ κ).toInt : ℝ) * (L * (headSlope ⟨2 * j.val + l.val / 128, by omega⟩ * 16)) : ℝ) : EReal) else ⊤

/-- Every query has a score that is a real number, and none is plus infinity. -/
theorem noinf (z : FVec Ideal S65536x1536 .f32) (zr : S65536x1536.Idx → ℝ) (hz : ∀ i, z i = ((zr i : ℝ) : EReal)) (s : Fin 512) (hd : Fin 8) (a : Fin 128) :
    ∑ x, Ideal.exp (SC z (ix4 s hd a x) - Finset.fold max ⊥ (fun x => SC z (ix4 s hd a x)) Finset.univ) ≠ 0 := by
  have dd : ∀ a : Fin 128, IntOp.cmpi .sle (D a a) 64#32 = 1#1 := by decide +kernel
  refine denom_ne_zero _ ⟨a, ?_⟩ fun x => ?_
  · rw [SC_at z zr hz, if_pos (dd a)]; exact EReal.coe_ne_bot _
  · rw [SC_at z zr hz]; split
    · exact EReal.coe_ne_top _
    · exact bot_ne_top

section unit
variable (z : FVec Ideal S65536x1536 .f32) (zr : S65536x1536.Idx → ℝ) (hz : ∀ i, z i = ((zr i : ℝ) : EReal)) (s : Fin 512) (j : Fin 4)
  (q k v : Vec Ideal S128x128 .bf16) (p : Vec Ideal S1x1x128x256 .f32)
  (hq : ∀ a l : Fin 128, q (ix2 a l) = ((zr (ix2 ⟨s.val * 128 + a.val, by omega⟩ ⟨j.val * 128 + l.val, by omega⟩) * (1 / 8 * L) : ℝ) : EReal))
  (hk : ∀ a l : Fin 128, k (ix2 a l) = ((zr (ix2 ⟨s.val * 128 + a.val, by omega⟩ ⟨512 + (j.val * 128 + l.val), by omega⟩) : ℝ) : EReal))
  (hv : ∀ a l : Fin 128, v (ix2 a l) = ((zr (ix2 ⟨s.val * 128 + a.val, by omega⟩ ⟨1024 + (j.val * 128 + l.val), by omega⟩) : ℝ) : EReal))
  (hp : ∀ (κ : Fin 128) (l : Fin 256), p (ix4 0 0 κ l) = PEN j κ l)
include hz hq hk hp

/-- A score of a tile's first head is the reference's, in base two. -/
theorem score0 (a κ : Fin 128) : k0_pay36 (k0_pay29 q k) p (ix2 κ ⟨a.val, by omega⟩) = SC z (ix4 s ⟨2 * j.val, by omega⟩ a κ) * (L : EReal) := by
  pointwise [k0_pay36, k0_pay29, k0_pay26]
  have ea : a.val % 128 = a.val := Nat.mod_eq_of_lt a.isLt
  have eb : a.val / 128 = 0 := Nat.div_eq_of_lt a.isLt
  simp only [lane, a.isLt, dite_true, Fin.eta, hq, hk, hp, half0]
  rw [SC_at z zr hz, PEN]
  simp only [ea, eb, Fin.eta, add_zero]
  split
  · rw [← EReal.coe_sub, ← EReal.coe_mul]
    refine congrArg _ ?_
    rw [sub_mul, Finset.sum_mul, Finset.sum_mul]
    congr 1
    · refine Finset.sum_congr rfl fun x _ => ?_
      have e : 2 * j.val * 64 + x.val = j.val * 128 + x.val := by ring
      simp only [e]; ring
    · ring
  · rw [EReal.bot_mul_coe_of_pos L_pos]; simp

/-- A score of a tile's second head is the reference's, in base two. -/
theorem score1 (a κ : Fin 128) : k0_pay36 (k0_pay29 q k) p (ix2 κ ⟨128 + a.val, by omega⟩) = SC z (ix4 s ⟨2 * j.val + 1, by omega⟩ a κ) * (L : EReal) := by
  pointwise [k0_pay36, k0_pay29, k0_pay26]
  have ea : (128 + a.val) % 128 = a.val := by omega
  have eb : (128 + a.val) / 128 = 1 := by omega
  have ec : ¬ (128 + a.val < 128) := by omega
  have ed : 128 + a.val - 128 = a.val := by omega
  simp only [lane, ec, dite_false, ed, Fin.eta, hq, hk, hp, half1]
  rw [SC_at z zr hz, PEN]
  simp only [ea, eb, Fin.eta]
  split
  · rw [← EReal.coe_sub, ← EReal.coe_mul]
    refine congrArg _ ?_
    rw [sub_mul, Finset.sum_mul, Finset.sum_mul]
    congr 1
    · refine Finset.sum_congr rfl fun x _ => ?_
      have e : (2 * j.val + 1) * 64 + x.val = j.val * 128 + (64 + x.val) := by ring
      simp only [e]; ring
    · ring
  · rw [EReal.bot_mul_coe_of_pos L_pos]; simp

include hv
/-- A tile's outputs are the reference's first result at the tile's rows and columns. -/
theorem unitO (y : S128x128.Idx) (i : S65536x512.Idx) (h0 : (i 0).val = s.val * 128 + (y 0).val) (h1 : (i 1).val = j.val * 128 + (y 1).val) : UO q k v p y = RO z i := by
  have hy : (y 1).val < 128 := (y 1).isLt
  pointwise [UO, PV, k0_pay42, k0_pay40, k0_pay39, k0_pay38, k0_pay28]
  split
  · rename_i h
    rw [RO_at z s ⟨2 * j.val, by omega⟩ (y 0) i h0 (by show _ = 2 * j.val; omega)]
    refine (fin0 _ _ _ _ (score0 z zr hz s j q k p hq hk hp (y 0)) (max37 _ _ _) (noinf z zr hz s _ _)).trans ?_
    congr 1
    refine Finset.sum_congr rfl fun x _ => ?_
    rw [hz]
    refine congrArg _ ((hv x (y 1)).trans ?_)
    simp only [h1]
  · rename_i h
    rw [RO_at z s ⟨2 * j.val + 1, by omega⟩ (y 0) i h0 (by show _ = 2 * j.val + 1; omega)]
    refine (fin0 _ _ _ _ (score1 z zr hz s j q k p hq hk hp (y 0)) (max37 _ _ _) (noinf z zr hz s _ _)).trans ?_
    congr 1
    refine Finset.sum_congr rfl fun x _ => ?_
    rw [hz, dif_pos (by omega)]
    refine congrArg _ ((hv x _).trans ?_)
    have e : 64 + ((y 1).val - 64) = (y 1).val := by omega
    simp only [h1, e]

/-- A tile's log-sum-exponents are the reference's second result at the tile's rows and columns. -/
theorem unitL (y : S128x128.Idx) (i : S65536x512.Idx) (h0 : (i 0).val = s.val * 128 + (y 0).val) (h1 : (i 1).val = j.val * 128 + (y 1).val) : UL q k v p y = RL z i := by
  have hy : (y 1).val < 128 := (y 1).isLt
  pointwise [UL, k0_pay43, k0_pay41, k0_pay39, k0_pay38, k0_pay28]
  split
  · rename_i h
    rw [RL_at z s ⟨2 * j.val, by omega⟩ (y 0) i h0 (by show _ = 2 * j.val; omega)]
    exact fin1 _ _ _ _ (score0 z zr hz s j q k p hq hk hp (y 0)) (max37 _ _ _) rfl
  · rename_i h
    rw [RL_at z s ⟨2 * j.val + 1, by omega⟩ (y 0) i h0 (by show _ = 2 * j.val + 1; omega)]
    exact fin1 _ _ _ _ (score1 z zr hz s j q k p hq hk hp (y 0)) (max37 _ _ _) rfl
end unit
/-- The scratch the first point writes. -/
def TAB : Vec Ideal S4x3x128x256 .f32 := View.canon (Val := Elt Ideal) (e := .f32) [⟨Rect.unit (s := S4x3x128x256) ![3, 2, 0, 0] ![1, 1, 128, 256] inb_S4x3x128x256_S1x1x128x256_3_2_0_0, (k0_pay27 (k0_pay25 (iota Kind.tc S128x256 32 [1] iota_S128x256_d1_w32) (k0_pay21 (iota Kind.tc S128x256 32 [0] iota_S128x256_d0_w32) (iota Kind.tc S128x256 32 [1] iota_S128x256_d1_w32))) : FVec Ideal S1x1x128x256 .f32)⟩, ⟨Rect.unit (s := S4x3x128x256) ![2, 2, 0, 0] ![1, 1, 128, 256] inb_S4x3x128x256_S1x1x128x256_2_2_0_0, (k0_pay24 (iota Kind.tc S128x256 32 [1] iota_S128x256_d1_w32) (k0_pay21 (iota Kind.tc S128x256 32 [0] iota_S128x256_d0_w32) (iota Kind.tc S128x256 32 [1] iota_S128x256_d1_w32)) : FVec Ideal S1x1x128x256 .f32)⟩, ⟨Rect.unit (s := S4x3x128x256) ![1, 2, 0, 0] ![1, 1, 128, 256] inb_S4x3x128x256_S1x1x128x256_1_2_0_0, (k0_pay23 (iota Kind.tc S128x256 32 [1] iota_S128x256_d1_w32) (k0_pay21 (iota Kind.tc S128x256 32 [0] iota_S128x256_d0_w32) (iota Kind.tc S128x256 32 [1] iota_S128x256_d1_w32)) : FVec Ideal S1x1x128x256 .f32)⟩, ⟨Rect.unit (s := S4x3x128x256) ![0, 2, 0, 0] ![1, 1, 128, 256] inb_S4x3x128x256_S1x1x128x256_0_2_0_0, (k0_pay22 (iota Kind.tc S128x256 32 [1] iota_S128x256_d1_w32) (k0_pay21 (iota Kind.tc S128x256 32 [0] iota_S128x256_d0_w32) (iota Kind.tc S128x256 32 [1] iota_S128x256_d1_w32)) : FVec Ideal S1x1x128x256 .f32)⟩, ⟨Rect.unit (s := S4x3x128x256) ![3, 1, 0, 0] ![1, 1, 128, 256] inb_S4x3x128x256_S1x1x128x256_3_1_0_0, (k0_pay20 (iota Kind.tc S128x256 32 [1] iota_S128x256_d1_w32) (k0_pay15 (iota Kind.tc S128x256 32 [0] iota_S128x256_d0_w32) (128#32) (k0_pay11 (iota Kind.tc S128x256 32 [1] iota_S128x256_d1_w32)) (k0_pay12 (iota Kind.tc S128x256 32 [1] iota_S128x256_d1_w32)) (k0_pay13 (iota Kind.tc S128x256 32 [1] iota_S128x256_d1_w32)) k0_pay14) : FVec Ideal S1x1x128x256 .f32)⟩, ⟨Rect.unit (s := S4x3x128x256) ![2, 1, 0, 0] ![1, 1, 128, 256] inb_S4x3x128x256_S1x1x128x256_2_1_0_0, (k0_pay19 (k0_pay15 (iota Kind.tc S128x256 32 [0] iota_S128x256_d0_w32) (128#32) (k0_pay11 (iota Kind.tc S128x256 32 [1] iota_S128x256_d1_w32)) (k0_pay12 (iota Kind.tc S128x256 32 [1] iota_S128x256_d1_w32)) (k0_pay13 (iota Kind.tc S128x256 32 [1] iota_S128x256_d1_w32)) k0_pay14) (k0_pay18 (iota Kind.tc S128x256 32 [1] iota_S128x256_d1_w32)) : FVec Ideal S1x1x128x256 .f32)⟩, ⟨Rect.unit (s := S4x3x128x256) ![1, 1, 0, 0] ![1, 1, 128, 256] inb_S4x3x128x256_S1x1x128x256_1_1_0_0, (k0_pay17 (iota Kind.tc S128x256 32 [0] iota_S128x256_d0_w32) (iota Kind.tc S128x256 32 [1] iota_S128x256_d1_w32) (128#32) (k0_pay11 (iota Kind.tc S128x256 32 [1] iota_S128x256_d1_w32)) (k0_pay12 (iota Kind.tc S128x256 32 [1] iota_S128x256_d1_w32)) (k0_pay13 (iota Kind.tc S128x256 32 [1] iota_S128x256_d1_w32)) k0_pay14 : FVec Ideal S1x1x128x256 .f32)⟩, ⟨Rect.unit (s := S4x3x128x256) ![0, 1, 0, 0] ![1, 1, 128, 256] inb_S4x3x128x256_S1x1x128x256_0_1_0_0, (k0_pay16 (iota Kind.tc S128x256 32 [0] iota_S128x256_d0_w32) (iota Kind.tc S128x256 32 [1] iota_S128x256_d1_w32) (128#32) (k0_pay11 (iota Kind.tc S128x256 32 [1] iota_S128x256_d1_w32)) (k0_pay12 (iota Kind.tc S128x256 32 [1] iota_S128x256_d1_w32)) (k0_pay13 (iota Kind.tc S128x256 32 [1] iota_S128x256_d1_w32)) k0_pay14 : FVec Ideal S1x1x128x256 .f32)⟩, ⟨Rect.unit (s := S4x3x128x256) ![3, 0, 0, 0] ![1, 1, 128, 256] inb_S4x3x128x256_S1x1x128x256_3_0_0_0, (k0_pay10 (iota Kind.tc S128x256 32 [1] iota_S128x256_d1_w32) k0_pay3 : FVec Ideal S1x1x128x256 .f32)⟩, ⟨Rect.unit (s := S4x3x128x256) ![2, 0, 0, 0] ![1, 1, 128, 256] inb_S4x3x128x256_S1x1x128x256_2_0_0_0, (k0_pay9 (iota Kind.tc S128x256 32 [1] iota_S128x256_d1_w32) k0_pay3 : FVec Ideal S1x1x128x256 .f32)⟩, ⟨Rect.unit (s := S4x3x128x256) ![1, 0, 0, 0] ![1, 1, 128, 256] inb_S4x3x128x256_S1x1x128x256_1_0_0_0, (k0_pay8 k0_pay3 k0_pay5 k0_pay6 k0_pay7 : FVec Ideal S1x1x128x256 .f32)⟩, ⟨Rect.unit (s := S4x3x128x256) ![0, 0, 0, 0] ![1, 1, 128, 256] inb_S4x3x128x256_S1x1x128x256_0_0_0_0, (k0_pay4 : FVec Ideal S1x1x128x256 .f32)⟩]
/-- A load of one quarter of the table. -/
theorem ldp (T : Vec Ideal S4x3x128x256 .f32) (j : ℕ) (hj : j < 4) (inb) (κ : Fin 128) (l : Fin 256) : View.ld T (Rect.unit (s := S4x3x128x256) ![j, 0, 0, 0] ![1, 1, 128, 256] inb) (ix4 0 0 κ l) = T (ix4 ⟨j, hj⟩ 0 κ l) := by
  pointwise []
set_option maxRecDepth 100000 in
/-- The kernel's distances, taken in the tile's coordinates, are the reference's. -/
theorem DK : ∀ (κ : Fin 128) (l : Fin 256), IntOp.absi
            (IntOp.addi
              (IntOp.subi (BitVec.ofNat 32 ↑κ)
                (Scalar.select
                  (IntOp.andi
                    (IntOp.xori
                      (IntOp.cmpi CmpIPredicate.slt
                        (IntOp.remsi ArithUnit.vector (BitVec.ofNat 32 ↑l)
                          (Scalar.select (Scalar.cmpi CmpIPredicate.eq 128#32 0#32) 1#32 128#32))
                        0#32)
                      (Scalar.cmpi CmpIPredicate.slt
                        (Scalar.select (Scalar.cmpi CmpIPredicate.eq 128#32 0#32) 1#32 128#32) 0#32))
                    (IntOp.cmpi CmpIPredicate.ne
                      (IntOp.remsi ArithUnit.vector (BitVec.ofNat 32 ↑l)
                        (Scalar.select (Scalar.cmpi CmpIPredicate.eq 128#32 0#32) 1#32 128#32))
                      0#32))
                  (IntOp.addi
                    (IntOp.remsi ArithUnit.vector (BitVec.ofNat 32 ↑l)
                      (Scalar.select (Scalar.cmpi CmpIPredicate.eq 128#32 0#32) 1#32 128#32))
                    (Scalar.select (Scalar.cmpi CmpIPredicate.eq 128#32 0#32) 1#32 128#32))
                  (IntOp.remsi ArithUnit.vector (BitVec.ofNat 32 ↑l)
                    (Scalar.select (Scalar.cmpi CmpIPredicate.eq 128#32 0#32) 1#32 128#32))))
              0#32) = IntOp.absi (IntOp.subi (BitVec.ofNat 32 (l.val % 128)) (BitVec.ofNat 32 κ.val)) := by decide +kernel

/-- The comparison that splits 256 columns into two heads. -/
theorem lane2 : ∀ (x : Fin 256), IntOp.cmpi CmpIPredicate.slt (BitVec.ofNat 32 x.val) 128#32 = if x.val < 128 then 1#1 else 0#1 := by decide +kernel

/-- The distances, infinite where the mask excludes. -/
theorem dist (κ : Fin 128) (l : Fin 256) : k0_pay3 (F := Ideal) (ix2 κ l) = if IntOp.cmpi .sle (D ⟨l.val % 128, by omega⟩ κ) 64#32 = 1#1 then (((D ⟨l.val % 128, by omega⟩ κ).toInt : ℝ) : EReal) else ⊤ := by
  pointwise [k0_pay3]
  simp only [DK]
  rfl

/-- Slopes are positive. -/
theorem headSlope_pos (hd : Fin 8) : 0 < headSlope hd := by unfold headSlope; positivity

/-- An entry of the table: the penalty by distance and head, or infinity outside the window. -/
theorem tabv (j : Fin 4) (κ : Fin 128) (l : Fin 256) (A B : EReal) (hA : A = ((L * (headSlope ⟨2 * j.val, by omega⟩ * 16) : ℝ) : EReal)) (hB : B = ((L * (headSlope ⟨2 * j.val + 1, by omega⟩ * 16) : ℝ) : EReal)) :
    k0_pay3 (F := Ideal) (ix2 κ l) * Scalar.select (IntOp.cmpi CmpIPredicate.slt (BitVec.ofNat 32 l.val) 128#32) A B = PEN j κ l := by
  rw [dist, lane2, PEN, hA, hB]
  have hp : ∀ hd, 0 < L * (headSlope hd * 16) := fun hd => by have := L_pos; have := headSlope_pos hd; positivity
  by_cases hl : l.val < 128
  · have e : l.val / 128 = 0 := Nat.div_eq_of_lt hl
    simp only [hl, if_true, sel, e, add_zero]
    split
    · rw [← EReal.coe_mul]
    · exact EReal.top_mul_coe_of_pos (hp _)
  · have e : l.val / 128 = 1 := by omega
    simp only [hl, if_false, sel, e, show ¬((0#1 : BitVec 1) = 1#1) from by decide]
    split
    · rw [← EReal.coe_mul]
    · exact EReal.top_mul_coe_of_pos (hp _)

/-- The table's first pair of heads. -/
theorem tab0 (x : S1x1x128x256.Idx) : k0_pay4 (F := Ideal) x = PEN 0 (x 2) (x 3) := by
  pointwise [k0_pay4]
  refine tabv 0 (x 2) (x 3) _ _ ?_ ?_
  · refine (show _ = (((Real.log 2)⁻¹ * 8 : ℝ) : EReal) from rfl).trans (congrArg _ ?_)
    simp [headSlope, L]; norm_num
  · refine (show _ = (((Real.log 2)⁻¹ * 4 : ℝ) : EReal) from rfl).trans (congrArg _ ?_)
    simp [headSlope, L]; norm_num
/-- The table's second pair of heads. -/
theorem tab1 (x : S1x1x128x256.Idx) : k0_pay8 (F := Ideal) k0_pay3 k0_pay5 k0_pay6 k0_pay7 x = PEN 1 (x 2) (x 3) := by
  pointwise [k0_pay8, k0_pay5, k0_pay6, k0_pay7]
  refine tabv 1 (x 2) (x 3) _ _ ?_ ?_
  · refine (show _ = (((Real.log 2)⁻¹ * 2 : ℝ) : EReal) from rfl).trans (congrArg _ ?_)
    simp [headSlope, L]; norm_num
  · refine (show _ = (((Real.log 2)⁻¹ : ℝ) : EReal) from rfl).trans (congrArg _ ?_)
    simp [headSlope, L]; norm_num
/-- The table's third pair of heads. -/
theorem tab2 (x : S1x1x128x256.Idx) : k0_pay9 (F := Ideal) (iota Kind.tc S128x256 32 [1] iota_S128x256_d1_w32) k0_pay3 x = PEN 2 (x 2) (x 3) := by
  pointwise [k0_pay9]
  refine tabv 2 (x 2) (x 3) _ _ ?_ ?_
  · refine (show _ = (((Real.log 2)⁻¹ * (1 / 2) : ℝ) : EReal) from rfl).trans (congrArg _ ?_)
    simp [headSlope, L]; norm_num
  · refine (show _ = (((Real.log 2)⁻¹ * (1 / 4) : ℝ) : EReal) from rfl).trans (congrArg _ ?_)
    simp [headSlope, L]; norm_num
/-- The table's fourth pair of heads. -/
theorem tab3 (x : S1x1x128x256.Idx) : k0_pay10 (F := Ideal) (iota Kind.tc S128x256 32 [1] iota_S128x256_d1_w32) k0_pay3 x = PEN 3 (x 2) (x 3) := by
  pointwise [k0_pay10]
  refine tabv 3 (x 2) (x 3) _ _ ?_ ?_
  · refine (show _ = (((Real.log 2)⁻¹ * (1 / 8) : ℝ) : EReal) from rfl).trans (congrArg _ ?_)
    simp [headSlope, L]; norm_num
  · refine (show _ = (((Real.log 2)⁻¹ * (1 / 16) : ℝ) : EReal) from rfl).trans (congrArg _ ?_)
    simp [headSlope, L]; norm_num

/-- Penalties depend on the values of the indices only. -/
theorem pen_ext (j j' : Fin 4) (κ κ' : Fin 128) (l l' : Fin 256) (hj : j.val = j'.val) (hκ : κ.val = κ'.val) (hl : l.val = l'.val) : PEN j κ l = PEN j' κ' l' := by
  obtain rfl := Fin.ext hj; obtain rfl := Fin.ext hκ; obtain rfl := Fin.ext hl; rfl

/-- Its first slots hold the scaled distances. -/
theorem tab (y : S4x3x128x256.Idx) (h : (y 1).val = 0) : TAB y = PEN (y 0) (y 2) (y 3) := by
  unfold TAB
  canon_tiles x hx
  iterate 8 (first | (exfalso; omega))
  · exact (tab3 x).trans (pen_ext _ _ _ _ _ _ (by show 3 = _; omega) hx2.symm hx3.symm)
  · exact (tab2 x).trans (pen_ext _ _ _ _ _ _ (by show 2 = _; omega) hx2.symm hx3.symm)
  · exact (tab1 x).trans (pen_ext _ _ _ _ _ _ (by show 1 = _; omega) hx2.symm hx3.symm)
  · exact (tab0 x).trans (pen_ext _ _ _ _ _ _ (by show 0 = _; omega) hx2.symm hx3.symm)

/-- What a point reads of it for a pair of heads. -/
theorem tab_ld (j : ℕ) (hj : j < 4) (inb) (κ : Fin 128) (l : Fin 256) : View.ld TAB (Rect.unit (s := S4x3x128x256) ![j, 0, 0, 0] ![1, 1, 128, 256] inb) (ix4 0 0 κ l) = PEN ⟨j, hj⟩ κ l :=
  (ldp TAB j hj inb κ l).trans (tab _ rfl)
variable (m : (ℓ : Loc nD τ sig) → Buf (Elt Ideal) ℓ)

/-- Where each window's block starts, at every grid point. -/
theorem idx_val : ∀ t : Fin cfg0.N, win0_0.index t = ![t.val, 0] ∧ win0_1.index t = ![t.val, 1] ∧ win0_2.index t = ![t.val, 2]
    ∧ win0_3.index t = ![t.val, 0] ∧ win0_4.index t = ![t.val, 0] := (by decide +kernel : ∀ t : Fin grid0.N, _)
/-- The grid has 64 points. -/
theorem tlt (t : Fin cfg0.N) : t.val < 64 := lt_of_lt_of_eq t.isLt N_0

/-- The array the region reads: the queries' columns scaled, the others as they are. -/
def W (z : FVec Ideal S65536x1536 .f32) : FVec Ideal S65536x1536 .bf16 := fun i =>
  if (i 1).val < 512 then z i * Ideal.div (Ideal.ofBits .f32 0x3E000000#32) (Ideal.log (Ideal.ofBits .f32 0x40000000#32)) else z i
/-- The array that the call reads is the argument with its queries scaled. -/
theorem V8 (c : Dev nD) : V m c main_v8 = W (m ((c : Thread nD τ).loc main_arg0)) := by
  entry_read
  funext i
  pointwise [W]
  split
  · rfl
  · rename_i h
    refine congrArg (m (c, Proc.tc.devRef main_arg0)) (funext fun a => ?_)
    match a with
    | ⟨0, _⟩ => rfl
    | ⟨1, _⟩ => exact Fin.ext (by show 512 + ((i 1).val - 512) = (i 1).val; omega)
/-- A tile of the queries' block, by its place in the array. -/
theorem r0 (Z : FVec Ideal S65536x1536 .bf16) (t : Fin cfg0.N) (n j : ℕ) (hn : n < 8) (hj : j < 4) (inb) (x : S128x128.Idx) : View.ld (((cfg0.win 0).blk t).view.read (Elt Ideal) Z) (Rect.unit (s := S1024x512) ![128 * n, 128 * j] ![128, 128] inb) x = Z (ix2 ⟨(8 * t.val + n) * 128 + (x 0).val, by have := tlt t; have h : (x 0).val < 128 := (x 0).isLt; omega⟩ ⟨j * 128 + (x 1).val, by have h : (x 1).val < 128 := (x 1).isLt; omega⟩) := by
  have h0 : (x 0).val < 128 := (x 0).isLt
  have h1 : (x 1).val < 128 := (x 1).isLt
  pointwise []
  blk_point [idx_val t]
/-- A tile of the keys' block, by its place in the array. -/
theorem r1 (Z : FVec Ideal S65536x1536 .bf16) (t : Fin cfg0.N) (n j : ℕ) (hn : n < 8) (hj : j < 4) (inb) (x : S128x128.Idx) : View.ld (((cfg0.win 1).blk t).view.read (Elt Ideal) Z) (Rect.unit (s := S1024x512) ![128 * n, 128 * j] ![128, 128] inb) x = Z (ix2 ⟨(8 * t.val + n) * 128 + (x 0).val, by have := tlt t; have h : (x 0).val < 128 := (x 0).isLt; omega⟩ ⟨512 + (j * 128 + (x 1).val), by have h : (x 1).val < 128 := (x 1).isLt; omega⟩) := by
  have h0 : (x 0).val < 128 := (x 0).isLt
  have h1 : (x 1).val < 128 := (x 1).isLt
  pointwise []
  blk_point [idx_val t]
/-- A tile of the values' block, by its place in the array. -/
theorem r2 (Z : FVec Ideal S65536x1536 .bf16) (t : Fin cfg0.N) (n j : ℕ) (hn : n < 8) (hj : j < 4) (inb) (x : S128x128.Idx) : View.ld (((cfg0.win 2).blk t).view.read (Elt Ideal) Z) (Rect.unit (s := S1024x512) ![128 * n, 128 * j] ![128, 128] inb) x = Z (ix2 ⟨(8 * t.val + n) * 128 + (x 0).val, by have := tlt t; have h : (x 0).val < 128 := (x 0).isLt; omega⟩ ⟨1024 + (j * 128 + (x 1).val), by have h : (x 1).val < 128 := (x 1).isLt; omega⟩) := by
  have h0 : (x 0).val < 128 := (x 0).isLt
  have h1 : (x 1).val < 128 := (x 1).isLt
  pointwise []
  blk_point [idx_val t]

/-- The literal 2, in this module. -/
theorem otwo2 : Ideal.ofBits .f32 0x40000000#32 = (2 : EReal) := Cert.RefDil16Ideal.otwo

/-- A scaled query. -/
theorem W_q (z : FVec Ideal S65536x1536 .f32) (zr : S65536x1536.Idx → ℝ) (hz : ∀ i, z i = ((zr i : ℝ) : EReal)) (i : S65536x1536.Idx) (h : (i 1).val < 512) :
    W z i = ((zr i * (1 / 8 * L) : ℝ) : EReal) := by
  unfold W
  rw [if_pos h, otwo2, div_log_two, Cert.RefDil16Ideal.o8, hz, ← EReal.coe_mul, ← EReal.coe_mul]

/-- A key or value. -/
theorem W_kv (z : FVec Ideal S65536x1536 .f32) (zr : S65536x1536.Idx → ℝ) (hz : ∀ i, z i = ((zr i : ℝ) : EReal)) (i : S65536x1536.Idx) (h : ¬(i 1).val < 512) :
    W z i = ((zr i : ℝ) : EReal) := by
  unfold W
  rw [if_neg h, hz]

/-- A row of a point's block is a row of the array. -/
theorem row_lt (t : Fin cfg0.N) (y : S1024x512.Idx) : 1024 * t.val + (y 0).val < 65536 := by
  have := tlt t
  have h : (y 0).val < 1024 := (y 0).isLt
  omega

/-- One tile of a point's block: the attention outputs. -/
theorem tileO (c : Dev nD) (zr : S65536x1536.Idx → ℝ) (hz : ∀ i, m ((c : Thread nD τ).loc main_arg0) i = ((zr i : ℝ) : EReal)) (t : Fin cfg0.N) (n j : ℕ) (hn : n < 8) (hj : j < 4) (i0 i1 i2 i3)
    (x : S128x128.Idx) (i : S65536x512.Idx) (h0 : (i 0).val = (8 * t.val + n) * 128 + (x 0).val) (h1 : (i 1).val = j * 128 + (x 1).val) :
    UO (View.ld (iblk m c 0 t) (Rect.unit (s := S1024x512) ![128 * n, 128 * j] ![128, 128] i0)) (View.ld (iblk m c 1 t) (Rect.unit (s := S1024x512) ![128 * n, 128 * j] ![128, 128] i1))
      (View.ld (iblk m c 2 t) (Rect.unit (s := S1024x512) ![128 * n, 128 * j] ![128, 128] i2)) (View.ld TAB (Rect.unit (s := S4x3x128x256) ![j, 0, 0, 0] ![1, 1, 128, 256] i3)) x
      = RO (m ((c : Thread nD τ).loc main_arg0)) i := by
  have e0 : iblk m c 0 t = ((cfg0.win 0).blk t).view.read (Elt Ideal) (W (m ((c : Thread nD τ).loc main_arg0))) := congrArg _ (V8 m c)
  have e1 : iblk m c 1 t = ((cfg0.win 1).blk t).view.read (Elt Ideal) (W (m ((c : Thread nD τ).loc main_arg0))) := congrArg _ (V8 m c)
  have e2 : iblk m c 2 t = ((cfg0.win 2).blk t).view.read (Elt Ideal) (W (m ((c : Thread nD τ).loc main_arg0))) := congrArg _ (V8 m c)
  have ht := tlt t
  rw [e0, e1, e2]
  refine unitO (m ((c : Thread nD τ).loc main_arg0)) zr hz ⟨8 * t.val + n, by omega⟩ ⟨j, hj⟩ _ _ _ _ (fun a l => ?_) (fun a l => ?_) (fun a l => ?_) (fun κ l => ?_) x i h0 h1
  · exact (r0 _ t n j hn hj _ (ix2 a l)).trans (W_q _ zr hz _ (by show j * 128 + l.val < 512; omega))
  · exact (r1 _ t n j hn hj _ (ix2 a l)).trans (W_kv _ zr hz _ (by show ¬(512 + (j * 128 + l.val) < 512); omega))
  · exact (r2 _ t n j hn hj _ (ix2 a l)).trans (W_kv _ zr hz _ (by show ¬(1024 + (j * 128 + l.val) < 512); omega))
  · exact tab_ld j hj _ κ l

/-- One tile of a point's block: the log-sum-exponents. -/
theorem tileL (c : Dev nD) (zr : S65536x1536.Idx → ℝ) (hz : ∀ i, m ((c : Thread nD τ).loc main_arg0) i = ((zr i : ℝ) : EReal)) (t : Fin cfg0.N) (n j : ℕ) (hn : n < 8) (hj : j < 4) (i0 i1 i2 i3)
    (x : S128x128.Idx) (i : S65536x512.Idx) (h0 : (i 0).val = (8 * t.val + n) * 128 + (x 0).val) (h1 : (i 1).val = j * 128 + (x 1).val) :
    UL (View.ld (iblk m c 0 t) (Rect.unit (s := S1024x512) ![128 * n, 128 * j] ![128, 128] i0)) (View.ld (iblk m c 1 t) (Rect.unit (s := S1024x512) ![128 * n, 128 * j] ![128, 128] i1))
      (View.ld (iblk m c 2 t) (Rect.unit (s := S1024x512) ![128 * n, 128 * j] ![128, 128] i2)) (View.ld TAB (Rect.unit (s := S4x3x128x256) ![j, 0, 0, 0] ![1, 1, 128, 256] i3)) x
      = RL (m ((c : Thread nD τ).loc main_arg0)) i := by
  have e0 : iblk m c 0 t = ((cfg0.win 0).blk t).view.read (Elt Ideal) (W (m ((c : Thread nD τ).loc main_arg0))) := congrArg _ (V8 m c)
  have e1 : iblk m c 1 t = ((cfg0.win 1).blk t).view.read (Elt Ideal) (W (m ((c : Thread nD τ).loc main_arg0))) := congrArg _ (V8 m c)
  have e2 : iblk m c 2 t = ((cfg0.win 2).blk t).view.read (Elt Ideal) (W (m ((c : Thread nD τ).loc main_arg0))) := congrArg _ (V8 m c)
  have ht := tlt t
  rw [e0, e1, e2]
  refine unitL (m ((c : Thread nD τ).loc main_arg0)) zr hz ⟨8 * t.val + n, by omega⟩ ⟨j, hj⟩ _ _ _ _ (fun a l => ?_) (fun a l => ?_) (fun a l => ?_) (fun κ l => ?_) x i h0 h1
  · exact (r0 _ t n j hn hj _ (ix2 a l)).trans (W_q _ zr hz _ (by show j * 128 + l.val < 512; omega))
  · exact (r1 _ t n j hn hj _ (ix2 a l)).trans (W_kv _ zr hz _ (by show ¬(512 + (j * 128 + l.val) < 512); omega))
  · exact (r2 _ t n j hn hj _ (ix2 a l)).trans (W_kv _ zr hz _ (by show ¬(1024 + (j * 128 + l.val) < 512); omega))
  · exact tab_ld j hj _ κ l

/-- What a point that fills the scratch leaves in its block of the outputs. -/
theorem ptA3 (c : Dev nD) (t : Fin cfg0.N) (zr : S65536x1536.Idx → ℝ) (hz : ∀ i, m ((c : Thread nD τ).loc main_arg0) i = ((zr i : ℝ) : EReal)) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S4x3x128x256 .f32) (harg7 : arg7.IsWhole) (hc0 : cond0_0 i) (y : S1024x512.Idx) :
    out0_A_3 (F := Ideal) c i arg2 harg2 arg3 harg3 arg4 harg4 arg5 harg5 arg6 harg6 arg7 harg7 hc0 (iblk m c 0 t) (iblk m c 1 t) (iblk m c 2 t) y = RO (m ((c : Thread nD τ).loc main_arg0)) (ix2 ⟨1024 * t.val + (y 0).val, row_lt t y⟩ (y 1)) := by
  unfold out0_A_3
  frame_open
  simp (disch := decide) only [View.read_writes_junk_eq_canon, View.readAt_eq_ld, Memref.IsWhole.read_unread, View.ld_unit_lit']
  simp only [View.readCov_eq_canon']
  canon_tiles x hx
  · exact (congrFun (o73 _ _ _ _) x).trans (tileO m c zr hz t 7 3 (by decide) (by decide) _ _ _ _ x _ (by show 1024 * t.val + (y 0).val = _; omega) (by show (y 1).val = _; omega))
  · exact (congrFun (o72 _ _ _ _) x).trans (tileO m c zr hz t 7 2 (by decide) (by decide) _ _ _ _ x _ (by show 1024 * t.val + (y 0).val = _; omega) (by show (y 1).val = _; omega))
  · exact (congrFun (o71 _ _ _ _) x).trans (tileO m c zr hz t 7 1 (by decide) (by decide) _ _ _ _ x _ (by show 1024 * t.val + (y 0).val = _; omega) (by show (y 1).val = _; omega))
  · exact (congrFun (o70 _ _ _ _) x).trans (tileO m c zr hz t 7 0 (by decide) (by decide) _ _ _ _ x _ (by show 1024 * t.val + (y 0).val = _; omega) (by show (y 1).val = _; omega))
  · exact (congrFun (o63 _ _ _ _) x).trans (tileO m c zr hz t 6 3 (by decide) (by decide) _ _ _ _ x _ (by show 1024 * t.val + (y 0).val = _; omega) (by show (y 1).val = _; omega))
  · exact (congrFun (o62 _ _ _ _) x).trans (tileO m c zr hz t 6 2 (by decide) (by decide) _ _ _ _ x _ (by show 1024 * t.val + (y 0).val = _; omega) (by show (y 1).val = _; omega))
  · exact (congrFun (o61 _ _ _ _) x).trans (tileO m c zr hz t 6 1 (by decide) (by decide) _ _ _ _ x _ (by show 1024 * t.val + (y 0).val = _; omega) (by show (y 1).val = _; omega))
  · exact (congrFun (o60 _ _ _ _) x).trans (tileO m c zr hz t 6 0 (by decide) (by decide) _ _ _ _ x _ (by show 1024 * t.val + (y 0).val = _; omega) (by show (y 1).val = _; omega))
  · exact (congrFun (o53 _ _ _ _) x).trans (tileO m c zr hz t 5 3 (by decide) (by decide) _ _ _ _ x _ (by show 1024 * t.val + (y 0).val = _; omega) (by show (y 1).val = _; omega))
  · exact (congrFun (o52 _ _ _ _) x).trans (tileO m c zr hz t 5 2 (by decide) (by decide) _ _ _ _ x _ (by show 1024 * t.val + (y 0).val = _; omega) (by show (y 1).val = _; omega))
  · exact (congrFun (o51 _ _ _ _) x).trans (tileO m c zr hz t 5 1 (by decide) (by decide) _ _ _ _ x _ (by show 1024 * t.val + (y 0).val = _; omega) (by show (y 1).val = _; omega))
  · exact (congrFun (o50 _ _ _ _) x).trans (tileO m c zr hz t 5 0 (by decide) (by decide) _ _ _ _ x _ (by show 1024 * t.val + (y 0).val = _; omega) (by show (y 1).val = _; omega))
  · exact (congrFun (o43 _ _ _ _) x).trans (tileO m c zr hz t 4 3 (by decide) (by decide) _ _ _ _ x _ (by show 1024 * t.val + (y 0).val = _; omega) (by show (y 1).val = _; omega))
  · exact (congrFun (o42 _ _ _ _) x).trans (tileO m c zr hz t 4 2 (by decide) (by decide) _ _ _ _ x _ (by show 1024 * t.val + (y 0).val = _; omega) (by show (y 1).val = _; omega))
  · exact (congrFun (o41 _ _ _ _) x).trans (tileO m c zr hz t 4 1 (by decide) (by decide) _ _ _ _ x _ (by show 1024 * t.val + (y 0).val = _; omega) (by show (y 1).val = _; omega))
  · exact (congrFun (o40 _ _ _ _) x).trans (tileO m c zr hz t 4 0 (by decide) (by decide) _ _ _ _ x _ (by show 1024 * t.val + (y 0).val = _; omega) (by show (y 1).val = _; omega))
  · exact (congrFun (o33 _ _ _ _) x).trans (tileO m c zr hz t 3 3 (by decide) (by decide) _ _ _ _ x _ (by show 1024 * t.val + (y 0).val = _; omega) (by show (y 1).val = _; omega))
  · exact (congrFun (o32 _ _ _ _) x).trans (tileO m c zr hz t 3 2 (by decide) (by decide) _ _ _ _ x _ (by show 1024 * t.val + (y 0).val = _; omega) (by show (y 1).val = _; omega))
  · exact (congrFun (o31 _ _ _ _) x).trans (tileO m c zr hz t 3 1 (by decide) (by decide) _ _ _ _ x _ (by show 1024 * t.val + (y 0).val = _; omega) (by show (y 1).val = _; omega))
  · exact (congrFun (o30 _ _ _ _) x).trans (tileO m c zr hz t 3 0 (by decide) (by decide) _ _ _ _ x _ (by show 1024 * t.val + (y 0).val = _; omega) (by show (y 1).val = _; omega))
  · exact (congrFun (o23 _ _ _ _) x).trans (tileO m c zr hz t 2 3 (by decide) (by decide) _ _ _ _ x _ (by show 1024 * t.val + (y 0).val = _; omega) (by show (y 1).val = _; omega))
  · exact (congrFun (o22 _ _ _ _) x).trans (tileO m c zr hz t 2 2 (by decide) (by decide) _ _ _ _ x _ (by show 1024 * t.val + (y 0).val = _; omega) (by show (y 1).val = _; omega))
  · exact (congrFun (o21 _ _ _ _) x).trans (tileO m c zr hz t 2 1 (by decide) (by decide) _ _ _ _ x _ (by show 1024 * t.val + (y 0).val = _; omega) (by show (y 1).val = _; omega))
  · exact (congrFun (o20 _ _ _ _) x).trans (tileO m c zr hz t 2 0 (by decide) (by decide) _ _ _ _ x _ (by show 1024 * t.val + (y 0).val = _; omega) (by show (y 1).val = _; omega))
  · exact (congrFun (o13 _ _ _ _) x).trans (tileO m c zr hz t 1 3 (by decide) (by decide) _ _ _ _ x _ (by show 1024 * t.val + (y 0).val = _; omega) (by show (y 1).val = _; omega))
  · exact (congrFun (o12 _ _ _ _) x).trans (tileO m c zr hz t 1 2 (by decide) (by decide) _ _ _ _ x _ (by show 1024 * t.val + (y 0).val = _; omega) (by show (y 1).val = _; omega))
  · exact (congrFun (o11 _ _ _ _) x).trans (tileO m c zr hz t 1 1 (by decide) (by decide) _ _ _ _ x _ (by show 1024 * t.val + (y 0).val = _; omega) (by show (y 1).val = _; omega))
  · exact (congrFun (o10 _ _ _ _) x).trans (tileO m c zr hz t 1 0 (by decide) (by decide) _ _ _ _ x _ (by show 1024 * t.val + (y 0).val = _; omega) (by show (y 1).val = _; omega))
  · exact (congrFun (o03 _ _ _ _) x).trans (tileO m c zr hz t 0 3 (by decide) (by decide) _ _ _ _ x _ (by show 1024 * t.val + (y 0).val = _; omega) (by show (y 1).val = _; omega))
  · exact (congrFun (o02 _ _ _ _) x).trans (tileO m c zr hz t 0 2 (by decide) (by decide) _ _ _ _ x _ (by show 1024 * t.val + (y 0).val = _; omega) (by show (y 1).val = _; omega))
  · exact (congrFun (o01 _ _ _ _) x).trans (tileO m c zr hz t 0 1 (by decide) (by decide) _ _ _ _ x _ (by show 1024 * t.val + (y 0).val = _; omega) (by show (y 1).val = _; omega))
  · exact (congrFun (o00 _ _ _ _) x).trans (tileO m c zr hz t 0 0 (by decide) (by decide) _ _ _ _ x _ (by show 1024 * t.val + (y 0).val = _; omega) (by show (y 1).val = _; omega))

/-- What a point that fills the scratch leaves in its block of the log-sum-exponents. -/
theorem ptA4 (c : Dev nD) (t : Fin cfg0.N) (zr : S65536x1536.Idx → ℝ) (hz : ∀ i, m ((c : Thread nD τ).loc main_arg0) i = ((zr i : ℝ) : EReal)) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S4x3x128x256 .f32) (harg7 : arg7.IsWhole) (hc0 : cond0_0 i) (y : S1024x512.Idx) :
    out0_A_4 (F := Ideal) c i arg2 harg2 arg3 harg3 arg4 harg4 arg5 harg5 arg6 harg6 arg7 harg7 hc0 (iblk m c 0 t) (iblk m c 1 t) (iblk m c 2 t) y = RL (m ((c : Thread nD τ).loc main_arg0)) (ix2 ⟨1024 * t.val + (y 0).val, row_lt t y⟩ (y 1)) := by
  unfold out0_A_4
  frame_open
  simp (disch := decide) only [View.read_writes_junk_eq_canon, View.readAt_eq_ld, Memref.IsWhole.read_unread, View.ld_unit_lit']
  simp only [View.readCov_eq_canon']
  canon_tiles x hx
  · exact (congrFun (l73 _ _ _ _) x).trans (tileL m c zr hz t 7 3 (by decide) (by decide) _ _ _ _ x _ (by show 1024 * t.val + (y 0).val = _; omega) (by show (y 1).val = _; omega))
  · exact (congrFun (l72 _ _ _ _) x).trans (tileL m c zr hz t 7 2 (by decide) (by decide) _ _ _ _ x _ (by show 1024 * t.val + (y 0).val = _; omega) (by show (y 1).val = _; omega))
  · exact (congrFun (l71 _ _ _ _) x).trans (tileL m c zr hz t 7 1 (by decide) (by decide) _ _ _ _ x _ (by show 1024 * t.val + (y 0).val = _; omega) (by show (y 1).val = _; omega))
  · exact (congrFun (l70 _ _ _ _) x).trans (tileL m c zr hz t 7 0 (by decide) (by decide) _ _ _ _ x _ (by show 1024 * t.val + (y 0).val = _; omega) (by show (y 1).val = _; omega))
  · exact (congrFun (l63 _ _ _ _) x).trans (tileL m c zr hz t 6 3 (by decide) (by decide) _ _ _ _ x _ (by show 1024 * t.val + (y 0).val = _; omega) (by show (y 1).val = _; omega))
  · exact (congrFun (l62 _ _ _ _) x).trans (tileL m c zr hz t 6 2 (by decide) (by decide) _ _ _ _ x _ (by show 1024 * t.val + (y 0).val = _; omega) (by show (y 1).val = _; omega))
  · exact (congrFun (l61 _ _ _ _) x).trans (tileL m c zr hz t 6 1 (by decide) (by decide) _ _ _ _ x _ (by show 1024 * t.val + (y 0).val = _; omega) (by show (y 1).val = _; omega))
  · exact (congrFun (l60 _ _ _ _) x).trans (tileL m c zr hz t 6 0 (by decide) (by decide) _ _ _ _ x _ (by show 1024 * t.val + (y 0).val = _; omega) (by show (y 1).val = _; omega))
  · exact (congrFun (l53 _ _ _ _) x).trans (tileL m c zr hz t 5 3 (by decide) (by decide) _ _ _ _ x _ (by show 1024 * t.val + (y 0).val = _; omega) (by show (y 1).val = _; omega))
  · exact (congrFun (l52 _ _ _ _) x).trans (tileL m c zr hz t 5 2 (by decide) (by decide) _ _ _ _ x _ (by show 1024 * t.val + (y 0).val = _; omega) (by show (y 1).val = _; omega))
  · exact (congrFun (l51 _ _ _ _) x).trans (tileL m c zr hz t 5 1 (by decide) (by decide) _ _ _ _ x _ (by show 1024 * t.val + (y 0).val = _; omega) (by show (y 1).val = _; omega))
  · exact (congrFun (l50 _ _ _ _) x).trans (tileL m c zr hz t 5 0 (by decide) (by decide) _ _ _ _ x _ (by show 1024 * t.val + (y 0).val = _; omega) (by show (y 1).val = _; omega))
  · exact (congrFun (l43 _ _ _ _) x).trans (tileL m c zr hz t 4 3 (by decide) (by decide) _ _ _ _ x _ (by show 1024 * t.val + (y 0).val = _; omega) (by show (y 1).val = _; omega))
  · exact (congrFun (l42 _ _ _ _) x).trans (tileL m c zr hz t 4 2 (by decide) (by decide) _ _ _ _ x _ (by show 1024 * t.val + (y 0).val = _; omega) (by show (y 1).val = _; omega))
  · exact (congrFun (l41 _ _ _ _) x).trans (tileL m c zr hz t 4 1 (by decide) (by decide) _ _ _ _ x _ (by show 1024 * t.val + (y 0).val = _; omega) (by show (y 1).val = _; omega))
  · exact (congrFun (l40 _ _ _ _) x).trans (tileL m c zr hz t 4 0 (by decide) (by decide) _ _ _ _ x _ (by show 1024 * t.val + (y 0).val = _; omega) (by show (y 1).val = _; omega))
  · exact (congrFun (l33 _ _ _ _) x).trans (tileL m c zr hz t 3 3 (by decide) (by decide) _ _ _ _ x _ (by show 1024 * t.val + (y 0).val = _; omega) (by show (y 1).val = _; omega))
  · exact (congrFun (l32 _ _ _ _) x).trans (tileL m c zr hz t 3 2 (by decide) (by decide) _ _ _ _ x _ (by show 1024 * t.val + (y 0).val = _; omega) (by show (y 1).val = _; omega))
  · exact (congrFun (l31 _ _ _ _) x).trans (tileL m c zr hz t 3 1 (by decide) (by decide) _ _ _ _ x _ (by show 1024 * t.val + (y 0).val = _; omega) (by show (y 1).val = _; omega))
  · exact (congrFun (l30 _ _ _ _) x).trans (tileL m c zr hz t 3 0 (by decide) (by decide) _ _ _ _ x _ (by show 1024 * t.val + (y 0).val = _; omega) (by show (y 1).val = _; omega))
  · exact (congrFun (l23 _ _ _ _) x).trans (tileL m c zr hz t 2 3 (by decide) (by decide) _ _ _ _ x _ (by show 1024 * t.val + (y 0).val = _; omega) (by show (y 1).val = _; omega))
  · exact (congrFun (l22 _ _ _ _) x).trans (tileL m c zr hz t 2 2 (by decide) (by decide) _ _ _ _ x _ (by show 1024 * t.val + (y 0).val = _; omega) (by show (y 1).val = _; omega))
  · exact (congrFun (l21 _ _ _ _) x).trans (tileL m c zr hz t 2 1 (by decide) (by decide) _ _ _ _ x _ (by show 1024 * t.val + (y 0).val = _; omega) (by show (y 1).val = _; omega))
  · exact (congrFun (l20 _ _ _ _) x).trans (tileL m c zr hz t 2 0 (by decide) (by decide) _ _ _ _ x _ (by show 1024 * t.val + (y 0).val = _; omega) (by show (y 1).val = _; omega))
  · exact (congrFun (l13 _ _ _ _) x).trans (tileL m c zr hz t 1 3 (by decide) (by decide) _ _ _ _ x _ (by show 1024 * t.val + (y 0).val = _; omega) (by show (y 1).val = _; omega))
  · exact (congrFun (l12 _ _ _ _) x).trans (tileL m c zr hz t 1 2 (by decide) (by decide) _ _ _ _ x _ (by show 1024 * t.val + (y 0).val = _; omega) (by show (y 1).val = _; omega))
  · exact (congrFun (l11 _ _ _ _) x).trans (tileL m c zr hz t 1 1 (by decide) (by decide) _ _ _ _ x _ (by show 1024 * t.val + (y 0).val = _; omega) (by show (y 1).val = _; omega))
  · exact (congrFun (l10 _ _ _ _) x).trans (tileL m c zr hz t 1 0 (by decide) (by decide) _ _ _ _ x _ (by show 1024 * t.val + (y 0).val = _; omega) (by show (y 1).val = _; omega))
  · exact (congrFun (l03 _ _ _ _) x).trans (tileL m c zr hz t 0 3 (by decide) (by decide) _ _ _ _ x _ (by show 1024 * t.val + (y 0).val = _; omega) (by show (y 1).val = _; omega))
  · exact (congrFun (l02 _ _ _ _) x).trans (tileL m c zr hz t 0 2 (by decide) (by decide) _ _ _ _ x _ (by show 1024 * t.val + (y 0).val = _; omega) (by show (y 1).val = _; omega))
  · exact (congrFun (l01 _ _ _ _) x).trans (tileL m c zr hz t 0 1 (by decide) (by decide) _ _ _ _ x _ (by show 1024 * t.val + (y 0).val = _; omega) (by show (y 1).val = _; omega))
  · exact (congrFun (l00 _ _ _ _) x).trans (tileL m c zr hz t 0 0 (by decide) (by decide) _ _ _ _ x _ (by show 1024 * t.val + (y 0).val = _; omega) (by show (y 1).val = _; omega))

/-- What a point that finds it filled leaves in its block of the outputs. -/
theorem ptB3 (c : Dev nD) (t : Fin cfg0.N) (zr : S65536x1536.Idx → ℝ) (hz : ∀ i, m ((c : Thread nD τ).loc main_arg0) i = ((zr i : ℝ) : EReal)) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S4x3x128x256 .f32) (harg7 : arg7.IsWhole) (hc0 : ¬cond0_0 i) (y : S1024x512.Idx) :
    out0_B_3 (F := Ideal) c i arg2 harg2 arg3 harg3 arg4 harg4 arg5 harg5 arg6 harg6 arg7 harg7 hc0 (iblk m c 0 t) (iblk m c 1 t) (iblk m c 2 t) TAB y = RO (m ((c : Thread nD τ).loc main_arg0)) (ix2 ⟨1024 * t.val + (y 0).val, row_lt t y⟩ (y 1)) := by
  unfold out0_B_3
  frame_open
  simp (disch := decide) only [View.read_writes_junk_eq_canon, View.readAt_eq_ld, Memref.IsWhole.read_unread, View.ld_unit_lit']
  canon_tiles x hx
  · exact (congrFun (o73 _ _ _ _) x).trans (tileO m c zr hz t 7 3 (by decide) (by decide) _ _ _ _ x _ (by show 1024 * t.val + (y 0).val = _; omega) (by show (y 1).val = _; omega))
  · exact (congrFun (o72 _ _ _ _) x).trans (tileO m c zr hz t 7 2 (by decide) (by decide) _ _ _ _ x _ (by show 1024 * t.val + (y 0).val = _; omega) (by show (y 1).val = _; omega))
  · exact (congrFun (o71 _ _ _ _) x).trans (tileO m c zr hz t 7 1 (by decide) (by decide) _ _ _ _ x _ (by show 1024 * t.val + (y 0).val = _; omega) (by show (y 1).val = _; omega))
  · exact (congrFun (o70 _ _ _ _) x).trans (tileO m c zr hz t 7 0 (by decide) (by decide) _ _ _ _ x _ (by show 1024 * t.val + (y 0).val = _; omega) (by show (y 1).val = _; omega))
  · exact (congrFun (o63 _ _ _ _) x).trans (tileO m c zr hz t 6 3 (by decide) (by decide) _ _ _ _ x _ (by show 1024 * t.val + (y 0).val = _; omega) (by show (y 1).val = _; omega))
  · exact (congrFun (o62 _ _ _ _) x).trans (tileO m c zr hz t 6 2 (by decide) (by decide) _ _ _ _ x _ (by show 1024 * t.val + (y 0).val = _; omega) (by show (y 1).val = _; omega))
  · exact (congrFun (o61 _ _ _ _) x).trans (tileO m c zr hz t 6 1 (by decide) (by decide) _ _ _ _ x _ (by show 1024 * t.val + (y 0).val = _; omega) (by show (y 1).val = _; omega))
  · exact (congrFun (o60 _ _ _ _) x).trans (tileO m c zr hz t 6 0 (by decide) (by decide) _ _ _ _ x _ (by show 1024 * t.val + (y 0).val = _; omega) (by show (y 1).val = _; omega))
  · exact (congrFun (o53 _ _ _ _) x).trans (tileO m c zr hz t 5 3 (by decide) (by decide) _ _ _ _ x _ (by show 1024 * t.val + (y 0).val = _; omega) (by show (y 1).val = _; omega))
  · exact (congrFun (o52 _ _ _ _) x).trans (tileO m c zr hz t 5 2 (by decide) (by decide) _ _ _ _ x _ (by show 1024 * t.val + (y 0).val = _; omega) (by show (y 1).val = _; omega))
  · exact (congrFun (o51 _ _ _ _) x).trans (tileO m c zr hz t 5 1 (by decide) (by decide) _ _ _ _ x _ (by show 1024 * t.val + (y 0).val = _; omega) (by show (y 1).val = _; omega))
  · exact (congrFun (o50 _ _ _ _) x).trans (tileO m c zr hz t 5 0 (by decide) (by decide) _ _ _ _ x _ (by show 1024 * t.val + (y 0).val = _; omega) (by show (y 1).val = _; omega))
  · exact (congrFun (o43 _ _ _ _) x).trans (tileO m c zr hz t 4 3 (by decide) (by decide) _ _ _ _ x _ (by show 1024 * t.val + (y 0).val = _; omega) (by show (y 1).val = _; omega))
  · exact (congrFun (o42 _ _ _ _) x).trans (tileO m c zr hz t 4 2 (by decide) (by decide) _ _ _ _ x _ (by show 1024 * t.val + (y 0).val = _; omega) (by show (y 1).val = _; omega))
  · exact (congrFun (o41 _ _ _ _) x).trans (tileO m c zr hz t 4 1 (by decide) (by decide) _ _ _ _ x _ (by show 1024 * t.val + (y 0).val = _; omega) (by show (y 1).val = _; omega))
  · exact (congrFun (o40 _ _ _ _) x).trans (tileO m c zr hz t 4 0 (by decide) (by decide) _ _ _ _ x _ (by show 1024 * t.val + (y 0).val = _; omega) (by show (y 1).val = _; omega))
  · exact (congrFun (o33 _ _ _ _) x).trans (tileO m c zr hz t 3 3 (by decide) (by decide) _ _ _ _ x _ (by show 1024 * t.val + (y 0).val = _; omega) (by show (y 1).val = _; omega))
  · exact (congrFun (o32 _ _ _ _) x).trans (tileO m c zr hz t 3 2 (by decide) (by decide) _ _ _ _ x _ (by show 1024 * t.val + (y 0).val = _; omega) (by show (y 1).val = _; omega))
  · exact (congrFun (o31 _ _ _ _) x).trans (tileO m c zr hz t 3 1 (by decide) (by decide) _ _ _ _ x _ (by show 1024 * t.val + (y 0).val = _; omega) (by show (y 1).val = _; omega))
  · exact (congrFun (o30 _ _ _ _) x).trans (tileO m c zr hz t 3 0 (by decide) (by decide) _ _ _ _ x _ (by show 1024 * t.val + (y 0).val = _; omega) (by show (y 1).val = _; omega))
  · exact (congrFun (o23 _ _ _ _) x).trans (tileO m c zr hz t 2 3 (by decide) (by decide) _ _ _ _ x _ (by show 1024 * t.val + (y 0).val = _; omega) (by show (y 1).val = _; omega))
  · exact (congrFun (o22 _ _ _ _) x).trans (tileO m c zr hz t 2 2 (by decide) (by decide) _ _ _ _ x _ (by show 1024 * t.val + (y 0).val = _; omega) (by show (y 1).val = _; omega))
  · exact (congrFun (o21 _ _ _ _) x).trans (tileO m c zr hz t 2 1 (by decide) (by decide) _ _ _ _ x _ (by show 1024 * t.val + (y 0).val = _; omega) (by show (y 1).val = _; omega))
  · exact (congrFun (o20 _ _ _ _) x).trans (tileO m c zr hz t 2 0 (by decide) (by decide) _ _ _ _ x _ (by show 1024 * t.val + (y 0).val = _; omega) (by show (y 1).val = _; omega))
  · exact (congrFun (o13 _ _ _ _) x).trans (tileO m c zr hz t 1 3 (by decide) (by decide) _ _ _ _ x _ (by show 1024 * t.val + (y 0).val = _; omega) (by show (y 1).val = _; omega))
  · exact (congrFun (o12 _ _ _ _) x).trans (tileO m c zr hz t 1 2 (by decide) (by decide) _ _ _ _ x _ (by show 1024 * t.val + (y 0).val = _; omega) (by show (y 1).val = _; omega))
  · exact (congrFun (o11 _ _ _ _) x).trans (tileO m c zr hz t 1 1 (by decide) (by decide) _ _ _ _ x _ (by show 1024 * t.val + (y 0).val = _; omega) (by show (y 1).val = _; omega))
  · exact (congrFun (o10 _ _ _ _) x).trans (tileO m c zr hz t 1 0 (by decide) (by decide) _ _ _ _ x _ (by show 1024 * t.val + (y 0).val = _; omega) (by show (y 1).val = _; omega))
  · exact (congrFun (o03 _ _ _ _) x).trans (tileO m c zr hz t 0 3 (by decide) (by decide) _ _ _ _ x _ (by show 1024 * t.val + (y 0).val = _; omega) (by show (y 1).val = _; omega))
  · exact (congrFun (o02 _ _ _ _) x).trans (tileO m c zr hz t 0 2 (by decide) (by decide) _ _ _ _ x _ (by show 1024 * t.val + (y 0).val = _; omega) (by show (y 1).val = _; omega))
  · exact (congrFun (o01 _ _ _ _) x).trans (tileO m c zr hz t 0 1 (by decide) (by decide) _ _ _ _ x _ (by show 1024 * t.val + (y 0).val = _; omega) (by show (y 1).val = _; omega))
  · exact (congrFun (o00 _ _ _ _) x).trans (tileO m c zr hz t 0 0 (by decide) (by decide) _ _ _ _ x _ (by show 1024 * t.val + (y 0).val = _; omega) (by show (y 1).val = _; omega))

/-- What a point that finds it filled leaves in its block of the log-sum-exponents. -/
theorem ptB4 (c : Dev nD) (t : Fin cfg0.N) (zr : S65536x1536.Idx → ℝ) (hz : ∀ i, m ((c : Thread nD τ).loc main_arg0) i = ((zr i : ℝ) : EReal)) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S4x3x128x256 .f32) (harg7 : arg7.IsWhole) (hc0 : ¬cond0_0 i) (y : S1024x512.Idx) :
    out0_B_4 (F := Ideal) c i arg2 harg2 arg3 harg3 arg4 harg4 arg5 harg5 arg6 harg6 arg7 harg7 hc0 (iblk m c 0 t) (iblk m c 1 t) (iblk m c 2 t) TAB y = RL (m ((c : Thread nD τ).loc main_arg0)) (ix2 ⟨1024 * t.val + (y 0).val, row_lt t y⟩ (y 1)) := by
  unfold out0_B_4
  frame_open
  simp (disch := decide) only [View.read_writes_junk_eq_canon, View.readAt_eq_ld, Memref.IsWhole.read_unread, View.ld_unit_lit']
  canon_tiles x hx
  · exact (congrFun (l73 _ _ _ _) x).trans (tileL m c zr hz t 7 3 (by decide) (by decide) _ _ _ _ x _ (by show 1024 * t.val + (y 0).val = _; omega) (by show (y 1).val = _; omega))
  · exact (congrFun (l72 _ _ _ _) x).trans (tileL m c zr hz t 7 2 (by decide) (by decide) _ _ _ _ x _ (by show 1024 * t.val + (y 0).val = _; omega) (by show (y 1).val = _; omega))
  · exact (congrFun (l71 _ _ _ _) x).trans (tileL m c zr hz t 7 1 (by decide) (by decide) _ _ _ _ x _ (by show 1024 * t.val + (y 0).val = _; omega) (by show (y 1).val = _; omega))
  · exact (congrFun (l70 _ _ _ _) x).trans (tileL m c zr hz t 7 0 (by decide) (by decide) _ _ _ _ x _ (by show 1024 * t.val + (y 0).val = _; omega) (by show (y 1).val = _; omega))
  · exact (congrFun (l63 _ _ _ _) x).trans (tileL m c zr hz t 6 3 (by decide) (by decide) _ _ _ _ x _ (by show 1024 * t.val + (y 0).val = _; omega) (by show (y 1).val = _; omega))
  · exact (congrFun (l62 _ _ _ _) x).trans (tileL m c zr hz t 6 2 (by decide) (by decide) _ _ _ _ x _ (by show 1024 * t.val + (y 0).val = _; omega) (by show (y 1).val = _; omega))
  · exact (congrFun (l61 _ _ _ _) x).trans (tileL m c zr hz t 6 1 (by decide) (by decide) _ _ _ _ x _ (by show 1024 * t.val + (y 0).val = _; omega) (by show (y 1).val = _; omega))
  · exact (congrFun (l60 _ _ _ _) x).trans (tileL m c zr hz t 6 0 (by decide) (by decide) _ _ _ _ x _ (by show 1024 * t.val + (y 0).val = _; omega) (by show (y 1).val = _; omega))
  · exact (congrFun (l53 _ _ _ _) x).trans (tileL m c zr hz t 5 3 (by decide) (by decide) _ _ _ _ x _ (by show 1024 * t.val + (y 0).val = _; omega) (by show (y 1).val = _; omega))
  · exact (congrFun (l52 _ _ _ _) x).trans (tileL m c zr hz t 5 2 (by decide) (by decide) _ _ _ _ x _ (by show 1024 * t.val + (y 0).val = _; omega) (by show (y 1).val = _; omega))
  · exact (congrFun (l51 _ _ _ _) x).trans (tileL m c zr hz t 5 1 (by decide) (by decide) _ _ _ _ x _ (by show 1024 * t.val + (y 0).val = _; omega) (by show (y 1).val = _; omega))
  · exact (congrFun (l50 _ _ _ _) x).trans (tileL m c zr hz t 5 0 (by decide) (by decide) _ _ _ _ x _ (by show 1024 * t.val + (y 0).val = _; omega) (by show (y 1).val = _; omega))
  · exact (congrFun (l43 _ _ _ _) x).trans (tileL m c zr hz t 4 3 (by decide) (by decide) _ _ _ _ x _ (by show 1024 * t.val + (y 0).val = _; omega) (by show (y 1).val = _; omega))
  · exact (congrFun (l42 _ _ _ _) x).trans (tileL m c zr hz t 4 2 (by decide) (by decide) _ _ _ _ x _ (by show 1024 * t.val + (y 0).val = _; omega) (by show (y 1).val = _; omega))
  · exact (congrFun (l41 _ _ _ _) x).trans (tileL m c zr hz t 4 1 (by decide) (by decide) _ _ _ _ x _ (by show 1024 * t.val + (y 0).val = _; omega) (by show (y 1).val = _; omega))
  · exact (congrFun (l40 _ _ _ _) x).trans (tileL m c zr hz t 4 0 (by decide) (by decide) _ _ _ _ x _ (by show 1024 * t.val + (y 0).val = _; omega) (by show (y 1).val = _; omega))
  · exact (congrFun (l33 _ _ _ _) x).trans (tileL m c zr hz t 3 3 (by decide) (by decide) _ _ _ _ x _ (by show 1024 * t.val + (y 0).val = _; omega) (by show (y 1).val = _; omega))
  · exact (congrFun (l32 _ _ _ _) x).trans (tileL m c zr hz t 3 2 (by decide) (by decide) _ _ _ _ x _ (by show 1024 * t.val + (y 0).val = _; omega) (by show (y 1).val = _; omega))
  · exact (congrFun (l31 _ _ _ _) x).trans (tileL m c zr hz t 3 1 (by decide) (by decide) _ _ _ _ x _ (by show 1024 * t.val + (y 0).val = _; omega) (by show (y 1).val = _; omega))
  · exact (congrFun (l30 _ _ _ _) x).trans (tileL m c zr hz t 3 0 (by decide) (by decide) _ _ _ _ x _ (by show 1024 * t.val + (y 0).val = _; omega) (by show (y 1).val = _; omega))
  · exact (congrFun (l23 _ _ _ _) x).trans (tileL m c zr hz t 2 3 (by decide) (by decide) _ _ _ _ x _ (by show 1024 * t.val + (y 0).val = _; omega) (by show (y 1).val = _; omega))
  · exact (congrFun (l22 _ _ _ _) x).trans (tileL m c zr hz t 2 2 (by decide) (by decide) _ _ _ _ x _ (by show 1024 * t.val + (y 0).val = _; omega) (by show (y 1).val = _; omega))
  · exact (congrFun (l21 _ _ _ _) x).trans (tileL m c zr hz t 2 1 (by decide) (by decide) _ _ _ _ x _ (by show 1024 * t.val + (y 0).val = _; omega) (by show (y 1).val = _; omega))
  · exact (congrFun (l20 _ _ _ _) x).trans (tileL m c zr hz t 2 0 (by decide) (by decide) _ _ _ _ x _ (by show 1024 * t.val + (y 0).val = _; omega) (by show (y 1).val = _; omega))
  · exact (congrFun (l13 _ _ _ _) x).trans (tileL m c zr hz t 1 3 (by decide) (by decide) _ _ _ _ x _ (by show 1024 * t.val + (y 0).val = _; omega) (by show (y 1).val = _; omega))
  · exact (congrFun (l12 _ _ _ _) x).trans (tileL m c zr hz t 1 2 (by decide) (by decide) _ _ _ _ x _ (by show 1024 * t.val + (y 0).val = _; omega) (by show (y 1).val = _; omega))
  · exact (congrFun (l11 _ _ _ _) x).trans (tileL m c zr hz t 1 1 (by decide) (by decide) _ _ _ _ x _ (by show 1024 * t.val + (y 0).val = _; omega) (by show (y 1).val = _; omega))
  · exact (congrFun (l10 _ _ _ _) x).trans (tileL m c zr hz t 1 0 (by decide) (by decide) _ _ _ _ x _ (by show 1024 * t.val + (y 0).val = _; omega) (by show (y 1).val = _; omega))
  · exact (congrFun (l03 _ _ _ _) x).trans (tileL m c zr hz t 0 3 (by decide) (by decide) _ _ _ _ x _ (by show 1024 * t.val + (y 0).val = _; omega) (by show (y 1).val = _; omega))
  · exact (congrFun (l02 _ _ _ _) x).trans (tileL m c zr hz t 0 2 (by decide) (by decide) _ _ _ _ x _ (by show 1024 * t.val + (y 0).val = _; omega) (by show (y 1).val = _; omega))
  · exact (congrFun (l01 _ _ _ _) x).trans (tileL m c zr hz t 0 1 (by decide) (by decide) _ _ _ _ x _ (by show 1024 * t.val + (y 0).val = _; omega) (by show (y 1).val = _; omega))
  · exact (congrFun (l00 _ _ _ _) x).trans (tileL m c zr hz t 0 0 (by decide) (by decide) _ _ _ _ x _ (by show 1024 * t.val + (y 0).val = _; omega) (by show (y 1).val = _; omega))

/-- The scratch after a point that fills it. -/
theorem soutA (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .f32) (harg6 : arg6.IsWhole) (arg7 : Memref sig .tc .vmem S4x3x128x256 .f32) (harg7 : arg7.IsWhole) (hc0 : cond0_0 i) (x0 x1 x2 : Vec Ideal S1024x512 .bf16) :
    sout0_A_0 (F := Ideal) c i arg2 harg2 arg3 harg3 arg4 harg4 arg5 harg5 arg6 harg6 arg7 harg7 hc0 x0 x1 x2 = TAB := by
  funext y
  unfold sout0_A_0
  frame_open
  simp (disch := decide) only [View.read_writes_junk_eq_canon, View.readAt_eq_ld, Memref.IsWhole.read_unread, View.ld_unit_lit']

/-- The scratch after every point. -/
theorem scr (c : Dev nD) : ∀ (n : ℕ) (hn : n < cfg0.N), (outsAt0 m c n hn).2.2 = TAB := by
  intro n
  induction n with
  | zero =>
    intro hn
    rw [show outsAt0 m c 0 hn = _ from outsAt0_A m c ⟨0, hn⟩ (Nat.zero_mod _)]
    dsimp only
    exact soutA _ _ _ _ _ _ _ _ _ _ _ _ _ _ _ _ _ _
  | succ n ih =>
    intro hn
    have h64 : n + 1 < 64 := lt_of_lt_of_eq hn N_0
    rw [show outsAt0 m c (n + 1) hn = _ from outsAt0_B m c ⟨n + 1, hn⟩ (by show ¬(n + 1) % 64 = 0; omega)]
    exact ih _

/-- An array of outputs, read at an index of a point's block. -/
theorem emb3 (Z : FVec Ideal S65536x512 .bf16) (t : Fin cfg0.N) (y : S1024x512.Idx) : Z (((cfg0.win 3).blk t).view.emb y) = Z (ix2 ⟨1024 * t.val + (y 0).val, row_lt t y⟩ (y 1)) := by
  have h0 : (y 0).val < 1024 := (y 0).isLt
  have h1 : (y 1).val < 512 := (y 1).isLt
  blk_point [idx_val t]

/-- The whole array of the outputs after the kernel's run. -/
theorem final3' (c : Dev nD) (zr : S65536x1536.Idx → ℝ) (hz : ∀ i, m ((c : Thread nD τ).loc main_arg0) i = ((zr i : ℝ) : EReal)) :
    (dats m 0 c).arrAt 3 (cfgs 0).N = RO (m ((c : Thread nD τ).loc main_arg0)) := by
  refine (dats m 0 c).arrAt_eq_of_covers 3 _ (by decide +kernel) fun t _ y => ?_
  blk_simp
  rw [after0_3]
  refine Eq.trans ?_ (emb3 (RO (m ((c : Thread nD τ).loc main_arg0))) t y).symm
  by_cases h0 : t.val % 64 = 0
  · rw [outsAt0_A m c t h0]
    dsimp only
    exact ptA3 m c t zr hz _ _ _ _ _ _ _ _ _ _ _ _ _ _ y
  · rw [outsAt0_B m c t h0]
    dsimp only
    rw [scr m c]
    exact ptB3 m c t zr hz _ _ _ _ _ _ _ _ _ _ _ _ _ _ y

/-- An array of log-sum-exponents, read at an index of a point's block. -/
theorem emb4 (Z : FVec Ideal S65536x512 .f32) (t : Fin cfg0.N) (y : S1024x512.Idx) : Z (((cfg0.win 4).blk t).view.emb y) = Z (ix2 ⟨1024 * t.val + (y 0).val, row_lt t y⟩ (y 1)) := by
  have h0 : (y 0).val < 1024 := (y 0).isLt
  have h1 : (y 1).val < 512 := (y 1).isLt
  blk_point [idx_val t]

/-- The whole array of the log-sum-exponents after the kernel's run. -/
theorem final4' (c : Dev nD) (zr : S65536x1536.Idx → ℝ) (hz : ∀ i, m ((c : Thread nD τ).loc main_arg0) i = ((zr i : ℝ) : EReal)) :
    (dats m 0 c).arrAt 4 (cfgs 0).N = RL (m ((c : Thread nD τ).loc main_arg0)) := by
  refine (dats m 0 c).arrAt_eq_of_covers 4 _ (by decide +kernel) fun t _ y => ?_
  blk_simp
  rw [after0_4]
  refine Eq.trans ?_ (emb4 (RL (m ((c : Thread nD τ).loc main_arg0))) t y).symm
  by_cases h0 : t.val % 64 = 0
  · rw [outsAt0_A m c t h0]
    dsimp only
    exact ptA4 m c t zr hz _ _ _ _ _ _ _ _ _ _ _ _ _ _ y
  · rw [outsAt0_B m c t h0]
    dsimp only
    rw [scr m c]
    exact ptB4 m c t zr hz _ _ _ _ _ _ _ _ _ _ _ _ _ _ y

/-- The shapes that the precondition broadcasts along. -/
theorem preFacts : Cert.Pre_finite.Facts := ⟨by decide⟩

/-- What the precondition says of an entry. -/
theorem fin_of [Cert.Pre_finite.Facts] (z : FVec Ideal S65536x1536 .f32) (h : Cert.Pre_finite.fn (F := Ideal) z = fun _ => 1#1) (i : S65536x1536.Idx) : z i ≠ ⊤ ∧ z i ≠ ⊥ := by
  have e := congrFun h i
  have e' : FloatOps.cmpf (F := Ideal) (φ := .f32) .olt (FloatOps.absf (F := Ideal) (φ := .f32) (z i)) (FloatOps.ofBits .f32 0x7F800000#32) = 1#1 := e
  have o : Ideal.ofBits .f32 0x7F800000#32 = (⊤ : EReal) := by simp [Ideal.ofBits, Ideal.ieee]
  generalize z i = w at *
  constructor
  · rintro rfl
    simp [FloatOps.cmpf, FloatOps.absf, FloatOps.ofBits, o, Ideal.cmp] at e'
  · rintro rfl
    simp [FloatOps.cmpf, FloatOps.absf, FloatOps.ofBits, o, Ideal.cmp] at e'

/-- Over the extended reals the kernel's two results equal the reference's, for every argument whose entries are finite. -/
theorem claim [Cert.Pre_finite.Facts] : Cert.algebraic_Dil16Ideal_RefDil16Ideal_pre_finite := by
  intro m g m' g' hpre hargs
  have hz : ∀ (c : Dev nD) (i : S65536x1536.Idx), m ((c : Thread nD τ).loc main_arg0) i = (((fun i => EReal.toReal (m ((c : Thread nD τ).loc main_arg0) i)) i : ℝ) : EReal) := fun c i =>
    (EReal.coe_toReal (fin_of _ (hpre c) i).1 (fin_of _ (hpre c) i).2).symm
  refine ⟨fun c => RO (m ((c : Thread nD τ).loc main_arg0)), fun c => RL (m ((c : Thread nD τ).loc main_arg0)),
    (θ_run defs _ _).mono (fun r h c => ?_) (Cert.Dil16Ideal.Value.run_blocks m g),
    (θ_run (Cert.RefDil16Ideal.defs (F := Ideal)) _ _).mono (fun r h c => ?_) (Cert.RefDil16Ideal.Value.run m' g')⟩
  · obtain ⟨hv, hw, h0⟩ := h c
    exact ⟨hv.trans (final3' m c _ (hz c)), hw.trans (final4' m c _ (hz c)), h0⟩
  · obtain ⟨hv, hw, h0⟩ := h c
    refine ⟨hv.trans ?_, hw.trans ?_, h0⟩
    · rw [Cert.RefDil16Ideal.res0_eq, hargs c]
    · rw [Cert.RefDil16Ideal.res1_eq, hargs c]

end Cert.Dil16Value

end
-- ==== Proof.ProjOdd.lean ====
/-
  The projection in front of the odd layers' mixers: a row of the hidden state is normalised by the root of its mean square,
  scaled, and multiplied by the layer's 6400 projection columns. Each grid point does 512 rows and stores five tiles of 1280
  columns; this module shows that the array it leaves is the reference's one product over all rows and columns.
-/
module

public import proofs.«01_k».proof.Defs
public import proofs.«01_k».proof.Proof.Gen.ProjOddIdeal.Value
public import proofs.«01_k».proof.Proof.Gen.RefProjOddIdeal.Run
public import Idealize.ShloMosaic.Lib.Pipeline.ValueKit
public import Idealize.ShloMosaic.Lib.Pointwise
public import Idealize.ShloMosaic.Lib.Claim
public import Idealize.ShloMosaic.Adequacy

@[expose] public section

set_option maxRecDepth 16384

noncomputable section

namespace Cert.ProjOddValue

open Idealize.ShloMosaic Idealize.ShloMosaic.TcCoe Idealize.SL.Sem
open Idealize.ShloMosaic.Pipeline (Dat)
open Cert.ProjOddIdeal Cert.ProjOddIdeal.Gen

/-- The reference's result as a function of its three arguments: the hidden state, the scale and the weights. -/
def REF (x : FVec Ideal S65536x1024 .f32) (g : FVec Ideal Cert.RefProjOddIdeal.S1024 .f32) (w : FVec Ideal S1024x6400 .bf16) :
    FVec Ideal S65536x6400 .bf16 :=
  truncf .bf16 (Host.dotGeneral Cert.RefProjOddIdeal.dot_S65536x1024_S1024x6400_S65536x6400_1_0_0_1_n_n none
    (mulf (mulf x (broadcastInDim Cert.RefProjOddIdeal.S65536x1024 ![0, 1] Cert.RefProjOddIdeal.Gen.bcast_S65536x1_S65536x1024_0_1
      (Host.rsqrt (addf (Host.divf (broadcastInDim Cert.RefProjOddIdeal.S65536x1 ![0] Cert.RefProjOddIdeal.Gen.bcast_S65536_S65536x1_0
        (Host.reduceAdd (mulf x x) (constant Cert.RefProjOddIdeal.S_ .f32 0x00000000#32)
          Cert.RefProjOddIdeal.Gen.reducesTo_S65536x1024_S65536_d1 Cert.RefProjOddIdeal.Gen.h_S_))
        (broadcastInDim Cert.RefProjOddIdeal.S65536x1 ![] Cert.RefProjOddIdeal.Gen.bcast_S_S65536x1 (constant Cert.RefProjOddIdeal.S_ .f32 0x44800000#32)))
        (broadcastInDim Cert.RefProjOddIdeal.S65536x1 ![] Cert.RefProjOddIdeal.Gen.bcast_S_S65536x1 (constant Cert.RefProjOddIdeal.S_ .f32 0x358637BD#32))))))
      (broadcastInDim Cert.RefProjOddIdeal.S65536x1024 ![0, 1] Cert.RefProjOddIdeal.Gen.bcast_S1x1024_S65536x1024_0_1
        (broadcastInDim Cert.RefProjOddIdeal.S1x1024 ![1] Cert.RefProjOddIdeal.Gen.bcast_S1024_S1x1024_1 g)))
    (extf .f32 w Cert.RefProjOddIdeal.Gen.bitsLt_bf16_f32)) Cert.RefProjOddIdeal.Gen.bitsLt_bf16_f32

variable (m : (ℓ : Loc nD τ sig) → Buf (Elt Ideal) ℓ)

/-- Where each window's block sits at grid point `t`: the rows move with the point, the scale and the weights stay. -/
theorem idx_val : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What grid point `t` leaves at a place of its block is the reference's value at the array index the place stands for. -/
theorem point (c : Dev nD) (t : Fin cfg0.N) (y : S512x6400.Idx) :
    out0_3 (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  unfold out0_3
  canon_tiles x h
  all_goals (open_payloads; pointwise [REF]; blk_point [iblk, V, idx_val t])

/-- The whole result array after the kernel's run is the reference's value of the three argument arrays. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

/-- Over the extended reals the kernel's result equals the reference's, for every content of the arguments. -/
theorem claim : Cert.algebraic_ProjOddIdeal_RefProjOddIdeal := by
  intro m g m' g' _ hargs
  refine ⟨fun c => REF (m ((c : Thread nD τ).loc main_arg0)) (m ((c : Thread nD τ).loc main_arg1)) (m ((c : Thread nD τ).loc main_arg2)),
    (θ_run defs _ _).mono (fun r h c => ?_) (Cert.ProjOddIdeal.Value.run_blocks m g),
    (θ_run (Cert.RefProjOddIdeal.defs (F := Ideal)) _ _).mono (fun r h c => ?_) (Cert.RefProjOddIdeal.Value.run m' g')⟩
  · obtain ⟨hv, h0, h1, h2⟩ := h c
    exact ⟨hv.trans (final m c), h0, h1, h2⟩
  · obtain ⟨hv, h0, h1, h2⟩ := h c
    refine ⟨hv.trans ?_, h0, h1, h2⟩
    rw [(hargs c).1, (hargs c).2.1, (hargs c).2.2]
    rfl

end Cert.ProjOddValue

end
-- ==== Proof.ProjEven.lean ====
/-
  The projection in front of the even layers' mixers: a row of the hidden state is normalised by the root of its mean square,
  scaled, and multiplied by the layer's 7680 projection columns, whose parts are four results: the windowed attention's 3072
  columns, and 1536 columns for each of three dilations, the second and third with a sequence's positions gathered by their
  residue modulo 4 and 16. Each grid point does 512 rows; the gathered parts go through a scratch buffer that is read with a
  stride. This module shows that the four arrays are the reference's product, cut and gathered.
-/
module

public import proofs.«01_k».proof.Defs
public import proofs.«01_k».proof.Proof.Gen.ProjEvenIdeal.Value
public import proofs.«01_k».proof.Proof.Gen.RefProjEvenIdeal.Run
public import Idealize.ShloMosaic.Lib.Pipeline.ValueKit
public import Idealize.ShloMosaic.Lib.Pointwise
public import Idealize.ShloMosaic.Lib.Claim
public import Idealize.ShloMosaic.Adequacy

@[expose] public section

set_option maxRecDepth 16384

noncomputable section

namespace Cert.RefProjEvenIdeal

open Idealize.ShloMosaic Idealize.ShloMosaic.TcCoe Cert.RefProjEvenIdeal.Gen

/-- The reference's product of the normalised rows and the weights, before it is cut into the four results. -/
def Z (x : FVec Ideal S65536x1024 .f32) (g : FVec Ideal S1024 .f32) (w : FVec Ideal S1024x7680 .bf16) : FVec Ideal S65536x7680 .bf16 :=
  truncf .bf16 (Host.dotGeneral dot_S65536x1024_S1024x7680_S65536x7680_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) (extf .f32 w bitsLt_bf16_f32)) bitsLt_bf16_f32

/-- The first result: the windowed attention's columns. -/
def R3 (x : FVec Ideal S65536x1024 .f32) (g : FVec Ideal S1024 .f32) (w : FVec Ideal S1024x7680 .bf16) : FVec Ideal S65536x3072 .bf16 :=
  extractStridedSlice S65536x3072 ![0, 0] (Z x g w) slices_S65536x7680_S65536x3072_0_0

/-- The second result: the columns of dilation 1. -/
def R4 (x : FVec Ideal S65536x1024 .f32) (g : FVec Ideal S1024 .f32) (w : FVec Ideal S1024x7680 .bf16) : FVec Ideal S65536x1536 .bf16 :=
  extractStridedSlice S65536x1536 ![0, 3072] (Z x g w) slices_S65536x7680_S65536x1536_0_3072

/-- The third result: the columns of dilation 4, each sequence's positions gathered by their residue modulo 4. -/
def R5 (x : FVec Ideal S65536x1024 .f32) (g : FVec Ideal S1024 .f32) (w : FVec Ideal S1024x7680 .bf16) : FVec Ideal S32x4x512x1536 .bf16 :=
  transpose S32x4x512x1536 [0, 2, 1, 3] (shapeCast _ (extractStridedSlice S65536x1536 ![0, 4608] (Z x g w) slices_S65536x7680_S65536x1536_0_4608) shapeCasts_S65536x1536_S32x512x4x1536) transposes_S32x512x4x1536_S32x4x512x1536_0_2_1_3

/-- The fourth result: the columns of dilation 16, each sequence's positions gathered by their residue modulo 16. -/
def R6 (x : FVec Ideal S65536x1024 .f32) (g : FVec Ideal S1024 .f32) (w : FVec Ideal S1024x7680 .bf16) : FVec Ideal S32x16x128x1536 .bf16 :=
  transpose S32x16x128x1536 [0, 2, 1, 3] (shapeCast _ (extractStridedSlice S65536x1536 ![0, 6144] (Z x g w) slices_S65536x7680_S65536x1536_0_6144) shapeCasts_S65536x1536_S32x128x16x1536) transposes_S32x128x16x1536_S32x16x128x1536_0_2_1_3

end Cert.RefProjEvenIdeal

namespace Cert.ProjEvenValue

open Idealize.ShloMosaic Idealize.ShloMosaic.TcCoe Idealize.SL.Sem
open Idealize.ShloMosaic.Pipeline (Dat)
open Cert.ProjEvenIdeal Cert.ProjEvenIdeal.Gen

variable (m : (ℓ : Loc nD τ sig) → Buf (Elt Ideal) ℓ)

/-- Where each window's block sits at grid point `t`: the rows move with the point, four points to a sequence. -/
theorem idx_val : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val / 4, 0, t.val % 4, 0]
    ∧ win0_6.index t = ![t.val / 4, 0, t.val % 4, 0] :=
  (by decide +kernel : ∀ t : Fin grid0.N, _)

/-- The normalised hidden rows as the scratch buffer holds them: eight tiles of 128 lanes. -/
def tiles (h : FVec Ideal S512x1024 .f32) : S8x512x128.Idx → EReal := fun i => h (ix2 (i 1) ⟨128 * (i 0).val + (i 2).val, by
  have h0 : (i 0).val < 8 := (i 0).isLt
  have h2 : (i 2).val < 128 := (i 2).isLt
  omega⟩)

/-- The eight stores into the scratch buffer leave the normalised rows, tile by tile. -/
theorem scratch (x0 : Vec Ideal S512x1024 .f32) (x1 : Vec Ideal S1x1024 .f32) :
    View.canon (Val := Elt Ideal) (e := .f32) [⟨Rect.unit (s := S8x512x128) ![7, 0, 0] ![1, 512, 128] inb_S8x512x128_S1x512x128_7_0_0, k0_pay15 (k0_pay5 x0 x1)⟩,
      ⟨Rect.unit (s := S8x512x128) ![6, 0, 0] ![1, 512, 128] inb_S8x512x128_S1x512x128_6_0_0, k0_pay14 (k0_pay5 x0 x1)⟩,
      ⟨Rect.unit (s := S8x512x128) ![5, 0, 0] ![1, 512, 128] inb_S8x512x128_S1x512x128_5_0_0, k0_pay13 (k0_pay5 x0 x1)⟩,
      ⟨Rect.unit (s := S8x512x128) ![4, 0, 0] ![1, 512, 128] inb_S8x512x128_S1x512x128_4_0_0, k0_pay12 (k0_pay11 x0 x1)⟩,
      ⟨Rect.unit (s := S8x512x128) ![3, 0, 0] ![1, 512, 128] inb_S8x512x128_S1x512x128_3_0_0, k0_pay10 x0 x1⟩,
      ⟨Rect.unit (s := S8x512x128) ![2, 0, 0] ![1, 512, 128] inb_S8x512x128_S1x512x128_2_0_0, k0_pay9 x0 x1⟩,
      ⟨Rect.unit (s := S8x512x128) ![1, 0, 0] ![1, 512, 128] inb_S8x512x128_S1x512x128_1_0_0, k0_pay8 x0 x1⟩,
      ⟨Rect.unit (s := S8x512x128) ![0, 0, 0] ![1, 512, 128] inb_S8x512x128_S1x512x128_0_0_0, k0_pay7 x0 x1⟩]
    = tiles (k0_pay5 x0 x1) := by
  funext i
  canon_tiles x h
  all_goals (open_payloads; pointwise [tiles]; blk_ext)

set_option maxHeartbeats 1600000 in
/-- What grid point `t` leaves at a place of its block of result 1 is the reference's value at the array index it stands for. -/
theorem point3 (c : Dev nD) (t : Fin cfg0.N) (y : S512x3072.Idx) :
    (outsAt0 m c t).1 y = Cert.RefProjEvenIdeal.R3 (m ((c : Thread nD τ).loc main_arg0)) (m ((c : Thread nD τ).loc main_arg1)) (m ((c : Thread nD τ).loc main_arg2)) (((cfg0.win 3).blk t).view.emb y) := by
  unfold outsAt0
  frame_out
  canon_tiles x h
  all_goals (open_payloads; pointwise [Cert.RefProjEvenIdeal.R3, Cert.RefProjEvenIdeal.Z]; blk_point [iblk, V, idx_val t])

set_option maxHeartbeats 1600000 in
/-- What grid point `t` leaves at a place of its block of result 2 is the reference's value at the array index it stands for. -/
theorem point4 (c : Dev nD) (t : Fin cfg0.N) (y : S512x1536.Idx) :
    (outsAt0 m c t).2.1 y = Cert.RefProjEvenIdeal.R4 (m ((c : Thread nD τ).loc main_arg0)) (m ((c : Thread nD τ).loc main_arg1)) (m ((c : Thread nD τ).loc main_arg2)) (((cfg0.win 4).blk t).view.emb y) := by
  unfold outsAt0
  frame_out
  pointwise [k0_pay18, k0_pay6, k0_pay5, Cert.RefProjEvenIdeal.R4, Cert.RefProjEvenIdeal.Z]
  blk_point [iblk, V, idx_val t]

set_option maxHeartbeats 1600000 in
/-- The 4 stores of result 3 hold the rows of one product, residue by residue: place (0, r, q, d) holds row 128·r + q. -/
theorem stores5 (T : FVec Ideal S512x1536 .bf16) (y : S1x4x128x1536.Idx) (v : EReal)
    (hT : ∀ i : S512x1536.Idx, (i 0).val = 128 * (y 1).val + (y 2).val → (i 1).val = (y 3).val → T i = v) :
    View.canon (Val := Elt Ideal) (e := .bf16) [⟨Rect.unit (s := S1x4x128x1536) ![0, 3, 0, 0] ![1, 1, 128, 1536] inb_S1x4x128x1536_S1x1x128x1536_0_3_0_0, shapeCast S1x1x128x1536 (extractStridedSlice S128x1536 ![384, 0] T slices_S512x1536_o384_0_S128x1536) shapeCasts_S128x1536_S1x1x128x1536⟩, ⟨Rect.unit (s := S1x4x128x1536) ![0, 2, 0, 0] ![1, 1, 128, 1536] inb_S1x4x128x1536_S1x1x128x1536_0_2_0_0, shapeCast S1x1x128x1536 (extractStridedSlice S128x1536 ![256, 0] T slices_S512x1536_o256_0_S128x1536) shapeCasts_S128x1536_S1x1x128x1536⟩, ⟨Rect.unit (s := S1x4x128x1536) ![0, 1, 0, 0] ![1, 1, 128, 1536] inb_S1x4x128x1536_S1x1x128x1536_0_1_0_0, shapeCast S1x1x128x1536 (extractStridedSlice S128x1536 ![128, 0] T slices_S512x1536_o128_0_S128x1536) shapeCasts_S128x1536_S1x1x128x1536⟩, ⟨Rect.unit (s := S1x4x128x1536) ![0, 0, 0, 0] ![1, 1, 128, 1536] inb_S1x4x128x1536_S1x1x128x1536_0_0_0_0, shapeCast S1x1x128x1536 (extractStridedSlice S128x1536 ![0, 0] T slices_S512x1536_o0_0_S128x1536) shapeCasts_S128x1536_S1x1x128x1536⟩] y = v := by
  canon_tiles x h
  all_goals
    pointwise []
    refine hT _ ?_ ?_ <;> simp <;> omega

set_option maxHeartbeats 1600000 in
/-- Eight lane tiles side by side: entry (q, k) of the whole is `f k` when tile n holds `f` at lanes 128·n onwards. -/
theorem cols5 (f : Fin 1024 → EReal) (q : Fin 128) (k : Fin 1024) (v0 v1 v2 v3 v4 v5 v6 v7 : FVec Ideal S128x128 .bf16)
    (h0 : ∀ l : Fin 128, v0 (ix2 q l) = f ⟨0 + l.val, by omega⟩)
    (h1 : ∀ l : Fin 128, v1 (ix2 q l) = f ⟨128 + l.val, by omega⟩)
    (h2 : ∀ l : Fin 128, v2 (ix2 q l) = f ⟨256 + l.val, by omega⟩)
    (h3 : ∀ l : Fin 128, v3 (ix2 q l) = f ⟨384 + l.val, by omega⟩)
    (h4 : ∀ l : Fin 128, v4 (ix2 q l) = f ⟨512 + l.val, by omega⟩)
    (h5 : ∀ l : Fin 128, v5 (ix2 q l) = f ⟨640 + l.val, by omega⟩)
    (h6 : ∀ l : Fin 128, v6 (ix2 q l) = f ⟨768 + l.val, by omega⟩)
    (h7 : ∀ l : Fin 128, v7 (ix2 q l) = f ⟨896 + l.val, by omega⟩) :
    concatenate S128x1024 1 [⟨S128x128, v0⟩, ⟨S128x128, v1⟩, ⟨S128x128, v2⟩, ⟨S128x128, v3⟩, ⟨S128x128, v4⟩, ⟨S128x128, v5⟩, ⟨S128x128, v6⟩, ⟨S128x128, v7⟩] concatenates_S128x128_S128x128_S128x128_S128x128_S128x128_S128x128_S128x128_S128x128_S128x1024_d1 (ix2 q k) = f k := by
  pointwise []
  split_ifs
  all_goals first | (refine (h0 _).trans (congrArg f (Fin.ext ?_)); simp; done) | (refine (h0 _).trans (congrArg f (Fin.ext ?_)); simp; omega) | (refine (h1 _).trans (congrArg f (Fin.ext ?_)); simp; omega) | (refine (h2 _).trans (congrArg f (Fin.ext ?_)); simp; omega) | (refine (h3 _).trans (congrArg f (Fin.ext ?_)); simp; omega) | (refine (h4 _).trans (congrArg f (Fin.ext ?_)); simp; omega) | (refine (h5 _).trans (congrArg f (Fin.ext ?_)); simp; omega) | (refine (h6 _).trans (congrArg f (Fin.ext ?_)); simp; omega) | (refine (h7 _).trans (congrArg f (Fin.ext ?_)); simp; omega)

set_option maxHeartbeats 1600000 in
/-- The residues one above the other: row 128·r + q of the whole is row 4·q + r of `B` when part r holds every 4-th row from r on. -/
theorem rows5 (B : FVec Ideal S512x1024 .f32) (p p' : Fin 512) (hp : 4 * (p.val % 128) + p.val / 128 = p'.val) (k : Fin 1024) (u0 u1 u2 u3 : FVec Ideal S128x1024 .bf16)
    (h0 : ∀ q : Fin 128, u0 (ix2 q k) = B (ix2 ⟨4 * q.val + 0, by omega⟩ k))
    (h1 : ∀ q : Fin 128, u1 (ix2 q k) = B (ix2 ⟨4 * q.val + 1, by omega⟩ k))
    (h2 : ∀ q : Fin 128, u2 (ix2 q k) = B (ix2 ⟨4 * q.val + 2, by omega⟩ k))
    (h3 : ∀ q : Fin 128, u3 (ix2 q k) = B (ix2 ⟨4 * q.val + 3, by omega⟩ k)) :
    concatenate S512x1024 0 [⟨S128x1024, u0⟩, ⟨S128x1024, u1⟩, ⟨S128x1024, u2⟩, ⟨S128x1024, u3⟩] concatenates_S128x1024_S128x1024_S128x1024_S128x1024_S512x1024_d0 (ix2 p k) = B (ix2 p' k) := by
  have hn : p.val / 128 < 4 := by omega
  have hf : ∀ (r : Fin 4) (q : Fin 128), (![u0, u1, u2, u3] : Fin 4 → FVec Ideal S128x1024 .bf16) r (ix2 q k) = B (ix2 ⟨4 * q.val + r.val, by omega⟩ k) := by
    intro r q
    fin_cases r
    · exact h0 q
    · exact h1 q
    · exact h2 q
    · exact h3 q
  refine (concatenate_ofFn_apply (t := S512x1024) (s₁ := S128x1024) 0 (![u0, u1, u2, u3] : Fin 4 → FVec Ideal S128x1024 .bf16)
    concatenates_S128x1024_S128x1024_S128x1024_S128x1024_S512x1024_d0 rfl 128 rfl (ix2 p k) ⟨p.val / 128, hn⟩ rfl (ix2 ⟨p.val % 128, by omega⟩ k) rfl fun b hb => ?_).trans ?_
  · fin_cases b
    · exact absurd rfl hb
    · rfl
  · exact (hf _ _).trans (congrArg (fun a => B (ix2 a k)) (Fin.ext hp))

/-- A product whose left rows are known, entry by entry. -/
theorem prod5 (A : FVec Ideal S512x1024 .bf16) (B : FVec Ideal S512x1024 .f32) (w : FVec Ideal S1024x1536 .bf16) (i : S512x1536.Idx) (p : Fin 512)
    (hA : ∀ k : Fin 1024, A (ix2 (i 0) k) = B (ix2 p k)) :
    truncf .bf16 (matmul dot_S512x1024_S1024x1536_S512x1536_1_0_0_1_n_n none A w (constant S512x1536 .f32 0x00000000#32)) bitsLt_bf16_f32 i
      = ∑ k : Fin 1024, B (ix2 p k) * w (ix2 k (i 1)) := by
  pointwise []
  exact Finset.sum_congr rfl fun k _ => by rw [hA k]

set_option maxHeartbeats 1600000 in
/-- What grid point `t` leaves at a place of its block of result 3 is the reference's value at the array index it stands for. -/
theorem point5 (c : Dev nD) (t : Fin cfg0.N) (y : S1x4x128x1536.Idx) :
    (outsAt0 m c t).2.2.1 y = Cert.RefProjEvenIdeal.R5 (m ((c : Thread nD τ).loc main_arg0)) (m ((c : Thread nD τ).loc main_arg1)) (m ((c : Thread nD τ).loc main_arg2)) (((cfg0.win 5).blk t).view.emb y) := by
  unfold outsAt0
  frame_open
  simp (disch := decide) only [View.read_writes_junk_eq_canon, View.readAt_eq_ld, Memref.IsWhole.read_unread, View.ld_unit_lit']
  simp only [View.readCov_eq_canon']
  rw [scratch (iblk m c 0 t) (iblk m c 1 t)]
  refine stores5 _ y _ fun i hi0 hi1 => ?_
  unfold k0_pay34
  have hy1 : (y 1).val < 4 := (y 1).isLt
  have hy2 : (y 2).val < 128 := (y 2).isLt
  refine (prod5 _ (k0_pay5 (iblk m c 0 t) (iblk m c 1 t)) _ i ⟨4 * (y 2).val + (y 1).val, by omega⟩ fun k => ?_).trans ?_
  · generalize k0_pay5 (iblk m c 0 t) (iblk m c 1 t) = B
    refine rows5 B _ _ (by rw [hi0]; show _ = 4 * (y 2).val + (y 1).val; omega) k _ _ _ _ ?_ ?_ ?_ ?_
    all_goals
      intro q
      refine cols5 (fun k => B (ix2 _ k)) q k _ _ _ _ _ _ _ _ ?_ ?_ ?_ ?_ ?_ ?_ ?_ ?_
      all_goals
        intro l
        open_payloads
        pointwise [tiles]
        blk_ext
  · pointwise [k0_pay5, Cert.RefProjEvenIdeal.R5, Cert.RefProjEvenIdeal.Z]
    blk_point [iblk, V, idx_val t]

set_option maxHeartbeats 1600000 in
/-- The 16 stores of result 4 hold the rows of one product, residue by residue: place (0, r, q, d) holds row 32·r + q. -/
theorem stores6 (T : FVec Ideal S512x1536 .bf16) (y : S1x16x32x1536.Idx) (v : EReal)
    (hT : ∀ i : S512x1536.Idx, (i 0).val = 32 * (y 1).val + (y 2).val → (i 1).val = (y 3).val → T i = v) :
    View.canon (Val := Elt Ideal) (e := .bf16) [⟨Rect.unit (s := S1x16x32x1536) ![0, 15, 0, 0] ![1, 1, 32, 1536] inb_S1x16x32x1536_S1x1x32x1536_0_15_0_0, shapeCast S1x1x32x1536 (extractStridedSlice S32x1536 ![480, 0] T slices_S512x1536_o480_0_S32x1536) shapeCasts_S32x1536_S1x1x32x1536⟩, ⟨Rect.unit (s := S1x16x32x1536) ![0, 14, 0, 0] ![1, 1, 32, 1536] inb_S1x16x32x1536_S1x1x32x1536_0_14_0_0, shapeCast S1x1x32x1536 (extractStridedSlice S32x1536 ![448, 0] T slices_S512x1536_o448_0_S32x1536) shapeCasts_S32x1536_S1x1x32x1536⟩, ⟨Rect.unit (s := S1x16x32x1536) ![0, 13, 0, 0] ![1, 1, 32, 1536] inb_S1x16x32x1536_S1x1x32x1536_0_13_0_0, shapeCast S1x1x32x1536 (extractStridedSlice S32x1536 ![416, 0] T slices_S512x1536_o416_0_S32x1536) shapeCasts_S32x1536_S1x1x32x1536⟩, ⟨Rect.unit (s := S1x16x32x1536) ![0, 12, 0, 0] ![1, 1, 32, 1536] inb_S1x16x32x1536_S1x1x32x1536_0_12_0_0, shapeCast S1x1x32x1536 (extractStridedSlice S32x1536 ![384, 0] T slices_S512x1536_o384_0_S32x1536) shapeCasts_S32x1536_S1x1x32x1536⟩, ⟨Rect.unit (s := S1x16x32x1536) ![0, 11, 0, 0] ![1, 1, 32, 1536] inb_S1x16x32x1536_S1x1x32x1536_0_11_0_0, shapeCast S1x1x32x1536 (extractStridedSlice S32x1536 ![352, 0] T slices_S512x1536_o352_0_S32x1536) shapeCasts_S32x1536_S1x1x32x1536⟩, ⟨Rect.unit (s := S1x16x32x1536) ![0, 10, 0, 0] ![1, 1, 32, 1536] inb_S1x16x32x1536_S1x1x32x1536_0_10_0_0, shapeCast S1x1x32x1536 (extractStridedSlice S32x1536 ![320, 0] T slices_S512x1536_o320_0_S32x1536) shapeCasts_S32x1536_S1x1x32x1536⟩, ⟨Rect.unit (s := S1x16x32x1536) ![0, 9, 0, 0] ![1, 1, 32, 1536] inb_S1x16x32x1536_S1x1x32x1536_0_9_0_0, shapeCast S1x1x32x1536 (extractStridedSlice S32x1536 ![288, 0] T slices_S512x1536_o288_0_S32x1536) shapeCasts_S32x1536_S1x1x32x1536⟩, ⟨Rect.unit (s := S1x16x32x1536) ![0, 8, 0, 0] ![1, 1, 32, 1536] inb_S1x16x32x1536_S1x1x32x1536_0_8_0_0, shapeCast S1x1x32x1536 (extractStridedSlice S32x1536 ![256, 0] T slices_S512x1536_o256_0_S32x1536) shapeCasts_S32x1536_S1x1x32x1536⟩, ⟨Rect.unit (s := S1x16x32x1536) ![0, 7, 0, 0] ![1, 1, 32, 1536] inb_S1x16x32x1536_S1x1x32x1536_0_7_0_0, shapeCast S1x1x32x1536 (extractStridedSlice S32x1536 ![224, 0] T slices_S512x1536_o224_0_S32x1536) shapeCasts_S32x1536_S1x1x32x1536⟩, ⟨Rect.unit (s := S1x16x32x1536) ![0, 6, 0, 0] ![1, 1, 32, 1536] inb_S1x16x32x1536_S1x1x32x1536_0_6_0_0, shapeCast S1x1x32x1536 (extractStridedSlice S32x1536 ![192, 0] T slices_S512x1536_o192_0_S32x1536) shapeCasts_S32x1536_S1x1x32x1536⟩, ⟨Rect.unit (s := S1x16x32x1536) ![0, 5, 0, 0] ![1, 1, 32, 1536] inb_S1x16x32x1536_S1x1x32x1536_0_5_0_0, shapeCast S1x1x32x1536 (extractStridedSlice S32x1536 ![160, 0] T slices_S512x1536_o160_0_S32x1536) shapeCasts_S32x1536_S1x1x32x1536⟩, ⟨Rect.unit (s := S1x16x32x1536) ![0, 4, 0, 0] ![1, 1, 32, 1536] inb_S1x16x32x1536_S1x1x32x1536_0_4_0_0, shapeCast S1x1x32x1536 (extractStridedSlice S32x1536 ![128, 0] T slices_S512x1536_o128_0_S32x1536) shapeCasts_S32x1536_S1x1x32x1536⟩, ⟨Rect.unit (s := S1x16x32x1536) ![0, 3, 0, 0] ![1, 1, 32, 1536] inb_S1x16x32x1536_S1x1x32x1536_0_3_0_0, shapeCast S1x1x32x1536 (extractStridedSlice S32x1536 ![96, 0] T slices_S512x1536_o96_0_S32x1536) shapeCasts_S32x1536_S1x1x32x1536⟩, ⟨Rect.unit (s := S1x16x32x1536) ![0, 2, 0, 0] ![1, 1, 32, 1536] inb_S1x16x32x1536_S1x1x32x1536_0_2_0_0, shapeCast S1x1x32x1536 (extractStridedSlice S32x1536 ![64, 0] T slices_S512x1536_o64_0_S32x1536) shapeCasts_S32x1536_S1x1x32x1536⟩, ⟨Rect.unit (s := S1x16x32x1536) ![0, 1, 0, 0] ![1, 1, 32, 1536] inb_S1x16x32x1536_S1x1x32x1536_0_1_0_0, shapeCast S1x1x32x1536 (extractStridedSlice S32x1536 ![32, 0] T slices_S512x1536_o32_0_S32x1536) shapeCasts_S32x1536_S1x1x32x1536⟩, ⟨Rect.unit (s := S1x16x32x1536) ![0, 0, 0, 0] ![1, 1, 32, 1536] inb_S1x16x32x1536_S1x1x32x1536_0_0_0_0, shapeCast S1x1x32x1536 (extractStridedSlice S32x1536 ![0, 0] T slices_S512x1536_o0_0_S32x1536) shapeCasts_S32x1536_S1x1x32x1536⟩] y = v := by
  canon_tiles x h
  all_goals
    pointwise []
    refine hT _ ?_ ?_ <;> simp <;> omega

set_option maxHeartbeats 1600000 in
/-- Eight lane tiles side by side: entry (q, k) of the whole is `f k` when tile n holds `f` at lanes 128·n onwards. -/
theorem cols6 (f : Fin 1024 → EReal) (q : Fin 32) (k : Fin 1024) (v0 v1 v2 v3 v4 v5 v6 v7 : FVec Ideal S32x128 .bf16)
    (h0 : ∀ l : Fin 128, v0 (ix2 q l) = f ⟨0 + l.val, by omega⟩)
    (h1 : ∀ l : Fin 128, v1 (ix2 q l) = f ⟨128 + l.val, by omega⟩)
    (h2 : ∀ l : Fin 128, v2 (ix2 q l) = f ⟨256 + l.val, by omega⟩)
    (h3 : ∀ l : Fin 128, v3 (ix2 q l) = f ⟨384 + l.val, by omega⟩)
    (h4 : ∀ l : Fin 128, v4 (ix2 q l) = f ⟨512 + l.val, by omega⟩)
    (h5 : ∀ l : Fin 128, v5 (ix2 q l) = f ⟨640 + l.val, by omega⟩)
    (h6 : ∀ l : Fin 128, v6 (ix2 q l) = f ⟨768 + l.val, by omega⟩)
    (h7 : ∀ l : Fin 128, v7 (ix2 q l) = f ⟨896 + l.val, by omega⟩) :
    concatenate S32x1024 1 [⟨S32x128, v0⟩, ⟨S32x128, v1⟩, ⟨S32x128, v2⟩, ⟨S32x128, v3⟩, ⟨S32x128, v4⟩, ⟨S32x128, v5⟩, ⟨S32x128, v6⟩, ⟨S32x128, v7⟩] concatenates_S32x128_S32x128_S32x128_S32x128_S32x128_S32x128_S32x128_S32x128_S32x1024_d1 (ix2 q k) = f k := by
  pointwise []
  split_ifs
  all_goals first | (refine (h0 _).trans (congrArg f (Fin.ext ?_)); simp; done) | (refine (h0 _).trans (congrArg f (Fin.ext ?_)); simp; omega) | (refine (h1 _).trans (congrArg f (Fin.ext ?_)); simp; omega) | (refine (h2 _).trans (congrArg f (Fin.ext ?_)); simp; omega) | (refine (h3 _).trans (congrArg f (Fin.ext ?_)); simp; omega) | (refine (h4 _).trans (congrArg f (Fin.ext ?_)); simp; omega) | (refine (h5 _).trans (congrArg f (Fin.ext ?_)); simp; omega) | (refine (h6 _).trans (congrArg f (Fin.ext ?_)); simp; omega) | (refine (h7 _).trans (congrArg f (Fin.ext ?_)); simp; omega)

set_option maxHeartbeats 1600000 in
/-- The residues one above the other: row 32·r + q of the whole is row 16·q + r of `B` when part r holds every 16-th row from r on. -/
theorem rows6 (B : FVec Ideal S512x1024 .f32) (p p' : Fin 512) (hp : 16 * (p.val % 32) + p.val / 32 = p'.val) (k : Fin 1024) (u0 u1 u2 u3 u4 u5 u6 u7 u8 u9 u10 u11 u12 u13 u14 u15 : FVec Ideal S32x1024 .bf16)
    (h0 : ∀ q : Fin 32, u0 (ix2 q k) = B (ix2 ⟨16 * q.val + 0, by omega⟩ k))
    (h1 : ∀ q : Fin 32, u1 (ix2 q k) = B (ix2 ⟨16 * q.val + 1, by omega⟩ k))
    (h2 : ∀ q : Fin 32, u2 (ix2 q k) = B (ix2 ⟨16 * q.val + 2, by omega⟩ k))
    (h3 : ∀ q : Fin 32, u3 (ix2 q k) = B (ix2 ⟨16 * q.val + 3, by omega⟩ k))
    (h4 : ∀ q : Fin 32, u4 (ix2 q k) = B (ix2 ⟨16 * q.val + 4, by omega⟩ k))
    (h5 : ∀ q : Fin 32, u5 (ix2 q k) = B (ix2 ⟨16 * q.val + 5, by omega⟩ k))
    (h6 : ∀ q : Fin 32, u6 (ix2 q k) = B (ix2 ⟨16 * q.val + 6, by omega⟩ k))
    (h7 : ∀ q : Fin 32, u7 (ix2 q k) = B (ix2 ⟨16 * q.val + 7, by omega⟩ k))
    (h8 : ∀ q : Fin 32, u8 (ix2 q k) = B (ix2 ⟨16 * q.val + 8, by omega⟩ k))
    (h9 : ∀ q : Fin 32, u9 (ix2 q k) = B (ix2 ⟨16 * q.val + 9, by omega⟩ k))
    (h10 : ∀ q : Fin 32, u10 (ix2 q k) = B (ix2 ⟨16 * q.val + 10, by omega⟩ k))
    (h11 : ∀ q : Fin 32, u11 (ix2 q k) = B (ix2 ⟨16 * q.val + 11, by omega⟩ k))
    (h12 : ∀ q : Fin 32, u12 (ix2 q k) = B (ix2 ⟨16 * q.val + 12, by omega⟩ k))
    (h13 : ∀ q : Fin 32, u13 (ix2 q k) = B (ix2 ⟨16 * q.val + 13, by omega⟩ k))
    (h14 : ∀ q : Fin 32, u14 (ix2 q k) = B (ix2 ⟨16 * q.val + 14, by omega⟩ k))
    (h15 : ∀ q : Fin 32, u15 (ix2 q k) = B (ix2 ⟨16 * q.val + 15, by omega⟩ k)) :
    concatenate S512x1024 0 [⟨S32x1024, u0⟩, ⟨S32x1024, u1⟩, ⟨S32x1024, u2⟩, ⟨S32x1024, u3⟩, ⟨S32x1024, u4⟩, ⟨S32x1024, u5⟩, ⟨S32x1024, u6⟩, ⟨S32x1024, u7⟩, ⟨S32x1024, u8⟩, ⟨S32x1024, u9⟩, ⟨S32x1024, u10⟩, ⟨S32x1024, u11⟩, ⟨S32x1024, u12⟩, ⟨S32x1024, u13⟩, ⟨S32x1024, u14⟩, ⟨S32x1024, u15⟩] concatenates_S32x1024_S32x1024_S32x1024_S32x1024_S32x1024_S32x1024_S32x1024_S32x1024_S32x1024_S32x1024_S32x1024_S32x1024_S32x1024_S32x1024_S32x1024_S32x1024_S512x1024_d0 (ix2 p k) = B (ix2 p' k) := by
  have hn : p.val / 32 < 16 := by omega
  have hf : ∀ (r : Fin 16) (q : Fin 32), (![u0, u1, u2, u3, u4, u5, u6, u7, u8, u9, u10, u11, u12, u13, u14, u15] : Fin 16 → FVec Ideal S32x1024 .bf16) r (ix2 q k) = B (ix2 ⟨16 * q.val + r.val, by omega⟩ k) := by
    intro r q
    fin_cases r
    · exact h0 q
    · exact h1 q
    · exact h2 q
    · exact h3 q
    · exact h4 q
    · exact h5 q
    · exact h6 q
    · exact h7 q
    · exact h8 q
    · exact h9 q
    · exact h10 q
    · exact h11 q
    · exact h12 q
    · exact h13 q
    · exact h14 q
    · exact h15 q
  refine (concatenate_ofFn_apply (t := S512x1024) (s₁ := S32x1024) 0 (![u0, u1, u2, u3, u4, u5, u6, u7, u8, u9, u10, u11, u12, u13, u14, u15] : Fin 16 → FVec Ideal S32x1024 .bf16)
    concatenates_S32x1024_S32x1024_S32x1024_S32x1024_S32x1024_S32x1024_S32x1024_S32x1024_S32x1024_S32x1024_S32x1024_S32x1024_S32x1024_S32x1024_S32x1024_S32x1024_S512x1024_d0 rfl 32 rfl (ix2 p k) ⟨p.val / 32, hn⟩ rfl (ix2 ⟨p.val % 32, by omega⟩ k) rfl fun b hb => ?_).trans ?_
  · fin_cases b
    · exact absurd rfl hb
    · rfl
  · exact (hf _ _).trans (congrArg (fun a => B (ix2 a k)) (Fin.ext hp))

/-- A product whose left rows are known, entry by entry. -/
theorem prod6 (A : FVec Ideal S512x1024 .bf16) (B : FVec Ideal S512x1024 .f32) (w : FVec Ideal S1024x1536 .bf16) (i : S512x1536.Idx) (p : Fin 512)
    (hA : ∀ k : Fin 1024, A (ix2 (i 0) k) = B (ix2 p k)) :
    truncf .bf16 (matmul dot_S512x1024_S1024x1536_S512x1536_1_0_0_1_n_n none A w (constant S512x1536 .f32 0x00000000#32)) bitsLt_bf16_f32 i
      = ∑ k : Fin 1024, B (ix2 p k) * w (ix2 k (i 1)) := by
  pointwise []
  exact Finset.sum_congr rfl fun k _ => by rw [hA k]

set_option maxHeartbeats 1600000 in
/-- What grid point `t` leaves at a place of its block of result 4 is the reference's value at the array index it stands for. -/
theorem point6 (c : Dev nD) (t : Fin cfg0.N) (y : S1x16x32x1536.Idx) :
    (outsAt0 m c t).2.2.2 y = Cert.RefProjEvenIdeal.R6 (m ((c : Thread nD τ).loc main_arg0)) (m ((c : Thread nD τ).loc main_arg1)) (m ((c : Thread nD τ).loc main_arg2)) (((cfg0.win 6).blk t).view.emb y) := by
  unfold outsAt0
  frame_open
  simp (disch := decide) only [View.read_writes_junk_eq_canon, View.readAt_eq_ld, Memref.IsWhole.read_unread, View.ld_unit_lit']
  simp only [View.readCov_eq_canon']
  rw [scratch (iblk m c 0 t) (iblk m c 1 t)]
  refine stores6 _ y _ fun i hi0 hi1 => ?_
  unfold k0_pay110
  have hy1 : (y 1).val < 16 := (y 1).isLt
  have hy2 : (y 2).val < 32 := (y 2).isLt
  refine (prod6 _ (k0_pay5 (iblk m c 0 t) (iblk m c 1 t)) _ i ⟨16 * (y 2).val + (y 1).val, by omega⟩ fun k => ?_).trans ?_
  · generalize k0_pay5 (iblk m c 0 t) (iblk m c 1 t) = B
    refine rows6 B _ _ (by rw [hi0]; show _ = 16 * (y 2).val + (y 1).val; omega) k _ _ _ _ _ _ _ _ _ _ _ _ _ _ _ _ ?_ ?_ ?_ ?_ ?_ ?_ ?_ ?_ ?_ ?_ ?_ ?_ ?_ ?_ ?_ ?_
    all_goals
      intro q
      refine cols6 (fun k => B (ix2 _ k)) q k _ _ _ _ _ _ _ _ ?_ ?_ ?_ ?_ ?_ ?_ ?_ ?_
      all_goals
        intro l
        open_payloads
        pointwise [tiles]
        blk_ext
  · pointwise [k0_pay5, Cert.RefProjEvenIdeal.R6, Cert.RefProjEvenIdeal.Z]
    blk_point [iblk, V, idx_val t]

/-- Result 1 as a whole array after the run is the reference's. -/
theorem final3 (c : Dev nD) : (dats m 0 c).arrAt 3 (cfgs 0).N = Cert.RefProjEvenIdeal.R3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

/-- Result 2 as a whole array after the run is the reference's. -/
theorem final4 (c : Dev nD) : (dats m 0 c).arrAt 4 (cfgs 0).N = Cert.RefProjEvenIdeal.R4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- Result 3 as a whole array after the run is the reference's. -/
theorem final5 (c : Dev nD) : (dats m 0 c).arrAt 5 (cfgs 0).N = Cert.RefProjEvenIdeal.R5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

/-- Result 4 as a whole array after the run is the reference's. -/
theorem final6 (c : Dev nD) : (dats m 0 c).arrAt 6 (cfgs 0).N = Cert.RefProjEvenIdeal.R6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact point6 m c t y

/-- Over the extended reals the kernel's four results equal the reference's, for every content of the arguments. -/
theorem claim : Cert.algebraic_ProjEvenIdeal_RefProjEvenIdeal := by
  intro m g m' g' _ hargs
  refine ⟨fun c => Cert.RefProjEvenIdeal.R3 (m ((c : Thread nD τ).loc main_arg0)) (m ((c : Thread nD τ).loc main_arg1)) (m ((c : Thread nD τ).loc main_arg2)),
    fun c => Cert.RefProjEvenIdeal.R4 (m ((c : Thread nD τ).loc main_arg0)) (m ((c : Thread nD τ).loc main_arg1)) (m ((c : Thread nD τ).loc main_arg2)),
    fun c => Cert.RefProjEvenIdeal.R5 (m ((c : Thread nD τ).loc main_arg0)) (m ((c : Thread nD τ).loc main_arg1)) (m ((c : Thread nD τ).loc main_arg2)),
    fun c => Cert.RefProjEvenIdeal.R6 (m ((c : Thread nD τ).loc main_arg0)) (m ((c : Thread nD τ).loc main_arg1)) (m ((c : Thread nD τ).loc main_arg2)),
    (θ_run defs _ _).mono (fun r h c => ?_) (Cert.ProjEvenIdeal.Value.run_blocks m g),
    (θ_run (Cert.RefProjEvenIdeal.defs (F := Ideal)) _ _).mono (fun r h c => ?_) (Cert.RefProjEvenIdeal.Value.run m' g')⟩
  · obtain ⟨hv0, hv1, hv2, hv3, h0, h1, h2⟩ := h c
    exact ⟨hv0.trans (final3 m c), hv1.trans (final4 m c), hv2.trans (final5 m c), hv3.trans (final6 m c), h0, h1, h2⟩
  · obtain ⟨hv0, hv1, hv2, hv3, h0, h1, h2⟩ := h c
    rw [(hargs c).1, (hargs c).2.1, (hargs c).2.2] at hv0 hv1 hv2 hv3
    exact ⟨hv0, hv1, hv2, hv3, h0, h1, h2⟩

end Cert.ProjEvenValue

end
-- ==== Proof.OutOdd.lean ====
/-
  The projection behind the odd layers' mixers, the layer's hidden state: the gated linear attention's heads are normalised, scaled and gated,
  joined to the differential attention's columns, multiplied by the output weights, added to the residual and normalised. Each grid point
  does 512 rows, its heads stored in a scratch buffer, the joined columns' product as two products; this module shows that the
  array it leaves is the reference's one product over all rows and joined columns.
-/
module

public import proofs.«01_k».proof.Defs
public import proofs.«01_k».proof.Proof.Gen.OutOddIdeal.Value
public import proofs.«01_k».proof.Proof.Gen.RefOutOddIdeal.Run
public import Idealize.ShloMosaic.Lib.Pipeline.ValueKit
public import Idealize.ShloMosaic.Lib.Pointwise
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.RefOutOddIdeal

open Cert.RefOutOddIdeal.Gen

/-- The two directions' gated linear attention added, by head. -/
def O (of ob : FVec Ideal S65536x512 .f32) : FVec Ideal S65536x4x128 .f32 := shapeCast _ (addf of ob) shapeCasts_S65536x512_S65536x4x128

/-- The heads normalised and scaled, as columns. -/
def OD (of ob : FVec Ideal S65536x512 .f32) (g : FVec Ideal S128 .f32) : FVec Ideal S65536x512 .f32 :=
  shapeCast _ (mulf (mulf (O of ob) (broadcastInDim S65536x4x128 ![0, 1, 2] bcast_S65536x4x1_S65536x4x128_0_1_2 (Host.rsqrt (addf (Host.divf (broadcastInDim S65536x4x1 ![0, 1] bcast_S65536x4_S65536x4x1_0_1 (Host.reduceAdd (mulf (O of ob) (O of ob)) (constant S_ .f32 0x00000000#32) reducesTo_S65536x4x128_S65536x4_d2 h_S_)) (broadcastInDim S65536x4x1 ![] bcast_S_S65536x4x1 (constant S_ .f32 0x43000000#32))) (broadcastInDim S65536x4x1 ![] bcast_S_S65536x4x1 (constant S_ .f32 0x358637BD#32)))))) (broadcastInDim S65536x4x128 ![0, 1, 2] bcast_S1x1x128_S65536x4x128_0_1_2 (broadcastInDim S1x1x128 ![2] bcast_S128_S1x1x128_2 g))) shapeCasts_S65536x4x128_S65536x512

/-- The gate's columns. -/
def GD (z : FVec Ideal S65536x6400 .bf16) : FVec Ideal S65536x512 .f32 := extf .f32 (extractStridedSlice S65536x512 ![0, 5632] z slices_S65536x6400_S65536x512_0_5632) bitsLt_bf16_f32

/-- The heads' columns times the gate's sigmoid-weighted columns. -/
def Y2 (of ob : FVec Ideal S65536x512 .f32) (z : FVec Ideal S65536x6400 .bf16) (g : FVec Ideal S128 .f32) : FVec Ideal S65536x512 .f32 :=
  mulf (OD of ob g) (mulf (GD z) (Host.divf (broadcastInDim S65536x512 ![] bcast_S_S65536x512 (constant S_ .f32 0x3F800000#32)) (addf (broadcastInDim S65536x512 ![] bcast_S_S65536x512 (constant S_ .f32 0x3F800000#32)) (Host.exp (Host.negf (GD z))))))

/-- The residual plus the joined columns' product with the output weights. -/
def H (x : FVec Ideal S65536x1024 .f32) (yc : FVec Ideal S65536x1024 .bf16) (w : FVec Ideal S1536x1024 .f32) (y2 : FVec Ideal S65536x512 .f32) : FVec Ideal S65536x1024 .f32 :=
  addf x (Host.dotGeneral dot_S65536x1536_S1536x1024_S65536x1024_1_0_0_1_n_n none (concatenate S65536x1536 1 [⟨S65536x1024, (extf .f32 yc bitsLt_bf16_f32)⟩, ⟨S65536x512, y2⟩] concatenates_S65536x1024_S65536x512_S65536x1536_d1) w)

/-- Rows normalised by the root of their mean square and scaled. -/
def NORM (h : FVec Ideal S65536x1024 .f32) (fg : FVec Ideal S1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 fg))

/-- The reference's result as a function of its eight arguments. -/
def REF (x : FVec Ideal S65536x1024 .f32) (yc : FVec Ideal S65536x1024 .bf16) (w : FVec Ideal S1536x1024 .f32) (of ob : FVec Ideal S65536x512 .f32)
    (z : FVec Ideal S65536x6400 .bf16) (g : FVec Ideal S128 .f32) (fg : FVec Ideal S1024 .f32) : FVec Ideal S65536x1024 .f32 :=
  NORM (H x yc w (Y2 of ob z g)) fg

set_option maxHeartbeats 1600000 in
/-- The generated term of the reference's run is `REF` of the arguments. -/
theorem res_eq (m : (ℓ : Loc nD τ sig) → Buf (Elt Ideal) ℓ) (c : Dev nD) : Value.res_main_v36 (F := Ideal) m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.RefOutOddIdeal

namespace Cert.OutOddValue

open Cert.OutOddIdeal Cert.OutOddIdeal.Gen

variable (m : (ℓ : Loc nD τ sig) → Buf (Elt Ideal) ℓ)

/-- Where each window's block sits at grid point `t`: the rows move with the point, the gate's columns are the twelfth block of 512, scales and weights stay. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 11] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The gate's window is never cut: what the body finds is the block of the projection's columns. -/
theorem gate (c : Dev nD) (t : Fin cfg0.N) (j : S512x512.Idx) : X0_4 m c t j = (m ((c : Thread nD τ).loc main_arg5) : FVec Ideal S65536x6400 .bf16)
    (ix2 ⟨512 * t.val + (j 0).val, by
      have ht : t.val < 128 := t.isLt
      have h0 : (j 0).val < 512 := (j 0).isLt
      omega⟩ ⟨5632 + (j 1).val, by
      have h1 : (j 1).val < 512 := (j 1).isLt
      omega⟩) := by
  unfold X0_4 Pipeline.Window.fill
  rw [dif_pos (moved0_4 t j)]
  blk_point [iblk, V_main_arg5, idx_val t]

/-- The upper rows of the output weights, as the region finds them. -/
theorem V1 (c : Dev nD) : V m c main_v1 = (extractStridedSlice S1024x1024 ![0, 0] (truncf .bf16 (m ((c : Thread nD τ).loc main_arg2) : FVec Ideal S1536x1024 .f32) bitsLt_bf16_f32) slices_S1536x1024_S1024x1024_0_0 : FVec Ideal S1024x1024 .bf16) := by
  entry_read
  rfl
/-- The lower rows of the output weights, as the region finds them. -/
theorem V2 (c : Dev nD) : V m c main_v2 = (extractStridedSlice S512x1024 ![1024, 0] (truncf .bf16 (m ((c : Thread nD τ).loc main_arg2) : FVec Ideal S1536x1024 .f32) bitsLt_bf16_f32) slices_S1536x1024_S512x1024_1024_0 : FVec Ideal S512x1024 .bf16) := by
  entry_read
  rfl
/-- The heads' scale as one row. -/
theorem V3 (c : Dev nD) : V m c main_v3 = shapeCast S1x128 (m ((c : Thread nD τ).loc main_arg6) : FVec Ideal S128 .f32) shapeCasts_S128_S1x128 := by
  entry_read
  rfl
/-- The result's scale as one row. -/
theorem V4 (c : Dev nD) : V m c main_v4 = shapeCast S1x1024 (m ((c : Thread nD τ).loc main_arg7) : FVec Ideal S1024 .f32) shapeCasts_S1024_S1x1024 := by
  entry_read
  rfl

/-- A gate: dividing by one plus the exponential of the negated entry is multiplying by that sum's reciprocal, the sum never being zero. -/
theorem silu (g : EReal) : Ideal.div g (1 + Ideal.exp (0 - g)) = g * Ideal.div 1 (1 + Ideal.exp (-g)) := by
  have hd : (1 + Ideal.exp (-g) : EReal) ≠ 0 := by
    have h0 : (0 : EReal) ≤ Ideal.exp (-g) := by
      induction g using EReal.rec with
      | bot => simp
      | top => simp
      | coe r => rw [← EReal.coe_neg, Ideal.exp_coe]; exact_mod_cast (Real.exp_pos _).le
    have h1 : (1 : EReal) ≤ 1 + Ideal.exp (-g) := le_add_of_nonneg_right h0
    intro h
    rw [h] at h1
    exact absurd h1 (by norm_num)
  rw [zero_sub]
  unfold Ideal.div
  rw [if_neg hd, if_neg hd, one_mul]

set_option maxHeartbeats 1600000 in
/-- The four heads' stores into the scratch buffer leave the gated columns of the point's rows. -/
theorem scratch (c : Dev nD) (t : Fin cfg0.N) (Z : Vec Ideal S512x512 .bf16) (hZ : ∀ j, Z j = X0_4 m c t j) (i : S512x512.Idx) :
    View.canon (Val := Elt Ideal) (e := .bf16) [⟨Rect.unit (s := S512x512) ![0, 384] ![512, 128] inb_S512x512_S512x128_0_384, k0_pay1 (k0_pay10 (View.ld (iblk m c 2 t) (Rect.unit (s := S512x512) ![0, 384] ![512, 128] inb_S512x512_S512x128_0_384)) (View.ld (iblk m c 3 t) (Rect.unit (s := S512x512) ![0, 384] ![512, 128] inb_S512x512_S512x128_0_384)) (iblk m c 5 t) (View.ld Z (Rect.unit (s := S512x512) ![0, 384] ![512, 128] inb_S512x512_S512x128_0_384)))⟩,
        ⟨Rect.unit (s := S512x512) ![0, 256] ![512, 128] inb_S512x512_S512x128_0_256, k0_pay9 (k0_pay8 (View.ld (iblk m c 2 t) (Rect.unit (s := S512x512) ![0, 256] ![512, 128] inb_S512x512_S512x128_0_256)) (View.ld (iblk m c 3 t) (Rect.unit (s := S512x512) ![0, 256] ![512, 128] inb_S512x512_S512x128_0_256)) (iblk m c 5 t)) (View.ld Z (Rect.unit (s := S512x512) ![0, 256] ![512, 128] inb_S512x512_S512x128_0_256))⟩,
        ⟨Rect.unit (s := S512x512) ![0, 128] ![512, 128] inb_S512x512_S512x128_0_128, k0_pay7 (k0_pay4 (View.ld (iblk m c 2 t) (Rect.unit (s := S512x512) ![0, 128] ![512, 128] inb_S512x512_S512x128_0_128)) (View.ld (iblk m c 3 t) (Rect.unit (s := S512x512) ![0, 128] ![512, 128] inb_S512x512_S512x128_0_128))) (k0_pay5 (View.ld (iblk m c 2 t) (Rect.unit (s := S512x512) ![0, 128] ![512, 128] inb_S512x512_S512x128_0_128)) (View.ld (iblk m c 3 t) (Rect.unit (s := S512x512) ![0, 128] ![512, 128] inb_S512x512_S512x128_0_128))) k0_pay6 (iblk m c 5 t) (View.ld Z (Rect.unit (s := S512x512) ![0, 128] ![512, 128] inb_S512x512_S512x128_0_128))⟩,
        ⟨Rect.unit (s := S512x512) ![0, 0] ![512, 128] inb_S512x512_S512x128_0_0, k0_pay3 (View.ld (iblk m c 2 t) (Rect.unit (s := S512x512) ![0, 0] ![512, 128] inb_S512x512_S512x128_0_0)) (View.ld (iblk m c 3 t) (Rect.unit (s := S512x512) ![0, 0] ![512, 128] inb_S512x512_S512x128_0_0)) (iblk m c 5 t) (View.ld Z (Rect.unit (s := S512x512) ![0, 0] ![512, 128] inb_S512x512_S512x128_0_0))⟩] i
    = Cert.RefOutOddIdeal.Y2 (m ((c : Thread nD τ).loc main_arg3)) (m ((c : Thread nD τ).loc main_arg4)) (m ((c : Thread nD τ).loc main_arg5)) (m ((c : Thread nD τ).loc main_arg6))
      (ix2 ⟨512 * t.val + (i 0).val, by
        have ht : t.val < 128 := t.isLt
        have h0 : (i 0).val < 512 := (i 0).isLt
        omega⟩ (i 1)) := by
  canon_tiles x h
  all_goals
    open_payloads
    pointwise [Cert.RefOutOddIdeal.Y2, Cert.RefOutOddIdeal.OD, Cert.RefOutOddIdeal.GD, Cert.RefOutOddIdeal.O]
    rw [hZ, gate m c t, silu]
    blk_point [iblk, V_main_arg3, V_main_arg4, V3, idx_val t]

set_option maxHeartbeats 1600000 in
/-- The point's product, residual and normalisation, from any scratch contents that are the point's rows of gated columns `Y`. -/
theorem prod (c : Dev nD) (t : Fin cfg0.N) (Y : FVec Ideal S65536x512 .f32) (s : Vec Ideal S512x512 .bf16)
    (hs : ∀ i : S512x512.Idx, s i = Y (ix2 ⟨512 * t.val + (i 0).val, by
        have ht : t.val < 128 := t.isLt
        have h0 : (i 0).val < 512 := (i 0).isLt
        omega⟩ (i 1))) (y : S512x1024.Idx) :
    View.canon (Val := Elt Ideal) (e := .f32) [⟨Rect.unit (s := S512x1024) ![0, 0] ![512, 1024] inb_S512x1024_S512x1024_0_0,
        k0_pay2 (iblk m c 1 t) (iblk m c 6 t) s (iblk m c 7 t) (iblk m c 0 t) (iblk m c 8 t)⟩] y
      = Cert.RefOutOddIdeal.NORM (Cert.RefOutOddIdeal.H (m ((c : Thread nD τ).loc main_arg0)) (m ((c : Thread nD τ).loc main_arg1)) (m ((c : Thread nD τ).loc main_arg2)) Y) (m ((c : Thread nD τ).loc main_arg7)) (((cfg0.win 9).blk t).view.emb y) := by
  obtain rfl := funext hs
  rw [View.canon_unit_zero (by decide)]
  pointwise [k0_pay2, Cert.RefOutOddIdeal.NORM, Cert.RefOutOddIdeal.H]
  blk_point [iblk, V_main_arg0, V_main_arg1, V1, V2, V4, idx_val t]

set_option maxHeartbeats 1600000 in
/-- What grid point `t` leaves at a place of its block is the reference's value at the array index it stands for. -/
theorem point (c : Dev nD) (t : Fin cfg0.N) (y : S512x1024.Idx) :
    outsAt0 m c t y = Cert.RefOutOddIdeal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb y) := by
  unfold outsAt0
  frame_open
  simp (disch := decide) only [View.read_writes_junk_eq_canon, View.readAt_eq_ld, Memref.IsWhole.read_unread, View.ld_unit_lit']
  simp only [View.readCov_eq_canon']
  refine prod m c t _ _ (fun j => ?_) y
  refine (scratch m c t (X0_4 m c t) (fun _ => rfl) _).trans (congrArg _ ?_)
  congr 1 <;> exact Fin.ext (by simp)

/-- The whole result array after the kernel's run is the reference's value of the argument arrays. -/
theorem final (c : Dev nD) : (dats m 0 c).arrAt 9 (cfgs 0).N = Cert.RefOutOddIdeal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  exact point m c t y

/-- Over the extended reals the kernel's result equals the reference's, for every content of the arguments. -/
theorem claim : Cert.algebraic_OutOddIdeal_RefOutOddIdeal := by
  intro m g m' g' _ hargs
  refine ⟨fun c => Cert.RefOutOddIdeal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    (θ_run defs _ _).mono (fun r h c => ?_) (Cert.OutOddIdeal.Value.run_blocks m g),
    (θ_run (Cert.RefOutOddIdeal.defs (F := Ideal)) _ _).mono (fun r h c => ?_) (Cert.RefOutOddIdeal.Value.run m' g')⟩
  · obtain ⟨hv, h0, h1, h2, h3, h4, h5, h6, h7⟩ := h c
    exact ⟨hv.trans (final m c), h0, h1, h2, h3, h4, h5, h6, h7⟩
  · obtain ⟨hv, h0, h1, h2, h3, h4, h5, h6, h7⟩ := h c
    refine ⟨hv.trans ?_, h0, h1, h2, h3, h4, h5, h6, h7⟩
    rw [Cert.RefOutOddIdeal.res_eq, (hargs c).1, (hargs c).2.1, (hargs c).2.2.1, (hargs c).2.2.2.1, (hargs c).2.2.2.2.1, (hargs c).2.2.2.2.2.1,
      (hargs c).2.2.2.2.2.2.1, (hargs c).2.2.2.2.2.2.2]

end Cert.OutOddValue

end
-- ==== Proof.OutEven.lean ====
/-
  The projection behind the even layers' mixers: the dilated attention's three windows are merged by their log-sum-exponents and gated, joined to
  the windowed attention's columns, multiplied by the output weights and added to the residual. Each grid point does 512 rows. Two of the windows
  keep their sequences in residue order, four and sixteen residues apart: their blocks are put back in token order by strided stores into a scratch
  buffer. This module shows that the array the kernel leaves is the reference's one product over all rows and joined columns.
-/
module

public import proofs.«01_k».proof.Defs
public import proofs.«01_k».proof.Proof.Gen.OutEvenIdeal.Value
public import proofs.«01_k».proof.Proof.Gen.RefOutEvenIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.RefOutEvenIdeal

open Cert.RefOutEvenIdeal.Gen

/-- Rows of the first window in token order: its one residue leaves them where they are. -/
def TOK1 (a : FVec Ideal S65536x512 .f32) : FVec Ideal S65536x512 .f32 :=
  shapeCast _ (transpose S32x2048x1x512 [0, 2, 1, 3] (shapeCast _ a shapeCasts_S65536x512_S32x1x2048x512) transposes_S32x1x2048x512_S32x2048x1x512_0_2_1_3) shapeCasts_S32x2048x1x512_S65536x512

/-- Rows of the second window, kept residue after residue modulo four, in token order. -/
def TOK4 (a : FVec Ideal S65536x512 .f32) : FVec Ideal S65536x512 .f32 :=
  shapeCast _ (transpose S32x512x4x512 [0, 2, 1, 3] (shapeCast _ a shapeCasts_S65536x512_S32x4x512x512) transposes_S32x4x512x512_S32x512x4x512_0_2_1_3) shapeCasts_S32x512x4x512_S65536x512

/-- Rows of the third window, kept residue after residue modulo sixteen, in token order. -/
def TOK16 (a : FVec Ideal S65536x512 .f32) : FVec Ideal S65536x512 .f32 :=
  shapeCast _ (transpose S32x128x16x512 [0, 2, 1, 3] (shapeCast _ a shapeCasts_S65536x512_S32x16x128x512) transposes_S32x16x128x512_S32x128x16x512_0_2_1_3) shapeCasts_S32x128x16x512_S65536x512

/-- A window's weight before division: two to the power of its base-two log-sum-exponent less the largest. -/
def E (l mx : FVec Ideal S65536x512 .f32) : FVec Ideal S65536x512 .f32 :=
  Host.exp (mulf (subf l mx) (broadcastInDim S65536x512 ![] bcast_S_S65536x512 (id (Host.log (constant S_ .f32 0x40000000#32)))))

/-- The largest of the three log-sum-exponents. -/
def MX (a b c : FVec Ideal S65536x512 .f32) : FVec Ideal S65536x512 .f32 := maximumf (maximumf a b) c

/-- The three windows' outputs averaged by their weights. -/
def AVG (a b c o0 o1 o2 : FVec Ideal S65536x512 .f32) : FVec Ideal S65536x512 .f32 :=
  Host.divf (addf (addf (mulf (E a (MX a b c)) o0) (mulf (E b (MX a b c)) o1)) (mulf (E c (MX a b c)) o2)) (addf (addf (E a (MX a b c)) (E b (MX a b c))) (E c (MX a b c)))

/-- The gate's columns. -/
def GB (z : FVec Ideal S65536x3072 .bf16) : FVec Ideal S65536x512 .f32 := extf .f32 (extractStridedSlice S65536x512 ![0, 2560] z slices_S65536x3072_S65536x512_0_2560) bitsLt_bf16_f32

/-- The averaged columns times the gate's sigmoid-weighted columns. -/
def Y2 (o0 : FVec Ideal S65536x512 .bf16) (l0 : FVec Ideal S65536x512 .f32) (o1 : FVec Ideal S65536x512 .bf16) (l1 : FVec Ideal S65536x512 .f32)
    (o2 : FVec Ideal S65536x512 .bf16) (l2 : FVec Ideal S65536x512 .f32) (z : FVec Ideal S65536x3072 .bf16) : FVec Ideal S65536x512 .f32 :=
  mulf (AVG (TOK1 l0) (TOK4 l1) (TOK16 l2) (TOK1 (extf .f32 o0 bitsLt_bf16_f32)) (TOK4 (extf .f32 o1 bitsLt_bf16_f32)) (TOK16 (extf .f32 o2 bitsLt_bf16_f32)))
    (mulf (GB z) (Host.divf (broadcastInDim S65536x512 ![] bcast_S_S65536x512 (constant S_ .f32 0x3F800000#32)) (addf (broadcastInDim S65536x512 ![] bcast_S_S65536x512 (constant S_ .f32 0x3F800000#32)) (Host.exp (Host.negf (GB z))))))

/-- The residual plus the joined columns' product with the output weights. -/
def H (x : FVec Ideal S65536x1024 .f32) (ya : FVec Ideal S65536x1024 .bf16) (w : FVec Ideal S1536x1024 .f32) (y2 : FVec Ideal S65536x512 .f32) : FVec Ideal S65536x1024 .f32 :=
  addf x (Host.dotGeneral dot_S65536x1536_S1536x1024_S65536x1024_1_0_0_1_n_n none (concatenate S65536x1536 1 [⟨S65536x1024, (extf .f32 ya bitsLt_bf16_f32)⟩, ⟨S65536x512, y2⟩] concatenates_S65536x1024_S65536x512_S65536x1536_d1) w)

/-- The reference's result as a function of its ten arguments. -/
def REF (x : FVec Ideal S65536x1024 .f32) (ya : FVec Ideal S65536x1024 .bf16) (w : FVec Ideal S1536x1024 .f32) (o0 : FVec Ideal S65536x512 .bf16) (l0 : FVec Ideal S65536x512 .f32)
    (o1 : FVec Ideal S65536x512 .bf16) (l1 : FVec Ideal S65536x512 .f32) (o2 : FVec Ideal S65536x512 .bf16) (l2 : FVec Ideal S65536x512 .f32) (z : FVec Ideal S65536x3072 .bf16) :
    FVec Ideal S65536x1024 .f32 := H x ya w (Y2 o0 l0 o1 l1 o2 l2 z)

set_option maxHeartbeats 1600000 in
/-- The generated term of the reference's run is `REF` of the arguments. -/
theorem res_eq (m : (ℓ : Loc nD τ sig) → Buf (Elt Ideal) ℓ) (c : Dev nD) : Value.res_main_v56 (F := Ideal) m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

end Cert.RefOutEvenIdeal

namespace Cert.OutEvenValue

open Cert.OutEvenIdeal Cert.OutEvenIdeal.Gen

variable (m : (ℓ : Loc nD τ sig) → Buf (Elt Ideal) ℓ)

/-- Where each window's block sits at grid point `t`: the rows move with the point, the residue-ordered windows by quarters of a sequence, the gate's
    columns are the sixth block of 512, the weights stay. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val / 4, 0, t.val % 4, 0] ∧ win0_5.index t = ![t.val / 4, 0, t.val % 4, 0]
    ∧ win0_6.index t = ![t.val / 4, 0, t.val % 4, 0] ∧ win0_7.index t = ![t.val / 4, 0, t.val % 4, 0] ∧ win0_8.index t = ![t.val, 5]
    ∧ win0_9.index t = ![0, 0] ∧ win0_10.index t = ![0, 0] ∧ win0_11.index t = ![t.val, 0] :=
  (by decide +kernel : ∀ t : Fin grid0.N, _)

/-- The second window's outputs by residue, as the region finds them. -/
theorem V1 (c : Dev nD) : V m c main_v1 = (shapeCast S32x4x512x512 (m ((c : Thread nD τ).loc main_arg5) : FVec Ideal S65536x512 .bf16) shapeCasts_S65536x512_S32x4x512x512 : FVec Ideal S32x4x512x512 .bf16) := by
  entry_read
  rfl
/-- The second window's log-sum-exponents by residue. -/
theorem V2 (c : Dev nD) : V m c main_v2 = (shapeCast S32x4x512x512 (m ((c : Thread nD τ).loc main_arg6) : FVec Ideal S65536x512 .f32) shapeCasts_S65536x512_S32x4x512x512 : FVec Ideal S32x4x512x512 .f32) := by
  entry_read
  rfl
/-- The third window's outputs by residue. -/
theorem V3 (c : Dev nD) : V m c main_v3 = (shapeCast S32x16x128x512 (m ((c : Thread nD τ).loc main_arg7) : FVec Ideal S65536x512 .bf16) shapeCasts_S65536x512_S32x16x128x512 : FVec Ideal S32x16x128x512 .bf16) := by
  entry_read
  rfl
/-- The third window's log-sum-exponents by residue. -/
theorem V4 (c : Dev nD) : V m c main_v4 = (shapeCast S32x16x128x512 (m ((c : Thread nD τ).loc main_arg8) : FVec Ideal S65536x512 .f32) shapeCasts_S65536x512_S32x16x128x512 : FVec Ideal S32x16x128x512 .f32) := by
  entry_read
  rfl
/-- The upper rows of the output weights. -/
theorem V5 (c : Dev nD) : V m c main_v5 = (extractStridedSlice S1024x1024 ![0, 0] (truncf .bf16 (m ((c : Thread nD τ).loc main_arg2) : FVec Ideal S1536x1024 .f32) bitsLt_bf16_f32) slices_S1536x1024_S1024x1024_0_0 : FVec Ideal S1024x1024 .bf16) := by
  entry_read
  rfl
/-- The lower rows of the output weights. -/
theorem V6 (c : Dev nD) : V m c main_v6 = (extractStridedSlice S512x1024 ![1024, 0] (truncf .bf16 (m ((c : Thread nD τ).loc main_arg2) : FVec Ideal S1536x1024 .f32) bitsLt_bf16_f32) slices_S1536x1024_S512x1024_1024_0 : FVec Ideal S512x1024 .bf16) := by
  entry_read
  rfl

/-- A gate: dividing by one plus the exponential of the negated entry is multiplying by that sum's reciprocal, the sum never being zero. -/
theorem silu (g : EReal) : Ideal.div g (1 + Ideal.exp (0 - g)) = g * Ideal.div 1 (1 + Ideal.exp (-g)) := by
  have hd : (1 + Ideal.exp (-g) : EReal) ≠ 0 := by
    have h0 : (0 : EReal) ≤ Ideal.exp (-g) := by
      induction g using EReal.rec with
      | bot => simp
      | top => simp
      | coe r => rw [← EReal.coe_neg, Ideal.exp_coe]; exact_mod_cast (Real.exp_pos _).le
    have h1 : (1 : EReal) ≤ 1 + Ideal.exp (-g) := le_add_of_nonneg_right h0
    intro h
    rw [h] at h1
    exact absurd h1 (by norm_num)
  rw [zero_sub]
  unfold Ideal.div
  rw [if_neg hd, if_neg hd, one_mul]

/-- The literal two. -/
theorem ofBits_two : Ideal.ofBits .f32 0x40000000#32 = 2 := by
  rw [show (2 : EReal) = ((2 : ℝ) : EReal) from rfl]
  simp [Ideal.ofBits, Ideal.ieee, -EReal.coe_mul]; norm_num

/-- Two to a power is the exponential of the power times the logarithm of two. -/
theorem exp_log (x : EReal) : Ideal.exp (x * Ideal.log (Ideal.ofBits .f32 0x40000000#32)) = FloatOps.exp2 (F := Ideal) (φ := .f32) x := by
  show _ = Ideal.exp2 x
  rw [ofBits_two]
  have hp : (0 : ℝ) < Real.log 2 := Real.log_pos one_lt_two
  have h2 : Ideal.log 2 = ((Real.log 2 : ℝ) : EReal) := by
    rw [show (2 : EReal) = ((2 : ℝ) : EReal) from rfl, Ideal.log_coe, if_neg (by norm_num)]
  rw [h2]
  induction x using EReal.rec with
  | bot => rw [EReal.bot_mul_coe_of_pos hp]; simp
  | top => rw [EReal.top_mul_coe_of_pos hp]; simp
  | coe r =>
    rw [← EReal.coe_mul, Ideal.exp_coe, Ideal.exp2_coe]
    congr 1
    show Real.exp (r * Real.log 2) = (2 : ℝ) ^ r
    rw [Real.rpow_def_of_pos two_pos, mul_comm]

/-- The first window's one residue leaves the rows where they are. -/
theorem tok1 (a : FVec Ideal S65536x512 .f32) (i : S65536x512.Idx) : Cert.RefOutEvenIdeal.TOK1 a i = a i := by
  pointwise [Cert.RefOutEvenIdeal.TOK1]

/-- A row of a point's block is a row of the array. -/
theorem row_lt (t : Fin cfg0.N) (q : ℕ) (h : q < 512) : 512 * t.val + q < 65536 := by
  have ht : t.val < 128 := t.isLt
  omega

/-- What is stored of the second window's log-sum-exponents: rows of one residue, in token order. -/
theorem piece5 (c : Dev nD) (t : Fin cfg0.N) (r cc : ℕ) (inb h1 h2) (x : S1x1x128x128.Idx) (hr : r + 4 * (x 2).val < 512) (hc : cc + (x 3).val < 512) :
    shapeCast (s := S128x128) S1x1x128x128 (shapeCast (s := S1x1x128x128) S128x128 (View.ld (iblk m c 5 t) (Rect.unit (s := S1x4x128x512) ![0, r, 0, cc] ![1, 1, 128, 128] inb)) h1) h2 x
      = Cert.RefOutEvenIdeal.TOK4 (m ((c : Thread nD τ).loc main_arg6)) (ix2 ⟨512 * t.val + (r + 4 * (x 2).val), row_lt t _ hr⟩ ⟨cc + (x 3).val, hc⟩) := by
  have hr' : r < 4 := by
    have h := inb 1
    simp at h
    omega
  have h0 : (x 0).val < 1 := (x 0).isLt
  have h1 : (x 1).val < 1 := (x 1).isLt
  have h2 : (x 2).val < 128 := (x 2).isLt
  have h3 : (x 3).val < 128 := (x 3).isLt
  pointwise [Cert.RefOutEvenIdeal.TOK4]
  blk_point [iblk, V2, idx_val t]

/-- What is stored of the third window's log-sum-exponents. -/
theorem piece7 (c : Dev nD) (t : Fin cfg0.N) (r cc : ℕ) (inb h1 h2) (x : S1x1x32x128.Idx) (hr : r + 16 * (x 2).val < 512) (hc : cc + (x 3).val < 512) :
    shapeCast (s := S32x128) S1x1x32x128 (shapeCast (s := S1x1x32x128) S32x128 (View.ld (iblk m c 7 t) (Rect.unit (s := S1x16x32x512) ![0, r, 0, cc] ![1, 1, 32, 128] inb)) h1) h2 x
      = Cert.RefOutEvenIdeal.TOK16 (m ((c : Thread nD τ).loc main_arg8)) (ix2 ⟨512 * t.val + (r + 16 * (x 2).val), row_lt t _ hr⟩ ⟨cc + (x 3).val, hc⟩) := by
  have hr' : r < 16 := by
    have h := inb 1
    simp at h
    omega
  have h0 : (x 0).val < 1 := (x 0).isLt
  have h1 : (x 1).val < 1 := (x 1).isLt
  have h2 : (x 2).val < 32 := (x 2).isLt
  have h3 : (x 3).val < 128 := (x 3).isLt
  pointwise [Cert.RefOutEvenIdeal.TOK16]
  blk_point [iblk, V4, idx_val t]

/-- What is stored of the second window's outputs. -/
theorem piece4 (c : Dev nD) (t : Fin cfg0.N) (r cc : ℕ) (inb h1 h2) (x : S1x1x128x128.Idx) (hr : r + 4 * (x 2).val < 512) (hc : cc + (x 3).val < 512) :
    shapeCast (s := S128x128) S1x1x128x128 (extf .f32 (shapeCast (s := S1x1x128x128) S128x128 (View.ld (iblk m c 4 t) (Rect.unit (s := S1x4x128x512) ![0, r, 0, cc] ![1, 1, 128, 128] inb)) h1) bitsLt_bf16_f32 : FVec Ideal S128x128 .f32) h2 x
      = Cert.RefOutEvenIdeal.TOK4 (extf .f32 (m ((c : Thread nD τ).loc main_arg5)) bitsLt_bf16_f32) (ix2 ⟨512 * t.val + (r + 4 * (x 2).val), row_lt t _ hr⟩ ⟨cc + (x 3).val, hc⟩) := by
  have hr' : r < 4 := by
    have h := inb 1
    simp at h
    omega
  have h0 : (x 0).val < 1 := (x 0).isLt
  have h1 : (x 1).val < 1 := (x 1).isLt
  have h2 : (x 2).val < 128 := (x 2).isLt
  have h3 : (x 3).val < 128 := (x 3).isLt
  pointwise [Cert.RefOutEvenIdeal.TOK4]
  blk_point [iblk, V1, idx_val t]

/-- What is stored of the third window's outputs. -/
theorem piece6 (c : Dev nD) (t : Fin cfg0.N) (r cc : ℕ) (inb h1 h2) (x : S1x1x32x128.Idx) (hr : r + 16 * (x 2).val < 512) (hc : cc + (x 3).val < 512) :
    shapeCast (s := S32x128) S1x1x32x128 (extf .f32 (shapeCast (s := S1x1x32x128) S32x128 (View.ld (iblk m c 6 t) (Rect.unit (s := S1x16x32x512) ![0, r, 0, cc] ![1, 1, 32, 128] inb)) h1) bitsLt_bf16_f32 : FVec Ideal S32x128 .f32) h2 x
      = Cert.RefOutEvenIdeal.TOK16 (extf .f32 (m ((c : Thread nD τ).loc main_arg7)) bitsLt_bf16_f32) (ix2 ⟨512 * t.val + (r + 16 * (x 2).val), row_lt t _ hr⟩ ⟨cc + (x 3).val, hc⟩) := by
  have hr' : r < 16 := by
    have h := inb 1
    simp at h
    omega
  have h0 : (x 0).val < 1 := (x 0).isLt
  have h1 : (x 1).val < 1 := (x 1).isLt
  have h2 : (x 2).val < 32 := (x 2).isLt
  have h3 : (x 3).val < 128 := (x 3).isLt
  pointwise [Cert.RefOutEvenIdeal.TOK16]
  blk_point [iblk, V3, idx_val t]

/-- One residue's store, read at the row and lane it goes to. -/
theorem fill4 (G : Fin 512 → Fin 128 → EReal) (r : ℕ) (x : S1x1x128x128.Idx) (w : S1x1x128x128.Idx → EReal)
    (h : ∀ (x : S1x1x128x128.Idx) (hx : r + 4 * (x 2).val < 512), w x = G ⟨r + 4 * (x 2).val, hx⟩ (x 3)) (a : Fin 512) (b : Fin 128)
    (ha : a.val = r + 4 * (x 2).val) (hb : b.val = 0 + 1 * (x 3).val) : w x = G a b := by
  have hx : r + 4 * (x 2).val < 512 := ha ▸ a.isLt
  rw [h x hx]
  congr 1
  · exact Fin.ext ha.symm
  · exact Fin.ext (by omega)

/-- A slot's column group, read whole after the 4 strided stores of its residues, is the token-ordered block, whatever was stored before. -/
theorem nat4 {sp} (v : View sig .tc sp S4x4x512x128 .f32) (G : Fin 512 → Fin 128 → EReal) (k cb : ℕ) (inb) (L : List (View.Piece (Elt Ideal) S4x4x512x128 .f32))
    {i0 : ∀ a : Fin 4, (![1, 1, 128, 128] : Fin 4 → ℕ) a = 0 ∨ (![k, cb, 0, 0] : Fin 4 → ℕ) a + (![1, 1, 4, 1] : Fin 4 → ℕ) a * ((![1, 1, 128, 128] : Fin 4 → ℕ) a - 1) < S4x4x512x128.size a} {p0 : ∀ a : Fin 4, 0 < (![1, 1, 4, 1] : Fin 4 → ℕ) a} {w0 : S1x1x128x128.Idx → EReal}
    {i1 : ∀ a : Fin 4, (![1, 1, 128, 128] : Fin 4 → ℕ) a = 0 ∨ (![k, cb, 1, 0] : Fin 4 → ℕ) a + (![1, 1, 4, 1] : Fin 4 → ℕ) a * ((![1, 1, 128, 128] : Fin 4 → ℕ) a - 1) < S4x4x512x128.size a} {p1 : ∀ a : Fin 4, 0 < (![1, 1, 4, 1] : Fin 4 → ℕ) a} {w1 : S1x1x128x128.Idx → EReal}
    {i2 : ∀ a : Fin 4, (![1, 1, 128, 128] : Fin 4 → ℕ) a = 0 ∨ (![k, cb, 2, 0] : Fin 4 → ℕ) a + (![1, 1, 4, 1] : Fin 4 → ℕ) a * ((![1, 1, 128, 128] : Fin 4 → ℕ) a - 1) < S4x4x512x128.size a} {p2 : ∀ a : Fin 4, 0 < (![1, 1, 4, 1] : Fin 4 → ℕ) a} {w2 : S1x1x128x128.Idx → EReal}
    {i3 : ∀ a : Fin 4, (![1, 1, 128, 128] : Fin 4 → ℕ) a = 0 ∨ (![k, cb, 3, 0] : Fin 4 → ℕ) a + (![1, 1, 4, 1] : Fin 4 → ℕ) a * ((![1, 1, 128, 128] : Fin 4 → ℕ) a - 1) < S4x4x512x128.size a} {p3 : ∀ a : Fin 4, 0 < (![1, 1, 4, 1] : Fin 4 → ℕ) a} {w3 : S1x1x128x128.Idx → EReal}
    (h0 : ∀ (x : S1x1x128x128.Idx) (hx : 0 + 4 * (x 2).val < 512), w0 x = G ⟨0 + 4 * (x 2).val, hx⟩ (x 3))
    (h1 : ∀ (x : S1x1x128x128.Idx) (hx : 1 + 4 * (x 2).val < 512), w1 x = G ⟨1 + 4 * (x 2).val, hx⟩ (x 3))
    (h2 : ∀ (x : S1x1x128x128.Idx) (hx : 2 + 4 * (x 2).val < 512), w2 x = G ⟨2 + 4 * (x 2).val, hx⟩ (x 3))
    (h3 : ∀ (x : S1x1x128x128.Idx) (hx : 3 + 4 * (x 2).val < 512), w3 x = G ⟨3 + 4 * (x 2).val, hx⟩ (x 3)) (j : S1x1x512x128.Idx) :
    v.readCov (Val := Elt Ideal) (⟨{ off := ![k, cb, 3, 0], size := ![1, 1, 128, 128], stride := ![1, 1, 4, 1], inb := i3, stride_pos := p3 }, w3⟩ :: ⟨{ off := ![k, cb, 2, 0], size := ![1, 1, 128, 128], stride := ![1, 1, 4, 1], inb := i2, stride_pos := p2 }, w2⟩ :: ⟨{ off := ![k, cb, 1, 0], size := ![1, 1, 128, 128], stride := ![1, 1, 4, 1], inb := i1, stride_pos := p1 }, w1⟩ :: ⟨{ off := ![k, cb, 0, 0], size := ![1, 1, 128, 128], stride := ![1, 1, 4, 1], inb := i0, stride_pos := p0 }, w0⟩ :: L) (Rect.unit (s := S4x4x512x128) ![k, cb, 0, 0] ![1, 1, 512, 128] inb).toLoadRect j = G (j 2) (j 3) := by
  have b0 : (j 0).val < 1 := (j 0).isLt
  have b1 : (j 1).val < 1 := (j 1).isLt
  have b2 : (j 2).val < 512 := (j 2).isLt
  have b3 : (j 3).val < 128 := (j 3).isLt
  rw [View.readCov_eq_canon']
  show View.canon (Val := Elt Ideal) ([⟨{ off := ![k, cb, 3, 0], size := ![1, 1, 128, 128], stride := ![1, 1, 4, 1], inb := i3, stride_pos := p3 }, w3⟩, ⟨{ off := ![k, cb, 2, 0], size := ![1, 1, 128, 128], stride := ![1, 1, 4, 1], inb := i2, stride_pos := p2 }, w2⟩, ⟨{ off := ![k, cb, 1, 0], size := ![1, 1, 128, 128], stride := ![1, 1, 4, 1], inb := i1, stride_pos := p1 }, w1⟩, ⟨{ off := ![k, cb, 0, 0], size := ![1, 1, 128, 128], stride := ![1, 1, 4, 1], inb := i0, stride_pos := p0 }, w0⟩] ++ L) ((Rect.unit (s := S4x4x512x128) ![k, cb, 0, 0] ![1, 1, 512, 128] inb).toLoadRect.idx j) = _
  refine (View.canon_append_of_piecesOf (Val := Elt Ideal) (e := .f32) (fun y : S4x4x512x128.Idx => G (y 2) (y 3)) L [⟨{ off := ![k, cb, 3, 0], size := ![1, 1, 128, 128], stride := ![1, 1, 4, 1], inb := i3, stride_pos := p3 }, w3⟩, ⟨{ off := ![k, cb, 2, 0], size := ![1, 1, 128, 128], stride := ![1, 1, 4, 1], inb := i2, stride_pos := p2 }, w2⟩, ⟨{ off := ![k, cb, 1, 0], size := ![1, 1, 128, 128], stride := ![1, 1, 4, 1], inb := i1, stride_pos := p1 }, w1⟩, ⟨{ off := ![k, cb, 0, 0], size := ![1, 1, 128, 128], stride := ![1, 1, 4, 1], inb := i0, stride_pos := p0 }, w0⟩] ⟨fun x => fill4 G 3 x w3 h3 _ _ rfl rfl, fun x => fill4 G 2 x w2 h2 _ _ rfl rfl, fun x => fill4 G 1 x w1 h1 _ _ rfl rfl, fun x => fill4 G 0 x w0 h0 _ _ rfl rfl, trivial⟩ _ ?_).trans ?_
  · have hd : (j 2).val % 4 < 4 := Nat.mod_lt _ (by decide)
    obtain hd | hd | hd | hd : (j 2).val % 4 = 0 ∨ (j 2).val % 4 = 1 ∨ (j 2).val % 4 = 2 ∨ (j 2).val % 4 = 3 := by omega
    · refine ⟨⟨{ off := ![k, cb, 0, 0], size := ![1, 1, 128, 128], stride := ![1, 1, 4, 1], inb := i0, stride_pos := p0 }, w0⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 4, (by omega : (j 2).val / 4 < 128), by show 0 + 1 * (j 2).val = 0 + 4 * ((j 2).val / 4); omega⟩
      · exact ⟨(j 3).val, b3, by show 0 + 1 * (j 3).val = 0 + 1 * (j 3).val; rfl⟩
    · refine ⟨⟨{ off := ![k, cb, 1, 0], size := ![1, 1, 128, 128], stride := ![1, 1, 4, 1], inb := i1, stride_pos := p1 }, w1⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 4, (by omega : (j 2).val / 4 < 128), by show 0 + 1 * (j 2).val = 1 + 4 * ((j 2).val / 4); omega⟩
      · exact ⟨(j 3).val, b3, by show 0 + 1 * (j 3).val = 0 + 1 * (j 3).val; rfl⟩
    · refine ⟨⟨{ off := ![k, cb, 2, 0], size := ![1, 1, 128, 128], stride := ![1, 1, 4, 1], inb := i2, stride_pos := p2 }, w2⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 4, (by omega : (j 2).val / 4 < 128), by show 0 + 1 * (j 2).val = 2 + 4 * ((j 2).val / 4); omega⟩
      · exact ⟨(j 3).val, b3, by show 0 + 1 * (j 3).val = 0 + 1 * (j 3).val; rfl⟩
    · refine ⟨⟨{ off := ![k, cb, 3, 0], size := ![1, 1, 128, 128], stride := ![1, 1, 4, 1], inb := i3, stride_pos := p3 }, w3⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 4, (by omega : (j 2).val / 4 < 128), by show 0 + 1 * (j 2).val = 3 + 4 * ((j 2).val / 4); omega⟩
      · exact ⟨(j 3).val, b3, by show 0 + 1 * (j 3).val = 0 + 1 * (j 3).val; rfl⟩
  · congr 1 <;> exact Fin.ext (by simp)

/-- One residue's store, read at the row and lane it goes to. -/
theorem fill16 (G : Fin 512 → Fin 128 → EReal) (r : ℕ) (x : S1x1x32x128.Idx) (w : S1x1x32x128.Idx → EReal)
    (h : ∀ (x : S1x1x32x128.Idx) (hx : r + 16 * (x 2).val < 512), w x = G ⟨r + 16 * (x 2).val, hx⟩ (x 3)) (a : Fin 512) (b : Fin 128)
    (ha : a.val = r + 16 * (x 2).val) (hb : b.val = 0 + 1 * (x 3).val) : w x = G a b := by
  have hx : r + 16 * (x 2).val < 512 := ha ▸ a.isLt
  rw [h x hx]
  congr 1
  · exact Fin.ext ha.symm
  · exact Fin.ext (by omega)

/-- A slot's column group, read whole after the 16 strided stores of its residues, is the token-ordered block, whatever was stored before. -/
theorem nat16 {sp} (v : View sig .tc sp S4x4x512x128 .f32) (G : Fin 512 → Fin 128 → EReal) (k cb : ℕ) (inb) (L : List (View.Piece (Elt Ideal) S4x4x512x128 .f32))
    {i0 : ∀ a : Fin 4, (![1, 1, 32, 128] : Fin 4 → ℕ) a = 0 ∨ (![k, cb, 0, 0] : Fin 4 → ℕ) a + (![1, 1, 16, 1] : Fin 4 → ℕ) a * ((![1, 1, 32, 128] : Fin 4 → ℕ) a - 1) < S4x4x512x128.size a} {p0 : ∀ a : Fin 4, 0 < (![1, 1, 16, 1] : Fin 4 → ℕ) a} {w0 : S1x1x32x128.Idx → EReal}
    {i1 : ∀ a : Fin 4, (![1, 1, 32, 128] : Fin 4 → ℕ) a = 0 ∨ (![k, cb, 1, 0] : Fin 4 → ℕ) a + (![1, 1, 16, 1] : Fin 4 → ℕ) a * ((![1, 1, 32, 128] : Fin 4 → ℕ) a - 1) < S4x4x512x128.size a} {p1 : ∀ a : Fin 4, 0 < (![1, 1, 16, 1] : Fin 4 → ℕ) a} {w1 : S1x1x32x128.Idx → EReal}
    {i2 : ∀ a : Fin 4, (![1, 1, 32, 128] : Fin 4 → ℕ) a = 0 ∨ (![k, cb, 2, 0] : Fin 4 → ℕ) a + (![1, 1, 16, 1] : Fin 4 → ℕ) a * ((![1, 1, 32, 128] : Fin 4 → ℕ) a - 1) < S4x4x512x128.size a} {p2 : ∀ a : Fin 4, 0 < (![1, 1, 16, 1] : Fin 4 → ℕ) a} {w2 : S1x1x32x128.Idx → EReal}
    {i3 : ∀ a : Fin 4, (![1, 1, 32, 128] : Fin 4 → ℕ) a = 0 ∨ (![k, cb, 3, 0] : Fin 4 → ℕ) a + (![1, 1, 16, 1] : Fin 4 → ℕ) a * ((![1, 1, 32, 128] : Fin 4 → ℕ) a - 1) < S4x4x512x128.size a} {p3 : ∀ a : Fin 4, 0 < (![1, 1, 16, 1] : Fin 4 → ℕ) a} {w3 : S1x1x32x128.Idx → EReal}
    {i4 : ∀ a : Fin 4, (![1, 1, 32, 128] : Fin 4 → ℕ) a = 0 ∨ (![k, cb, 4, 0] : Fin 4 → ℕ) a + (![1, 1, 16, 1] : Fin 4 → ℕ) a * ((![1, 1, 32, 128] : Fin 4 → ℕ) a - 1) < S4x4x512x128.size a} {p4 : ∀ a : Fin 4, 0 < (![1, 1, 16, 1] : Fin 4 → ℕ) a} {w4 : S1x1x32x128.Idx → EReal}
    {i5 : ∀ a : Fin 4, (![1, 1, 32, 128] : Fin 4 → ℕ) a = 0 ∨ (![k, cb, 5, 0] : Fin 4 → ℕ) a + (![1, 1, 16, 1] : Fin 4 → ℕ) a * ((![1, 1, 32, 128] : Fin 4 → ℕ) a - 1) < S4x4x512x128.size a} {p5 : ∀ a : Fin 4, 0 < (![1, 1, 16, 1] : Fin 4 → ℕ) a} {w5 : S1x1x32x128.Idx → EReal}
    {i6 : ∀ a : Fin 4, (![1, 1, 32, 128] : Fin 4 → ℕ) a = 0 ∨ (![k, cb, 6, 0] : Fin 4 → ℕ) a + (![1, 1, 16, 1] : Fin 4 → ℕ) a * ((![1, 1, 32, 128] : Fin 4 → ℕ) a - 1) < S4x4x512x128.size a} {p6 : ∀ a : Fin 4, 0 < (![1, 1, 16, 1] : Fin 4 → ℕ) a} {w6 : S1x1x32x128.Idx → EReal}
    {i7 : ∀ a : Fin 4, (![1, 1, 32, 128] : Fin 4 → ℕ) a = 0 ∨ (![k, cb, 7, 0] : Fin 4 → ℕ) a + (![1, 1, 16, 1] : Fin 4 → ℕ) a * ((![1, 1, 32, 128] : Fin 4 → ℕ) a - 1) < S4x4x512x128.size a} {p7 : ∀ a : Fin 4, 0 < (![1, 1, 16, 1] : Fin 4 → ℕ) a} {w7 : S1x1x32x128.Idx → EReal}
    {i8 : ∀ a : Fin 4, (![1, 1, 32, 128] : Fin 4 → ℕ) a = 0 ∨ (![k, cb, 8, 0] : Fin 4 → ℕ) a + (![1, 1, 16, 1] : Fin 4 → ℕ) a * ((![1, 1, 32, 128] : Fin 4 → ℕ) a - 1) < S4x4x512x128.size a} {p8 : ∀ a : Fin 4, 0 < (![1, 1, 16, 1] : Fin 4 → ℕ) a} {w8 : S1x1x32x128.Idx → EReal}
    {i9 : ∀ a : Fin 4, (![1, 1, 32, 128] : Fin 4 → ℕ) a = 0 ∨ (![k, cb, 9, 0] : Fin 4 → ℕ) a + (![1, 1, 16, 1] : Fin 4 → ℕ) a * ((![1, 1, 32, 128] : Fin 4 → ℕ) a - 1) < S4x4x512x128.size a} {p9 : ∀ a : Fin 4, 0 < (![1, 1, 16, 1] : Fin 4 → ℕ) a} {w9 : S1x1x32x128.Idx → EReal}
    {i10 : ∀ a : Fin 4, (![1, 1, 32, 128] : Fin 4 → ℕ) a = 0 ∨ (![k, cb, 10, 0] : Fin 4 → ℕ) a + (![1, 1, 16, 1] : Fin 4 → ℕ) a * ((![1, 1, 32, 128] : Fin 4 → ℕ) a - 1) < S4x4x512x128.size a} {p10 : ∀ a : Fin 4, 0 < (![1, 1, 16, 1] : Fin 4 → ℕ) a} {w10 : S1x1x32x128.Idx → EReal}
    {i11 : ∀ a : Fin 4, (![1, 1, 32, 128] : Fin 4 → ℕ) a = 0 ∨ (![k, cb, 11, 0] : Fin 4 → ℕ) a + (![1, 1, 16, 1] : Fin 4 → ℕ) a * ((![1, 1, 32, 128] : Fin 4 → ℕ) a - 1) < S4x4x512x128.size a} {p11 : ∀ a : Fin 4, 0 < (![1, 1, 16, 1] : Fin 4 → ℕ) a} {w11 : S1x1x32x128.Idx → EReal}
    {i12 : ∀ a : Fin 4, (![1, 1, 32, 128] : Fin 4 → ℕ) a = 0 ∨ (![k, cb, 12, 0] : Fin 4 → ℕ) a + (![1, 1, 16, 1] : Fin 4 → ℕ) a * ((![1, 1, 32, 128] : Fin 4 → ℕ) a - 1) < S4x4x512x128.size a} {p12 : ∀ a : Fin 4, 0 < (![1, 1, 16, 1] : Fin 4 → ℕ) a} {w12 : S1x1x32x128.Idx → EReal}
    {i13 : ∀ a : Fin 4, (![1, 1, 32, 128] : Fin 4 → ℕ) a = 0 ∨ (![k, cb, 13, 0] : Fin 4 → ℕ) a + (![1, 1, 16, 1] : Fin 4 → ℕ) a * ((![1, 1, 32, 128] : Fin 4 → ℕ) a - 1) < S4x4x512x128.size a} {p13 : ∀ a : Fin 4, 0 < (![1, 1, 16, 1] : Fin 4 → ℕ) a} {w13 : S1x1x32x128.Idx → EReal}
    {i14 : ∀ a : Fin 4, (![1, 1, 32, 128] : Fin 4 → ℕ) a = 0 ∨ (![k, cb, 14, 0] : Fin 4 → ℕ) a + (![1, 1, 16, 1] : Fin 4 → ℕ) a * ((![1, 1, 32, 128] : Fin 4 → ℕ) a - 1) < S4x4x512x128.size a} {p14 : ∀ a : Fin 4, 0 < (![1, 1, 16, 1] : Fin 4 → ℕ) a} {w14 : S1x1x32x128.Idx → EReal}
    {i15 : ∀ a : Fin 4, (![1, 1, 32, 128] : Fin 4 → ℕ) a = 0 ∨ (![k, cb, 15, 0] : Fin 4 → ℕ) a + (![1, 1, 16, 1] : Fin 4 → ℕ) a * ((![1, 1, 32, 128] : Fin 4 → ℕ) a - 1) < S4x4x512x128.size a} {p15 : ∀ a : Fin 4, 0 < (![1, 1, 16, 1] : Fin 4 → ℕ) a} {w15 : S1x1x32x128.Idx → EReal}
    (h0 : ∀ (x : S1x1x32x128.Idx) (hx : 0 + 16 * (x 2).val < 512), w0 x = G ⟨0 + 16 * (x 2).val, hx⟩ (x 3))
    (h1 : ∀ (x : S1x1x32x128.Idx) (hx : 1 + 16 * (x 2).val < 512), w1 x = G ⟨1 + 16 * (x 2).val, hx⟩ (x 3))
    (h2 : ∀ (x : S1x1x32x128.Idx) (hx : 2 + 16 * (x 2).val < 512), w2 x = G ⟨2 + 16 * (x 2).val, hx⟩ (x 3))
    (h3 : ∀ (x : S1x1x32x128.Idx) (hx : 3 + 16 * (x 2).val < 512), w3 x = G ⟨3 + 16 * (x 2).val, hx⟩ (x 3))
    (h4 : ∀ (x : S1x1x32x128.Idx) (hx : 4 + 16 * (x 2).val < 512), w4 x = G ⟨4 + 16 * (x 2).val, hx⟩ (x 3))
    (h5 : ∀ (x : S1x1x32x128.Idx) (hx : 5 + 16 * (x 2).val < 512), w5 x = G ⟨5 + 16 * (x 2).val, hx⟩ (x 3))
    (h6 : ∀ (x : S1x1x32x128.Idx) (hx : 6 + 16 * (x 2).val < 512), w6 x = G ⟨6 + 16 * (x 2).val, hx⟩ (x 3))
    (h7 : ∀ (x : S1x1x32x128.Idx) (hx : 7 + 16 * (x 2).val < 512), w7 x = G ⟨7 + 16 * (x 2).val, hx⟩ (x 3))
    (h8 : ∀ (x : S1x1x32x128.Idx) (hx : 8 + 16 * (x 2).val < 512), w8 x = G ⟨8 + 16 * (x 2).val, hx⟩ (x 3))
    (h9 : ∀ (x : S1x1x32x128.Idx) (hx : 9 + 16 * (x 2).val < 512), w9 x = G ⟨9 + 16 * (x 2).val, hx⟩ (x 3))
    (h10 : ∀ (x : S1x1x32x128.Idx) (hx : 10 + 16 * (x 2).val < 512), w10 x = G ⟨10 + 16 * (x 2).val, hx⟩ (x 3))
    (h11 : ∀ (x : S1x1x32x128.Idx) (hx : 11 + 16 * (x 2).val < 512), w11 x = G ⟨11 + 16 * (x 2).val, hx⟩ (x 3))
    (h12 : ∀ (x : S1x1x32x128.Idx) (hx : 12 + 16 * (x 2).val < 512), w12 x = G ⟨12 + 16 * (x 2).val, hx⟩ (x 3))
    (h13 : ∀ (x : S1x1x32x128.Idx) (hx : 13 + 16 * (x 2).val < 512), w13 x = G ⟨13 + 16 * (x 2).val, hx⟩ (x 3))
    (h14 : ∀ (x : S1x1x32x128.Idx) (hx : 14 + 16 * (x 2).val < 512), w14 x = G ⟨14 + 16 * (x 2).val, hx⟩ (x 3))
    (h15 : ∀ (x : S1x1x32x128.Idx) (hx : 15 + 16 * (x 2).val < 512), w15 x = G ⟨15 + 16 * (x 2).val, hx⟩ (x 3)) (j : S1x1x512x128.Idx) :
    v.readCov (Val := Elt Ideal) (⟨{ off := ![k, cb, 15, 0], size := ![1, 1, 32, 128], stride := ![1, 1, 16, 1], inb := i15, stride_pos := p15 }, w15⟩ :: ⟨{ off := ![k, cb, 14, 0], size := ![1, 1, 32, 128], stride := ![1, 1, 16, 1], inb := i14, stride_pos := p14 }, w14⟩ :: ⟨{ off := ![k, cb, 13, 0], size := ![1, 1, 32, 128], stride := ![1, 1, 16, 1], inb := i13, stride_pos := p13 }, w13⟩ :: ⟨{ off := ![k, cb, 12, 0], size := ![1, 1, 32, 128], stride := ![1, 1, 16, 1], inb := i12, stride_pos := p12 }, w12⟩ :: ⟨{ off := ![k, cb, 11, 0], size := ![1, 1, 32, 128], stride := ![1, 1, 16, 1], inb := i11, stride_pos := p11 }, w11⟩ :: ⟨{ off := ![k, cb, 10, 0], size := ![1, 1, 32, 128], stride := ![1, 1, 16, 1], inb := i10, stride_pos := p10 }, w10⟩ :: ⟨{ off := ![k, cb, 9, 0], size := ![1, 1, 32, 128], stride := ![1, 1, 16, 1], inb := i9, stride_pos := p9 }, w9⟩ :: ⟨{ off := ![k, cb, 8, 0], size := ![1, 1, 32, 128], stride := ![1, 1, 16, 1], inb := i8, stride_pos := p8 }, w8⟩ :: ⟨{ off := ![k, cb, 7, 0], size := ![1, 1, 32, 128], stride := ![1, 1, 16, 1], inb := i7, stride_pos := p7 }, w7⟩ :: ⟨{ off := ![k, cb, 6, 0], size := ![1, 1, 32, 128], stride := ![1, 1, 16, 1], inb := i6, stride_pos := p6 }, w6⟩ :: ⟨{ off := ![k, cb, 5, 0], size := ![1, 1, 32, 128], stride := ![1, 1, 16, 1], inb := i5, stride_pos := p5 }, w5⟩ :: ⟨{ off := ![k, cb, 4, 0], size := ![1, 1, 32, 128], stride := ![1, 1, 16, 1], inb := i4, stride_pos := p4 }, w4⟩ :: ⟨{ off := ![k, cb, 3, 0], size := ![1, 1, 32, 128], stride := ![1, 1, 16, 1], inb := i3, stride_pos := p3 }, w3⟩ :: ⟨{ off := ![k, cb, 2, 0], size := ![1, 1, 32, 128], stride := ![1, 1, 16, 1], inb := i2, stride_pos := p2 }, w2⟩ :: ⟨{ off := ![k, cb, 1, 0], size := ![1, 1, 32, 128], stride := ![1, 1, 16, 1], inb := i1, stride_pos := p1 }, w1⟩ :: ⟨{ off := ![k, cb, 0, 0], size := ![1, 1, 32, 128], stride := ![1, 1, 16, 1], inb := i0, stride_pos := p0 }, w0⟩ :: L) (Rect.unit (s := S4x4x512x128) ![k, cb, 0, 0] ![1, 1, 512, 128] inb).toLoadRect j = G (j 2) (j 3) := by
  have b0 : (j 0).val < 1 := (j 0).isLt
  have b1 : (j 1).val < 1 := (j 1).isLt
  have b2 : (j 2).val < 512 := (j 2).isLt
  have b3 : (j 3).val < 128 := (j 3).isLt
  rw [View.readCov_eq_canon']
  show View.canon (Val := Elt Ideal) ([⟨{ off := ![k, cb, 15, 0], size := ![1, 1, 32, 128], stride := ![1, 1, 16, 1], inb := i15, stride_pos := p15 }, w15⟩, ⟨{ off := ![k, cb, 14, 0], size := ![1, 1, 32, 128], stride := ![1, 1, 16, 1], inb := i14, stride_pos := p14 }, w14⟩, ⟨{ off := ![k, cb, 13, 0], size := ![1, 1, 32, 128], stride := ![1, 1, 16, 1], inb := i13, stride_pos := p13 }, w13⟩, ⟨{ off := ![k, cb, 12, 0], size := ![1, 1, 32, 128], stride := ![1, 1, 16, 1], inb := i12, stride_pos := p12 }, w12⟩, ⟨{ off := ![k, cb, 11, 0], size := ![1, 1, 32, 128], stride := ![1, 1, 16, 1], inb := i11, stride_pos := p11 }, w11⟩, ⟨{ off := ![k, cb, 10, 0], size := ![1, 1, 32, 128], stride := ![1, 1, 16, 1], inb := i10, stride_pos := p10 }, w10⟩, ⟨{ off := ![k, cb, 9, 0], size := ![1, 1, 32, 128], stride := ![1, 1, 16, 1], inb := i9, stride_pos := p9 }, w9⟩, ⟨{ off := ![k, cb, 8, 0], size := ![1, 1, 32, 128], stride := ![1, 1, 16, 1], inb := i8, stride_pos := p8 }, w8⟩, ⟨{ off := ![k, cb, 7, 0], size := ![1, 1, 32, 128], stride := ![1, 1, 16, 1], inb := i7, stride_pos := p7 }, w7⟩, ⟨{ off := ![k, cb, 6, 0], size := ![1, 1, 32, 128], stride := ![1, 1, 16, 1], inb := i6, stride_pos := p6 }, w6⟩, ⟨{ off := ![k, cb, 5, 0], size := ![1, 1, 32, 128], stride := ![1, 1, 16, 1], inb := i5, stride_pos := p5 }, w5⟩, ⟨{ off := ![k, cb, 4, 0], size := ![1, 1, 32, 128], stride := ![1, 1, 16, 1], inb := i4, stride_pos := p4 }, w4⟩, ⟨{ off := ![k, cb, 3, 0], size := ![1, 1, 32, 128], stride := ![1, 1, 16, 1], inb := i3, stride_pos := p3 }, w3⟩, ⟨{ off := ![k, cb, 2, 0], size := ![1, 1, 32, 128], stride := ![1, 1, 16, 1], inb := i2, stride_pos := p2 }, w2⟩, ⟨{ off := ![k, cb, 1, 0], size := ![1, 1, 32, 128], stride := ![1, 1, 16, 1], inb := i1, stride_pos := p1 }, w1⟩, ⟨{ off := ![k, cb, 0, 0], size := ![1, 1, 32, 128], stride := ![1, 1, 16, 1], inb := i0, stride_pos := p0 }, w0⟩] ++ L) ((Rect.unit (s := S4x4x512x128) ![k, cb, 0, 0] ![1, 1, 512, 128] inb).toLoadRect.idx j) = _
  refine (View.canon_append_of_piecesOf (Val := Elt Ideal) (e := .f32) (fun y : S4x4x512x128.Idx => G (y 2) (y 3)) L [⟨{ off := ![k, cb, 15, 0], size := ![1, 1, 32, 128], stride := ![1, 1, 16, 1], inb := i15, stride_pos := p15 }, w15⟩, ⟨{ off := ![k, cb, 14, 0], size := ![1, 1, 32, 128], stride := ![1, 1, 16, 1], inb := i14, stride_pos := p14 }, w14⟩, ⟨{ off := ![k, cb, 13, 0], size := ![1, 1, 32, 128], stride := ![1, 1, 16, 1], inb := i13, stride_pos := p13 }, w13⟩, ⟨{ off := ![k, cb, 12, 0], size := ![1, 1, 32, 128], stride := ![1, 1, 16, 1], inb := i12, stride_pos := p12 }, w12⟩, ⟨{ off := ![k, cb, 11, 0], size := ![1, 1, 32, 128], stride := ![1, 1, 16, 1], inb := i11, stride_pos := p11 }, w11⟩, ⟨{ off := ![k, cb, 10, 0], size := ![1, 1, 32, 128], stride := ![1, 1, 16, 1], inb := i10, stride_pos := p10 }, w10⟩, ⟨{ off := ![k, cb, 9, 0], size := ![1, 1, 32, 128], stride := ![1, 1, 16, 1], inb := i9, stride_pos := p9 }, w9⟩, ⟨{ off := ![k, cb, 8, 0], size := ![1, 1, 32, 128], stride := ![1, 1, 16, 1], inb := i8, stride_pos := p8 }, w8⟩, ⟨{ off := ![k, cb, 7, 0], size := ![1, 1, 32, 128], stride := ![1, 1, 16, 1], inb := i7, stride_pos := p7 }, w7⟩, ⟨{ off := ![k, cb, 6, 0], size := ![1, 1, 32, 128], stride := ![1, 1, 16, 1], inb := i6, stride_pos := p6 }, w6⟩, ⟨{ off := ![k, cb, 5, 0], size := ![1, 1, 32, 128], stride := ![1, 1, 16, 1], inb := i5, stride_pos := p5 }, w5⟩, ⟨{ off := ![k, cb, 4, 0], size := ![1, 1, 32, 128], stride := ![1, 1, 16, 1], inb := i4, stride_pos := p4 }, w4⟩, ⟨{ off := ![k, cb, 3, 0], size := ![1, 1, 32, 128], stride := ![1, 1, 16, 1], inb := i3, stride_pos := p3 }, w3⟩, ⟨{ off := ![k, cb, 2, 0], size := ![1, 1, 32, 128], stride := ![1, 1, 16, 1], inb := i2, stride_pos := p2 }, w2⟩, ⟨{ off := ![k, cb, 1, 0], size := ![1, 1, 32, 128], stride := ![1, 1, 16, 1], inb := i1, stride_pos := p1 }, w1⟩, ⟨{ off := ![k, cb, 0, 0], size := ![1, 1, 32, 128], stride := ![1, 1, 16, 1], inb := i0, stride_pos := p0 }, w0⟩] ⟨fun x => fill16 G 15 x w15 h15 _ _ rfl rfl, fun x => fill16 G 14 x w14 h14 _ _ rfl rfl, fun x => fill16 G 13 x w13 h13 _ _ rfl rfl, fun x => fill16 G 12 x w12 h12 _ _ rfl rfl, fun x => fill16 G 11 x w11 h11 _ _ rfl rfl, fun x => fill16 G 10 x w10 h10 _ _ rfl rfl, fun x => fill16 G 9 x w9 h9 _ _ rfl rfl, fun x => fill16 G 8 x w8 h8 _ _ rfl rfl, fun x => fill16 G 7 x w7 h7 _ _ rfl rfl, fun x => fill16 G 6 x w6 h6 _ _ rfl rfl, fun x => fill16 G 5 x w5 h5 _ _ rfl rfl, fun x => fill16 G 4 x w4 h4 _ _ rfl rfl, fun x => fill16 G 3 x w3 h3 _ _ rfl rfl, fun x => fill16 G 2 x w2 h2 _ _ rfl rfl, fun x => fill16 G 1 x w1 h1 _ _ rfl rfl, fun x => fill16 G 0 x w0 h0 _ _ rfl rfl, trivial⟩ _ ?_).trans ?_
  · have hd : (j 2).val % 16 < 16 := Nat.mod_lt _ (by decide)
    obtain hd | hd | hd | hd | hd | hd | hd | hd | hd | hd | hd | hd | hd | hd | hd | hd : (j 2).val % 16 = 0 ∨ (j 2).val % 16 = 1 ∨ (j 2).val % 16 = 2 ∨ (j 2).val % 16 = 3 ∨ (j 2).val % 16 = 4 ∨ (j 2).val % 16 = 5 ∨ (j 2).val % 16 = 6 ∨ (j 2).val % 16 = 7 ∨ (j 2).val % 16 = 8 ∨ (j 2).val % 16 = 9 ∨ (j 2).val % 16 = 10 ∨ (j 2).val % 16 = 11 ∨ (j 2).val % 16 = 12 ∨ (j 2).val % 16 = 13 ∨ (j 2).val % 16 = 14 ∨ (j 2).val % 16 = 15 := by omega
    · refine ⟨⟨{ off := ![k, cb, 0, 0], size := ![1, 1, 32, 128], stride := ![1, 1, 16, 1], inb := i0, stride_pos := p0 }, w0⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 0 + 16 * ((j 2).val / 16); omega⟩
      · exact ⟨(j 3).val, b3, by show 0 + 1 * (j 3).val = 0 + 1 * (j 3).val; rfl⟩
    · refine ⟨⟨{ off := ![k, cb, 1, 0], size := ![1, 1, 32, 128], stride := ![1, 1, 16, 1], inb := i1, stride_pos := p1 }, w1⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 1 + 16 * ((j 2).val / 16); omega⟩
      · exact ⟨(j 3).val, b3, by show 0 + 1 * (j 3).val = 0 + 1 * (j 3).val; rfl⟩
    · refine ⟨⟨{ off := ![k, cb, 2, 0], size := ![1, 1, 32, 128], stride := ![1, 1, 16, 1], inb := i2, stride_pos := p2 }, w2⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 2 + 16 * ((j 2).val / 16); omega⟩
      · exact ⟨(j 3).val, b3, by show 0 + 1 * (j 3).val = 0 + 1 * (j 3).val; rfl⟩
    · refine ⟨⟨{ off := ![k, cb, 3, 0], size := ![1, 1, 32, 128], stride := ![1, 1, 16, 1], inb := i3, stride_pos := p3 }, w3⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 3 + 16 * ((j 2).val / 16); omega⟩
      · exact ⟨(j 3).val, b3, by show 0 + 1 * (j 3).val = 0 + 1 * (j 3).val; rfl⟩
    · refine ⟨⟨{ off := ![k, cb, 4, 0], size := ![1, 1, 32, 128], stride := ![1, 1, 16, 1], inb := i4, stride_pos := p4 }, w4⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 4 + 16 * ((j 2).val / 16); omega⟩
      · exact ⟨(j 3).val, b3, by show 0 + 1 * (j 3).val = 0 + 1 * (j 3).val; rfl⟩
    · refine ⟨⟨{ off := ![k, cb, 5, 0], size := ![1, 1, 32, 128], stride := ![1, 1, 16, 1], inb := i5, stride_pos := p5 }, w5⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 5 + 16 * ((j 2).val / 16); omega⟩
      · exact ⟨(j 3).val, b3, by show 0 + 1 * (j 3).val = 0 + 1 * (j 3).val; rfl⟩
    · refine ⟨⟨{ off := ![k, cb, 6, 0], size := ![1, 1, 32, 128], stride := ![1, 1, 16, 1], inb := i6, stride_pos := p6 }, w6⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 6 + 16 * ((j 2).val / 16); omega⟩
      · exact ⟨(j 3).val, b3, by show 0 + 1 * (j 3).val = 0 + 1 * (j 3).val; rfl⟩
    · refine ⟨⟨{ off := ![k, cb, 7, 0], size := ![1, 1, 32, 128], stride := ![1, 1, 16, 1], inb := i7, stride_pos := p7 }, w7⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 7 + 16 * ((j 2).val / 16); omega⟩
      · exact ⟨(j 3).val, b3, by show 0 + 1 * (j 3).val = 0 + 1 * (j 3).val; rfl⟩
    · refine ⟨⟨{ off := ![k, cb, 8, 0], size := ![1, 1, 32, 128], stride := ![1, 1, 16, 1], inb := i8, stride_pos := p8 }, w8⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 8 + 16 * ((j 2).val / 16); omega⟩
      · exact ⟨(j 3).val, b3, by show 0 + 1 * (j 3).val = 0 + 1 * (j 3).val; rfl⟩
    · refine ⟨⟨{ off := ![k, cb, 9, 0], size := ![1, 1, 32, 128], stride := ![1, 1, 16, 1], inb := i9, stride_pos := p9 }, w9⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 9 + 16 * ((j 2).val / 16); omega⟩
      · exact ⟨(j 3).val, b3, by show 0 + 1 * (j 3).val = 0 + 1 * (j 3).val; rfl⟩
    · refine ⟨⟨{ off := ![k, cb, 10, 0], size := ![1, 1, 32, 128], stride := ![1, 1, 16, 1], inb := i10, stride_pos := p10 }, w10⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 10 + 16 * ((j 2).val / 16); omega⟩
      · exact ⟨(j 3).val, b3, by show 0 + 1 * (j 3).val = 0 + 1 * (j 3).val; rfl⟩
    · refine ⟨⟨{ off := ![k, cb, 11, 0], size := ![1, 1, 32, 128], stride := ![1, 1, 16, 1], inb := i11, stride_pos := p11 }, w11⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 11 + 16 * ((j 2).val / 16); omega⟩
      · exact ⟨(j 3).val, b3, by show 0 + 1 * (j 3).val = 0 + 1 * (j 3).val; rfl⟩
    · refine ⟨⟨{ off := ![k, cb, 12, 0], size := ![1, 1, 32, 128], stride := ![1, 1, 16, 1], inb := i12, stride_pos := p12 }, w12⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 12 + 16 * ((j 2).val / 16); omega⟩
      · exact ⟨(j 3).val, b3, by show 0 + 1 * (j 3).val = 0 + 1 * (j 3).val; rfl⟩
    · refine ⟨⟨{ off := ![k, cb, 13, 0], size := ![1, 1, 32, 128], stride := ![1, 1, 16, 1], inb := i13, stride_pos := p13 }, w13⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 13 + 16 * ((j 2).val / 16); omega⟩
      · exact ⟨(j 3).val, b3, by show 0 + 1 * (j 3).val = 0 + 1 * (j 3).val; rfl⟩
    · refine ⟨⟨{ off := ![k, cb, 14, 0], size := ![1, 1, 32, 128], stride := ![1, 1, 16, 1], inb := i14, stride_pos := p14 }, w14⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 14 + 16 * ((j 2).val / 16); omega⟩
      · exact ⟨(j 3).val, b3, by show 0 + 1 * (j 3).val = 0 + 1 * (j 3).val; rfl⟩
    · refine ⟨⟨{ off := ![k, cb, 15, 0], size := ![1, 1, 32, 128], stride := ![1, 1, 16, 1], inb := i15, stride_pos := p15 }, w15⟩, by simp, (LoadRect.mem_set _).mpr fun a => ?_⟩
      fin_cases a
      · exact ⟨0, Nat.one_pos, by show k + 1 * (j 0).val = k + 1 * 0; omega⟩
      · exact ⟨0, Nat.one_pos, by show cb + 1 * (j 1).val = cb + 1 * 0; omega⟩
      · exact ⟨(j 2).val / 16, (by omega : (j 2).val / 16 < 32), by show 0 + 1 * (j 2).val = 15 + 16 * ((j 2).val / 16); omega⟩
      · exact ⟨(j 3).val, b3, by show 0 + 1 * (j 3).val = 0 + 1 * (j 3).val; rfl⟩
  · congr 1 <;> exact Fin.ext (by simp)

/-- A column of a column group is a column of the array. -/
theorem col_lt (cc q : ℕ) (h : cc + 128 ≤ 512) (hq : q < 128) : cc + q < 512 := by omega

/-- The point's rows and a group's 128 columns of an array. -/
def ROWS (a : FVec Ideal S65536x512 .f32) (t : Fin cfg0.N) (cc : ℕ) (h : cc + 128 ≤ 512) : Fin 512 → Fin 128 → EReal :=
  fun p q => a (ix2 ⟨512 * t.val + p.val, row_lt t _ p.isLt⟩ ⟨cc + q.val, col_lt cc _ h q.isLt⟩)

/-- One column group of the merge: three outputs averaged by powers of two, times the gate. -/
def COL (l0 : Vec Ideal S512x128 .f32) (o0 g : Vec Ideal S512x128 .bf16) (l1 l2 o1 o2 : Vec Ideal S1x1x512x128 .f32) : FVec Ideal S512x128 .bf16 :=
  shapeCast S512x128 (truncf .bf16 (mulf (divf (addf (addf (mulf (exp2 (subf l0 (maximumf (maximumf l0 (shapeCast S512x128 l1 shapeCasts_S1x1x512x128_S512x128)) (shapeCast S512x128 l2 shapeCasts_S1x1x512x128_S512x128)))) (extf .f32 o0 bitsLt_bf16_f32))
      (mulf (exp2 (subf (shapeCast S512x128 l1 shapeCasts_S1x1x512x128_S512x128) (maximumf (maximumf l0 (shapeCast S512x128 l1 shapeCasts_S1x1x512x128_S512x128)) (shapeCast S512x128 l2 shapeCasts_S1x1x512x128_S512x128)))) (shapeCast S512x128 o1 shapeCasts_S1x1x512x128_S512x128)))
      (mulf (exp2 (subf (shapeCast S512x128 l2 shapeCasts_S1x1x512x128_S512x128) (maximumf (maximumf l0 (shapeCast S512x128 l1 shapeCasts_S1x1x512x128_S512x128)) (shapeCast S512x128 l2 shapeCasts_S1x1x512x128_S512x128)))) (shapeCast S512x128 o2 shapeCasts_S1x1x512x128_S512x128)))
    (addf (addf (exp2 (subf l0 (maximumf (maximumf l0 (shapeCast S512x128 l1 shapeCasts_S1x1x512x128_S512x128)) (shapeCast S512x128 l2 shapeCasts_S1x1x512x128_S512x128))))
      (exp2 (subf (shapeCast S512x128 l1 shapeCasts_S1x1x512x128_S512x128) (maximumf (maximumf l0 (shapeCast S512x128 l1 shapeCasts_S1x1x512x128_S512x128)) (shapeCast S512x128 l2 shapeCasts_S1x1x512x128_S512x128)))))
      (exp2 (subf (shapeCast S512x128 l2 shapeCasts_S1x1x512x128_S512x128) (maximumf (maximumf l0 (shapeCast S512x128 l1 shapeCasts_S1x1x512x128_S512x128)) (shapeCast S512x128 l2 shapeCasts_S1x1x512x128_S512x128))))))
    (divf (extf .f32 g bitsLt_bf16_f32) (addf (broadcast S512x128 (Scalar.ofBits .f32 0x3F800000#32)) (exp (subf (broadcast S512x128 (Scalar.ofBits .f32 0x00000000#32)) (extf .f32 g bitsLt_bf16_f32)))))) bitsLt_bf16_f32) shapeCasts_S512x128_S512x128

set_option maxHeartbeats 1600000 in
/-- One column group of the merge is the reference's gated average there. -/
theorem col (c : Dev nD) (t : Fin cfg0.N) (cc : ℕ) (hcc : cc + 128 ≤ 512) (i0 i1 i2) (l1 l2 o1 o2 : Vec Ideal S1x1x512x128 .f32)
    (h1 : ∀ j : S1x1x512x128.Idx, l1 j = ROWS (Cert.RefOutEvenIdeal.TOK4 (m ((c : Thread nD τ).loc main_arg6))) t cc hcc (j 2) (j 3)) (h2 : ∀ j : S1x1x512x128.Idx, l2 j = ROWS (Cert.RefOutEvenIdeal.TOK16 (m ((c : Thread nD τ).loc main_arg8))) t cc hcc (j 2) (j 3))
    (h3 : ∀ j : S1x1x512x128.Idx, o1 j = ROWS (Cert.RefOutEvenIdeal.TOK4 (extf .f32 (m ((c : Thread nD τ).loc main_arg5)) bitsLt_bf16_f32)) t cc hcc (j 2) (j 3)) (h4 : ∀ j : S1x1x512x128.Idx, o2 j = ROWS (Cert.RefOutEvenIdeal.TOK16 (extf .f32 (m ((c : Thread nD τ).loc main_arg7)) bitsLt_bf16_f32)) t cc hcc (j 2) (j 3)) (x : S512x128.Idx) :
    COL (View.ld (iblk m c 3 t) (Rect.unit (s := S512x512) ![0, cc] ![512, 128] i0)) (View.ld (iblk m c 2 t) (Rect.unit (s := S512x512) ![0, cc] ![512, 128] i1)) (View.ld (iblk m c 8 t) (Rect.unit (s := S512x512) ![0, cc] ![512, 128] i2)) l1 l2 o1 o2 x
      = (Cert.RefOutEvenIdeal.Y2 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨512 * t.val + (x 0).val, row_lt t _ (x 0).isLt⟩ ⟨cc + (x 1).val, col_lt cc _ hcc (x 1).isLt⟩) := by
  obtain rfl := funext h1
  obtain rfl := funext h2
  obtain rfl := funext h3
  obtain rfl := funext h4
  pointwise [COL, ROWS, Cert.RefOutEvenIdeal.Y2, Cert.RefOutEvenIdeal.AVG, Cert.RefOutEvenIdeal.E, Cert.RefOutEvenIdeal.MX, Cert.RefOutEvenIdeal.GB, id_eq]
  simp only [silu, exp_log, tok1]
  blk_point [iblk, V_main_arg3, V_main_arg4, V_main_arg9, idx_val t]

/-- The four column groups' stores leave the gated columns of the point's rows. -/
theorem scratch (t : Fin cfg0.N) (Y : FVec Ideal S65536x512 .f32) (w0 w1 w2 w3 : S512x128.Idx → EReal)
    (e0 : ∀ x : S512x128.Idx, w0 x = Y (ix2 ⟨512 * t.val + (x 0).val, row_lt t _ (x 0).isLt⟩ ⟨0 + (x 1).val, col_lt 0 _ (by decide) (x 1).isLt⟩))
    (e1 : ∀ x : S512x128.Idx, w1 x = Y (ix2 ⟨512 * t.val + (x 0).val, row_lt t _ (x 0).isLt⟩ ⟨128 + (x 1).val, col_lt 128 _ (by decide) (x 1).isLt⟩))
    (e2 : ∀ x : S512x128.Idx, w2 x = Y (ix2 ⟨512 * t.val + (x 0).val, row_lt t _ (x 0).isLt⟩ ⟨256 + (x 1).val, col_lt 256 _ (by decide) (x 1).isLt⟩))
    (e3 : ∀ x : S512x128.Idx, w3 x = Y (ix2 ⟨512 * t.val + (x 0).val, row_lt t _ (x 0).isLt⟩ ⟨384 + (x 1).val, col_lt 384 _ (by decide) (x 1).isLt⟩))
    (i : S512x512.Idx) :
    View.canon (Val := Elt Ideal) (e := .bf16) [⟨Rect.unit (s := S512x512) ![0, 384] ![512, 128] inb_S512x512_S512x128_0_384, w3⟩, ⟨Rect.unit (s := S512x512) ![0, 256] ![512, 128] inb_S512x512_S512x128_0_256, w2⟩, ⟨Rect.unit (s := S512x512) ![0, 128] ![512, 128] inb_S512x512_S512x128_0_128, w1⟩, ⟨Rect.unit (s := S512x512) ![0, 0] ![512, 128] inb_S512x512_S512x128_0_0, w0⟩] i
      = Y (ix2 ⟨512 * t.val + (i 0).val, row_lt t _ (i 0).isLt⟩ (i 1)) := by
  canon_tiles x h
  · refine (e3 x).trans ?_
    blk_point []
  · refine (e2 x).trans ?_
    blk_point []
  · refine (e1 x).trans ?_
    blk_point []
  · refine (e0 x).trans ?_
    blk_point []

set_option maxHeartbeats 1600000 in
/-- The point's product and residual, from any scratch contents that are the point's rows of gated columns `Y`. -/
theorem prod (c : Dev nD) (t : Fin cfg0.N) (Y : FVec Ideal S65536x512 .f32) (s : Vec Ideal S512x512 .bf16)
    (hs : ∀ i : S512x512.Idx, s i = Y (ix2 ⟨512 * t.val + (i 0).val, row_lt t _ (i 0).isLt⟩ (i 1))) (y : S512x1024.Idx) :
    View.canon (Val := Elt Ideal) (e := .f32) [⟨Rect.unit (s := S512x1024) ![0, 0] ![512, 1024] inb_S512x1024_S512x1024_0_0,
        k0_pay1 (iblk m c 1 t) (k0_pay230 (iblk m c 9 t)) (constant S512x1024 .f32 0x00000000#32) s (iblk m c 10 t) (iblk m c 0 t)⟩] y
      = (Cert.RefOutEvenIdeal.H (m ((c : Thread nD τ).loc main_arg0)) (m ((c : Thread nD τ).loc main_arg1)) (m ((c : Thread nD τ).loc main_arg2)) Y) (((cfg0.win 11).blk t).view.emb y) := by
  obtain rfl := funext hs
  rw [View.canon_unit_zero (by decide)]
  pointwise [k0_pay1, k0_pay230, Cert.RefOutEvenIdeal.H]
  blk_point [iblk, V_main_arg0, V_main_arg1, V5, V6, idx_val t]

/-- The first column group's stored term is the merge of its blocks. -/
theorem cut0 (a : Vec Ideal S512x128 .f32) (b g : Vec Ideal S512x128 .bf16) (l1 l2 o1 o2 : Vec Ideal S1x1x512x128 .f32) :
    k0_pay57 (k0_pay27 a (shapeCast S512x128 l1 shapeCasts_S1x1x512x128_S512x128) l2) (k0_pay28 (shapeCast S512x128 l1 shapeCasts_S1x1x512x128_S512x128) (k0_pay26 a (shapeCast S512x128 l1 shapeCasts_S1x1x512x128_S512x128) l2)) (k0_pay29 (k0_pay25 l2) (k0_pay26 a (shapeCast S512x128 l1 shapeCasts_S1x1x512x128_S512x128) l2)) (k0_pay36 (k0_pay28 (shapeCast S512x128 l1 shapeCasts_S1x1x512x128_S512x128) (k0_pay26 a (shapeCast S512x128 l1 shapeCasts_S1x1x512x128_S512x128) l2)) (k0_pay30 (k0_pay27 a (shapeCast S512x128 l1 shapeCasts_S1x1x512x128_S512x128) l2) b) o1) o2 g = COL a b g l1 l2 o1 o2 := rfl

/-- The second column group's stored term is the merge of its blocks. -/
theorem cut1 (a : Vec Ideal S512x128 .f32) (b g : Vec Ideal S512x128 .bf16) (l1 l2 o1 o2 : Vec Ideal S1x1x512x128 .f32) :
    k0_pay113 (k0_pay84 a (shapeCast S512x128 l1 shapeCasts_S1x1x512x128_S512x128) l2) (k0_pay85 a (shapeCast S512x128 l1 shapeCasts_S1x1x512x128_S512x128) l2) (k0_pay86 a (shapeCast S512x128 l1 shapeCasts_S1x1x512x128_S512x128) l2) (k0_pay92 (k0_pay85 a (shapeCast S512x128 l1 shapeCasts_S1x1x512x128_S512x128) l2) (k0_pay87 a (shapeCast S512x128 l1 shapeCasts_S1x1x512x128_S512x128) l2 b) o1) o2 g = COL a b g l1 l2 o1 o2 := rfl

/-- The third column group's stored term is the merge of its blocks. -/
theorem cut2 (a : Vec Ideal S512x128 .f32) (b g : Vec Ideal S512x128 .bf16) (l1 l2 o1 o2 : Vec Ideal S1x1x512x128 .f32) :
    k0_pay171 (k0_pay142 a (shapeCast S512x128 l1 shapeCasts_S1x1x512x128_S512x128) l2) (k0_pay169 (k0_pay142 a (shapeCast S512x128 l1 shapeCasts_S1x1x512x128_S512x128) l2) (k0_pay148 (k0_pay141 a (shapeCast S512x128 l1 shapeCasts_S1x1x512x128_S512x128) l2) (k0_pay143 a (shapeCast S512x128 l1 shapeCasts_S1x1x512x128_S512x128) l2 b) o1) o2) (k0_pay170 (k0_pay140 a (shapeCast S512x128 l1 shapeCasts_S1x1x512x128_S512x128) l2) (k0_pay141 a (shapeCast S512x128 l1 shapeCasts_S1x1x512x128_S512x128) l2)) g = COL a b g l1 l2 o1 o2 := rfl

/-- The fourth column group's stored term is the merge of its blocks. -/
theorem cut3 (a : Vec Ideal S512x128 .f32) (b g : Vec Ideal S512x128 .bf16) (l1 l2 o1 o2 : Vec Ideal S1x1x512x128 .f32) :
    k0_pay229 (k0_pay226 (k0_pay197 a (shapeCast S512x128 l1 shapeCasts_S1x1x512x128_S512x128) l2) (k0_pay198 a (shapeCast S512x128 l1 shapeCasts_S1x1x512x128_S512x128) l2) (k0_pay199 a (shapeCast S512x128 l1 shapeCasts_S1x1x512x128_S512x128) l2) (k0_pay205 (k0_pay198 a (shapeCast S512x128 l1 shapeCasts_S1x1x512x128_S512x128) l2) (k0_pay200 a (shapeCast S512x128 l1 shapeCasts_S1x1x512x128_S512x128) l2 b) o1) o2) (k0_pay227 g) (k0_pay228 g) = COL a b g l1 l2 o1 o2 := rfl

set_option maxHeartbeats 800000 in
/-- What grid point `t` leaves at a place of its block is the reference's value at the array index it stands for. -/
theorem point (c : Dev nD) (t : Fin cfg0.N) (y : S512x1024.Idx) :
    outsAt0 m c t y = Cert.RefOutEvenIdeal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb y) := by
  unfold outsAt0
  frame_open
  simp (disch := decide) only [View.read_writes_junk_eq_canon, View.readAt_eq_ld, Memref.IsWhole.read_unread, View.ld_unit_lit']
  refine prod m c t _ _ (fun j => ?_) y
  rw [View.readCov_eq_canon']
  refine (scratch t (Cert.RefOutEvenIdeal.Y2 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) _ _ _ _ (fun x => ?_) (fun x => ?_) (fun x => ?_) (fun x => ?_) _).trans (congrArg (Cert.RefOutEvenIdeal.Y2 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  · refine (congrFun (cut0 _ _ _ _ _ _ _) x).trans (col m c t 0 (by decide) _ _ _ _ _ _ _ ?_ ?_ ?_ ?_ x)
    · exact fun j => nat4 _ (ROWS (Cert.RefOutEvenIdeal.TOK4 (m ((c : Thread nD τ).loc main_arg6))) t 0 (by decide)) 0 0 _ _ (fun x hx => piece5 m c t 0 0 _ _ _ x hx _) (fun x hx => piece5 m c t 1 0 _ _ _ x hx _) (fun x hx => piece5 m c t 2 0 _ _ _ x hx _) (fun x hx => piece5 m c t 3 0 _ _ _ x hx _) j
    · exact fun j => nat16 _ (ROWS (Cert.RefOutEvenIdeal.TOK16 (m ((c : Thread nD τ).loc main_arg8))) t 0 (by decide)) 1 0 _ _ (fun x hx => piece7 m c t 0 0 _ _ _ x hx _) (fun x hx => piece7 m c t 1 0 _ _ _ x hx _) (fun x hx => piece7 m c t 2 0 _ _ _ x hx _) (fun x hx => piece7 m c t 3 0 _ _ _ x hx _) (fun x hx => piece7 m c t 4 0 _ _ _ x hx _) (fun x hx => piece7 m c t 5 0 _ _ _ x hx _) (fun x hx => piece7 m c t 6 0 _ _ _ x hx _) (fun x hx => piece7 m c t 7 0 _ _ _ x hx _) (fun x hx => piece7 m c t 8 0 _ _ _ x hx _) (fun x hx => piece7 m c t 9 0 _ _ _ x hx _) (fun x hx => piece7 m c t 10 0 _ _ _ x hx _) (fun x hx => piece7 m c t 11 0 _ _ _ x hx _) (fun x hx => piece7 m c t 12 0 _ _ _ x hx _) (fun x hx => piece7 m c t 13 0 _ _ _ x hx _) (fun x hx => piece7 m c t 14 0 _ _ _ x hx _) (fun x hx => piece7 m c t 15 0 _ _ _ x hx _) j
    · exact fun j => nat4 _ (ROWS (Cert.RefOutEvenIdeal.TOK4 (extf .f32 (m ((c : Thread nD τ).loc main_arg5)) bitsLt_bf16_f32)) t 0 (by decide)) 2 0 _ _ (fun x hx => piece4 m c t 0 0 _ _ _ x hx _) (fun x hx => piece4 m c t 1 0 _ _ _ x hx _) (fun x hx => piece4 m c t 2 0 _ _ _ x hx _) (fun x hx => piece4 m c t 3 0 _ _ _ x hx _) j
    · exact fun j => nat16 _ (ROWS (Cert.RefOutEvenIdeal.TOK16 (extf .f32 (m ((c : Thread nD τ).loc main_arg7)) bitsLt_bf16_f32)) t 0 (by decide)) 3 0 _ _ (fun x hx => piece6 m c t 0 0 _ _ _ x hx _) (fun x hx => piece6 m c t 1 0 _ _ _ x hx _) (fun x hx => piece6 m c t 2 0 _ _ _ x hx _) (fun x hx => piece6 m c t 3 0 _ _ _ x hx _) (fun x hx => piece6 m c t 4 0 _ _ _ x hx _) (fun x hx => piece6 m c t 5 0 _ _ _ x hx _) (fun x hx => piece6 m c t 6 0 _ _ _ x hx _) (fun x hx => piece6 m c t 7 0 _ _ _ x hx _) (fun x hx => piece6 m c t 8 0 _ _ _ x hx _) (fun x hx => piece6 m c t 9 0 _ _ _ x hx _) (fun x hx => piece6 m c t 10 0 _ _ _ x hx _) (fun x hx => piece6 m c t 11 0 _ _ _ x hx _) (fun x hx => piece6 m c t 12 0 _ _ _ x hx _) (fun x hx => piece6 m c t 13 0 _ _ _ x hx _) (fun x hx => piece6 m c t 14 0 _ _ _ x hx _) (fun x hx => piece6 m c t 15 0 _ _ _ x hx _) j
  · refine (congrFun (cut1 _ _ _ _ _ _ _) x).trans (col m c t 128 (by decide) _ _ _ _ _ _ _ ?_ ?_ ?_ ?_ x)
    · exact fun j => nat4 _ (ROWS (Cert.RefOutEvenIdeal.TOK4 (m ((c : Thread nD τ).loc main_arg6))) t 128 (by decide)) 0 1 _ _ (fun x hx => piece5 m c t 0 128 _ _ _ x hx _) (fun x hx => piece5 m c t 1 128 _ _ _ x hx _) (fun x hx => piece5 m c t 2 128 _ _ _ x hx _) (fun x hx => piece5 m c t 3 128 _ _ _ x hx _) j
    · exact fun j => nat16 _ (ROWS (Cert.RefOutEvenIdeal.TOK16 (m ((c : Thread nD τ).loc main_arg8))) t 128 (by decide)) 1 1 _ _ (fun x hx => piece7 m c t 0 128 _ _ _ x hx _) (fun x hx => piece7 m c t 1 128 _ _ _ x hx _) (fun x hx => piece7 m c t 2 128 _ _ _ x hx _) (fun x hx => piece7 m c t 3 128 _ _ _ x hx _) (fun x hx => piece7 m c t 4 128 _ _ _ x hx _) (fun x hx => piece7 m c t 5 128 _ _ _ x hx _) (fun x hx => piece7 m c t 6 128 _ _ _ x hx _) (fun x hx => piece7 m c t 7 128 _ _ _ x hx _) (fun x hx => piece7 m c t 8 128 _ _ _ x hx _) (fun x hx => piece7 m c t 9 128 _ _ _ x hx _) (fun x hx => piece7 m c t 10 128 _ _ _ x hx _) (fun x hx => piece7 m c t 11 128 _ _ _ x hx _) (fun x hx => piece7 m c t 12 128 _ _ _ x hx _) (fun x hx => piece7 m c t 13 128 _ _ _ x hx _) (fun x hx => piece7 m c t 14 128 _ _ _ x hx _) (fun x hx => piece7 m c t 15 128 _ _ _ x hx _) j
    · exact fun j => nat4 _ (ROWS (Cert.RefOutEvenIdeal.TOK4 (extf .f32 (m ((c : Thread nD τ).loc main_arg5)) bitsLt_bf16_f32)) t 128 (by decide)) 2 1 _ _ (fun x hx => piece4 m c t 0 128 _ _ _ x hx _) (fun x hx => piece4 m c t 1 128 _ _ _ x hx _) (fun x hx => piece4 m c t 2 128 _ _ _ x hx _) (fun x hx => piece4 m c t 3 128 _ _ _ x hx _) j
    · exact fun j => nat16 _ (ROWS (Cert.RefOutEvenIdeal.TOK16 (extf .f32 (m ((c : Thread nD τ).loc main_arg7)) bitsLt_bf16_f32)) t 128 (by decide)) 3 1 _ _ (fun x hx => piece6 m c t 0 128 _ _ _ x hx _) (fun x hx => piece6 m c t 1 128 _ _ _ x hx _) (fun x hx => piece6 m c t 2 128 _ _ _ x hx _) (fun x hx => piece6 m c t 3 128 _ _ _ x hx _) (fun x hx => piece6 m c t 4 128 _ _ _ x hx _) (fun x hx => piece6 m c t 5 128 _ _ _ x hx _) (fun x hx => piece6 m c t 6 128 _ _ _ x hx _) (fun x hx => piece6 m c t 7 128 _ _ _ x hx _) (fun x hx => piece6 m c t 8 128 _ _ _ x hx _) (fun x hx => piece6 m c t 9 128 _ _ _ x hx _) (fun x hx => piece6 m c t 10 128 _ _ _ x hx _) (fun x hx => piece6 m c t 11 128 _ _ _ x hx _) (fun x hx => piece6 m c t 12 128 _ _ _ x hx _) (fun x hx => piece6 m c t 13 128 _ _ _ x hx _) (fun x hx => piece6 m c t 14 128 _ _ _ x hx _) (fun x hx => piece6 m c t 15 128 _ _ _ x hx _) j
  · refine (congrFun (cut2 _ _ _ _ _ _ _) x).trans (col m c t 256 (by decide) _ _ _ _ _ _ _ ?_ ?_ ?_ ?_ x)
    · exact fun j => nat4 _ (ROWS (Cert.RefOutEvenIdeal.TOK4 (m ((c : Thread nD τ).loc main_arg6))) t 256 (by decide)) 0 2 _ _ (fun x hx => piece5 m c t 0 256 _ _ _ x hx _) (fun x hx => piece5 m c t 1 256 _ _ _ x hx _) (fun x hx => piece5 m c t 2 256 _ _ _ x hx _) (fun x hx => piece5 m c t 3 256 _ _ _ x hx _) j
    · exact fun j => nat16 _ (ROWS (Cert.RefOutEvenIdeal.TOK16 (m ((c : Thread nD τ).loc main_arg8))) t 256 (by decide)) 1 2 _ _ (fun x hx => piece7 m c t 0 256 _ _ _ x hx _) (fun x hx => piece7 m c t 1 256 _ _ _ x hx _) (fun x hx => piece7 m c t 2 256 _ _ _ x hx _) (fun x hx => piece7 m c t 3 256 _ _ _ x hx _) (fun x hx => piece7 m c t 4 256 _ _ _ x hx _) (fun x hx => piece7 m c t 5 256 _ _ _ x hx _) (fun x hx => piece7 m c t 6 256 _ _ _ x hx _) (fun x hx => piece7 m c t 7 256 _ _ _ x hx _) (fun x hx => piece7 m c t 8 256 _ _ _ x hx _) (fun x hx => piece7 m c t 9 256 _ _ _ x hx _) (fun x hx => piece7 m c t 10 256 _ _ _ x hx _) (fun x hx => piece7 m c t 11 256 _ _ _ x hx _) (fun x hx => piece7 m c t 12 256 _ _ _ x hx _) (fun x hx => piece7 m c t 13 256 _ _ _ x hx _) (fun x hx => piece7 m c t 14 256 _ _ _ x hx _) (fun x hx => piece7 m c t 15 256 _ _ _ x hx _) j
    · exact fun j => nat4 _ (ROWS (Cert.RefOutEvenIdeal.TOK4 (extf .f32 (m ((c : Thread nD τ).loc main_arg5)) bitsLt_bf16_f32)) t 256 (by decide)) 2 2 _ _ (fun x hx => piece4 m c t 0 256 _ _ _ x hx _) (fun x hx => piece4 m c t 1 256 _ _ _ x hx _) (fun x hx => piece4 m c t 2 256 _ _ _ x hx _) (fun x hx => piece4 m c t 3 256 _ _ _ x hx _) j
    · exact fun j => nat16 _ (ROWS (Cert.RefOutEvenIdeal.TOK16 (extf .f32 (m ((c : Thread nD τ).loc main_arg7)) bitsLt_bf16_f32)) t 256 (by decide)) 3 2 _ _ (fun x hx => piece6 m c t 0 256 _ _ _ x hx _) (fun x hx => piece6 m c t 1 256 _ _ _ x hx _) (fun x hx => piece6 m c t 2 256 _ _ _ x hx _) (fun x hx => piece6 m c t 3 256 _ _ _ x hx _) (fun x hx => piece6 m c t 4 256 _ _ _ x hx _) (fun x hx => piece6 m c t 5 256 _ _ _ x hx _) (fun x hx => piece6 m c t 6 256 _ _ _ x hx _) (fun x hx => piece6 m c t 7 256 _ _ _ x hx _) (fun x hx => piece6 m c t 8 256 _ _ _ x hx _) (fun x hx => piece6 m c t 9 256 _ _ _ x hx _) (fun x hx => piece6 m c t 10 256 _ _ _ x hx _) (fun x hx => piece6 m c t 11 256 _ _ _ x hx _) (fun x hx => piece6 m c t 12 256 _ _ _ x hx _) (fun x hx => piece6 m c t 13 256 _ _ _ x hx _) (fun x hx => piece6 m c t 14 256 _ _ _ x hx _) (fun x hx => piece6 m c t 15 256 _ _ _ x hx _) j
  · refine (congrFun (cut3 _ _ _ _ _ _ _) x).trans (col m c t 384 (by decide) _ _ _ _ _ _ _ ?_ ?_ ?_ ?_ x)
    · exact fun j => nat4 _ (ROWS (Cert.RefOutEvenIdeal.TOK4 (m ((c : Thread nD τ).loc main_arg6))) t 384 (by decide)) 0 3 _ _ (fun x hx => piece5 m c t 0 384 _ _ _ x hx _) (fun x hx => piece5 m c t 1 384 _ _ _ x hx _) (fun x hx => piece5 m c t 2 384 _ _ _ x hx _) (fun x hx => piece5 m c t 3 384 _ _ _ x hx _) j
    · exact fun j => nat16 _ (ROWS (Cert.RefOutEvenIdeal.TOK16 (m ((c : Thread nD τ).loc main_arg8))) t 384 (by decide)) 1 3 _ _ (fun x hx => piece7 m c t 0 384 _ _ _ x hx _) (fun x hx => piece7 m c t 1 384 _ _ _ x hx _) (fun x hx => piece7 m c t 2 384 _ _ _ x hx _) (fun x hx => piece7 m c t 3 384 _ _ _ x hx _) (fun x hx => piece7 m c t 4 384 _ _ _ x hx _) (fun x hx => piece7 m c t 5 384 _ _ _ x hx _) (fun x hx => piece7 m c t 6 384 _ _ _ x hx _) (fun x hx => piece7 m c t 7 384 _ _ _ x hx _) (fun x hx => piece7 m c t 8 384 _ _ _ x hx _) (fun x hx => piece7 m c t 9 384 _ _ _ x hx _) (fun x hx => piece7 m c t 10 384 _ _ _ x hx _) (fun x hx => piece7 m c t 11 384 _ _ _ x hx _) (fun x hx => piece7 m c t 12 384 _ _ _ x hx _) (fun x hx => piece7 m c t 13 384 _ _ _ x hx _) (fun x hx => piece7 m c t 14 384 _ _ _ x hx _) (fun x hx => piece7 m c t 15 384 _ _ _ x hx _) j
    · exact fun j => nat4 _ (ROWS (Cert.RefOutEvenIdeal.TOK4 (extf .f32 (m ((c : Thread nD τ).loc main_arg5)) bitsLt_bf16_f32)) t 384 (by decide)) 2 3 _ _ (fun x hx => piece4 m c t 0 384 _ _ _ x hx _) (fun x hx => piece4 m c t 1 384 _ _ _ x hx _) (fun x hx => piece4 m c t 2 384 _ _ _ x hx _) (fun x hx => piece4 m c t 3 384 _ _ _ x hx _) j
    · exact fun j => nat16 _ (ROWS (Cert.RefOutEvenIdeal.TOK16 (extf .f32 (m ((c : Thread nD τ).loc main_arg7)) bitsLt_bf16_f32)) t 384 (by decide)) 3 3 _ _ (fun x hx => piece6 m c t 0 384 _ _ _ x hx _) (fun x hx => piece6 m c t 1 384 _ _ _ x hx _) (fun x hx => piece6 m c t 2 384 _ _ _ x hx _) (fun x hx => piece6 m c t 3 384 _ _ _ x hx _) (fun x hx => piece6 m c t 4 384 _ _ _ x hx _) (fun x hx => piece6 m c t 5 384 _ _ _ x hx _) (fun x hx => piece6 m c t 6 384 _ _ _ x hx _) (fun x hx => piece6 m c t 7 384 _ _ _ x hx _) (fun x hx => piece6 m c t 8 384 _ _ _ x hx _) (fun x hx => piece6 m c t 9 384 _ _ _ x hx _) (fun x hx => piece6 m c t 10 384 _ _ _ x hx _) (fun x hx => piece6 m c t 11 384 _ _ _ x hx _) (fun x hx => piece6 m c t 12 384 _ _ _ x hx _) (fun x hx => piece6 m c t 13 384 _ _ _ x hx _) (fun x hx => piece6 m c t 14 384 _ _ _ x hx _) (fun x hx => piece6 m c t 15 384 _ _ _ x hx _) j
  · congr 1 <;> exact Fin.ext (by simp)

/-- The whole result array after the kernel's run is the reference's value of the argument arrays. -/
theorem final (c : Dev nD) : (dats m 0 c).arrAt 11 (cfgs 0).N = Cert.RefOutEvenIdeal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  exact point m c t y

/-- Over the extended reals the kernel's result equals the reference's, for every content of the arguments. -/
theorem claim : Cert.algebraic_OutEvenIdeal_RefOutEvenIdeal := by
  intro m g m' g' _ hargs
  refine ⟨fun c => Cert.RefOutEvenIdeal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)),
    (θ_run defs _ _).mono (fun r h c => ?_) (Cert.OutEvenIdeal.Value.run_blocks m g),
    (θ_run (Cert.RefOutEvenIdeal.defs (F := Ideal)) _ _).mono (fun r h c => ?_) (Cert.RefOutEvenIdeal.Value.run m' g')⟩
  · obtain ⟨hv, h0, h1, h2, h3, h4, h5, h6, h7, h8, h9⟩ := h c
    exact ⟨hv.trans (final m c), h0, h1, h2, h3, h4, h5, h6, h7, h8, h9⟩
  · obtain ⟨hv, h0, h1, h2, h3, h4, h5, h6, h7, h8, h9⟩ := h c
    refine ⟨hv.trans ?_, h0, h1, h2, h3, h4, h5, h6, h7, h8, h9⟩
    obtain ⟨g0, g1, g2, g3, g4, g5, g6, g7, g8, g9⟩ := hargs c
    rw [Cert.RefOutEvenIdeal.res_eq, g0, g1, g2, g3, g4, g5, g6, g7, g8, g9]

end Cert.OutEvenValue

end
-- ==== Proof.lean ====
module

public import proofs.«01_k».proof.Proof.Dil16
public import proofs.«01_k».proof.Proof.ProjOdd
public import proofs.«01_k».proof.Proof.ProjEven
public import proofs.«01_k».proof.Proof.OutOdd
public import proofs.«01_k».proof.Proof.OutEven
public import proofs.«01_k».proof.Defs
public import proofs.«01_k».proof.Proof.Gen.Dil16
public import proofs.«01_k».proof.Proof.Gen.Dil16.Skeleton
public import proofs.«01_k».proof.Proof.Gen.Dil16.Launch
public import proofs.«01_k».proof.Proof.Gen.Dil16.Points
public import proofs.«01_k».proof.Proof.Gen.Dil16.Frame
public import proofs.«01_k».proof.Proof.Gen.Dil16Ideal
public import proofs.«01_k».proof.Proof.Gen.Dil16Ideal.Skeleton
public import proofs.«01_k».proof.Proof.Gen.Dil16Ideal.Launch
public import proofs.«01_k».proof.Proof.Gen.Dil16Ideal.Points
public import proofs.«01_k».proof.Proof.Gen.Dil16Ideal.Frame
public import proofs.«01_k».proof.Proof.Gen.Dil16Ideal.Value
public import proofs.«01_k».proof.Proof.Gen.RefDil16Ideal
public import proofs.«01_k».proof.Proof.Gen.RefDil16Ideal.Run
public import proofs.«01_k».proof.Proof.Gen.ProjOdd
public import proofs.«01_k».proof.Proof.Gen.ProjOdd.Skeleton
public import proofs.«01_k».proof.Proof.Gen.ProjOdd.Launch
public import proofs.«01_k».proof.Proof.Gen.ProjOdd.Points
public import proofs.«01_k».proof.Proof.Gen.ProjOdd.Frame
public import proofs.«01_k».proof.Proof.Gen.ProjOddIdeal
public import proofs.«01_k».proof.Proof.Gen.ProjOddIdeal.Skeleton
public import proofs.«01_k».proof.Proof.Gen.ProjOddIdeal.Launch
public import proofs.«01_k».proof.Proof.Gen.ProjOddIdeal.Points
public import proofs.«01_k».proof.Proof.Gen.ProjOddIdeal.Frame
public import proofs.«01_k».proof.Proof.Gen.ProjOddIdeal.Value
public import proofs.«01_k».proof.Proof.Gen.RefProjOddIdeal
public import proofs.«01_k».proof.Proof.Gen.RefProjOddIdeal.Run
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddIdeal.Value
public import proofs.«01_k».proof.Proof.Gen.RefOutOddIdeal
public import proofs.«01_k».proof.Proof.Gen.RefOutOddIdeal.Run
public import proofs.«01_k».proof.Proof.Gen.ProjEven
public import proofs.«01_k».proof.Proof.Gen.ProjEven.Skeleton
public import proofs.«01_k».proof.Proof.Gen.ProjEven.Launch
public import proofs.«01_k».proof.Proof.Gen.ProjEven.Points
public import proofs.«01_k».proof.Proof.Gen.ProjEven.Frame
public import proofs.«01_k».proof.Proof.Gen.ProjEvenIdeal
public import proofs.«01_k».proof.Proof.Gen.ProjEvenIdeal.Skeleton
public import proofs.«01_k».proof.Proof.Gen.ProjEvenIdeal.Launch
public import proofs.«01_k».proof.Proof.Gen.ProjEvenIdeal.Points
public import proofs.«01_k».proof.Proof.Gen.ProjEvenIdeal.Frame
public import proofs.«01_k».proof.Proof.Gen.ProjEvenIdeal.Value
public import proofs.«01_k».proof.Proof.Gen.RefProjEvenIdeal
public import proofs.«01_k».proof.Proof.Gen.RefProjEvenIdeal.Run
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenIdeal.Value
public import proofs.«01_k».proof.Proof.Gen.RefOutEvenIdeal
public import proofs.«01_k».proof.Proof.Gen.RefOutEvenIdeal.Run
public import Idealize.ShloMosaic.Adequacy
public import Idealize.ShloMosaic.Init

@[expose] public section

noncomputable section

namespace Cert.Proof

open Idealize.ShloMosaic Idealize.SL.Sem Cert.Dil16

/-- For the dilated attention and the projections: the frames, the constants they name, and the equations with the references. -/
theorem claim : Cert.Claim :=
  ⟨Cert.Dil16.Gen.facts, Cert.Dil16Ideal.Gen.facts, Cert.RefDil16Ideal.Gen.facts, Cert.ProjOdd.Gen.facts, Cert.ProjOddIdeal.Gen.facts, Cert.RefProjOddIdeal.Gen.facts, Cert.OutOdd.Gen.facts, Cert.OutOddIdeal.Gen.facts, Cert.RefOutOddIdeal.Gen.facts, Cert.ProjEven.Gen.facts, Cert.ProjEvenIdeal.Gen.facts, Cert.RefProjEvenIdeal.Gen.facts, Cert.OutEven.Gen.facts, Cert.OutEvenIdeal.Gen.facts, Cert.RefOutEvenIdeal.Gen.facts, Cert.Dil16Value.preFacts,
    fun m ρ _ => Cert.Dil16.Gen.frame m ρ,
    fun m ρ _ => Cert.Dil16Ideal.Gen.frame m ρ,
    fun m ρ _ => Cert.Dil16Ideal.Gen.frame m ρ,
    fun m ρ _ => (θ_run Cert.RefDil16Ideal.defs _ _).mono (fun r h => ⟨fun c => (h c).2.2, sem_eq_zero_of_no_sems (by decide) r.2⟩) (Cert.RefDil16Ideal.Value.run (F := Ideal) m ρ),
    fun m ρ _ => (θ_run Cert.RefDil16Ideal.defs _ _).mono (fun r h => ⟨fun c => (h c).2.2, sem_eq_zero_of_no_sems (by decide) r.2⟩) (Cert.RefDil16Ideal.Value.run (F := Ideal) m ρ),
    fun m ρ _ => Cert.ProjOdd.Gen.frame m ρ,
    fun m ρ _ => Cert.ProjOddIdeal.Gen.frame m ρ,
    fun m ρ _ => (θ_run Cert.RefProjOddIdeal.defs _ _).mono (fun r h => ⟨fun c => (h c).2, sem_eq_zero_of_no_sems (by decide) r.2⟩) (Cert.RefProjOddIdeal.Value.run (F := Ideal) m ρ),
    fun m ρ _ => Cert.OutOdd.Gen.frame m ρ,
    fun m ρ _ => Cert.OutOddIdeal.Gen.frame m ρ,
    fun m ρ _ => (θ_run Cert.RefOutOddIdeal.defs _ _).mono (fun r h => ⟨fun c => (h c).2, sem_eq_zero_of_no_sems (by decide) r.2⟩) (Cert.RefOutOddIdeal.Value.run (F := Ideal) m ρ),
    fun m ρ _ => Cert.ProjEven.Gen.frame m ρ,
    fun m ρ _ => Cert.ProjEvenIdeal.Gen.frame m ρ,
    fun m ρ _ => (θ_run Cert.RefProjEvenIdeal.defs _ _).mono (fun r h => ⟨fun c => (h c).2.2.2.2, sem_eq_zero_of_no_sems (by decide) r.2⟩) (Cert.RefProjEvenIdeal.Value.run (F := Ideal) m ρ),
    fun m ρ _ => Cert.OutEven.Gen.frame m ρ,
    fun m ρ _ => Cert.OutEvenIdeal.Gen.frame m ρ,
    fun m ρ _ => (θ_run Cert.RefOutEvenIdeal.defs _ _).mono (fun r h => ⟨fun c => (h c).2, sem_eq_zero_of_no_sems (by decide) r.2⟩) (Cert.RefOutEvenIdeal.Value.run (F := Ideal) m ρ),
    ⟨IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl⟩,
    @Cert.Dil16Value.claim Cert.Dil16Value.preFacts, trivial, Cert.ProjOddValue.claim, trivial, Cert.OutOddValue.claim, trivial, Cert.ProjEvenValue.claim, trivial, Cert.OutEvenValue.claim⟩

end Cert.Proof

end
